-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero [hPre_nonzero : Cert.Pre_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero [hPre_nonzero : Cert.Pre_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_nonzero [hKernelIdeal : Cert.KernelIdeal.Facts] [hPre_nonzero : Cert.Pre_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_nonzero [hReferenceIdeal : Cert.ReferenceIdeal.Facts] [hPre_nonzero : Cert.Pre_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_nonzero [hKernelIdeal : Cert.KernelIdeal.Facts] [hReferenceIdeal : Cert.ReferenceIdeal.Facts] [hPre_nonzero : Cert.Pre_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_nonzero : Cert.Pre_nonzero.Facts),
    quiescent_Kernel (hKernel := hKernel)
    ∧ quiescent_KernelIdeal (hKernelIdeal := hKernelIdeal)
    ∧ quiescent_KernelIdeal_pre_nonzero (hKernelIdeal := hKernelIdeal) (hPre_nonzero := hPre_nonzero)
    ∧ quiescent_ReferenceIdeal (hReferenceIdeal := hReferenceIdeal)
    ∧ quiescent_ReferenceIdeal_pre_nonzero (hReferenceIdeal := hReferenceIdeal) (hPre_nonzero := hPre_nonzero)
    ∧ preserves_Kernel_KernelIdeal
    ∧ algebraic_KernelIdeal_ReferenceIdeal_pre_nonzero (hKernelIdeal := hKernelIdeal) (hReferenceIdeal := hReferenceIdeal) (hPre_nonzero := hPre_nonzero)
-- ==== Pre_nonzero.lean ====
abbrev S2x384x4096 : Shape := ⟨3, ![2, 384, 4096]⟩
abbrev S4096 : Shape := ⟨1, ![4096]⟩
abbrev S1 : Shape := ⟨1, ![1]⟩
abbrev S4096x11008 : Shape := ⟨2, ![4096, 11008]⟩
abbrev S32x11008 : Shape := ⟨2, ![32, 11008]⟩
abbrev S11008 : Shape := ⟨1, ![11008]⟩
abbrev S_ : Shape := ⟨0, ![]⟩

class Facts : Prop where
  bcast_S_S4096 : S_.BroadcastsInDim S4096 (![] : Fin 0 → Fin S4096.rank)
  bcast_S_S1 : S_.BroadcastsInDim S1 (![] : Fin 0 → Fin S1.rank)

variable [Facts]

def fn {F : FTy → Type} [FloatOps F] (main_arg0 : FVec F S2x384x4096 .bf16) (main_arg1 : FVec F S4096 .f32) (main_arg2 : FVec F S1 .f32) (main_arg3 : IVec S4096x11008 8) (main_arg4 : FVec F S32x11008 .f32) (main_arg5 : FVec F S11008 .f32) : IVec S4096 1 × IVec S1 1 :=
  let main_cst : FVec F S_ .f32 := constant S_ .f32 0x00000000#32
  let main_v0 : FVec F S4096 .f32 := broadcastInDim S4096 ![] bcast_S_S4096 main_cst
  let main_v1 : IVec S4096 1 := cmpf .une main_arg1 main_v0
  let main_cst_0 : FVec F S_ .f32 := constant S_ .f32 0x00000000#32
  let main_v2 : FVec F S1 .f32 := broadcastInDim S1 ![] bcast_S_S1 main_cst_0
  let main_v3 : IVec S1 1 := cmpf .une main_arg2 main_v2
  (main_v1, main_v3)
-- ==== Kernel.lean ====
abbrev S2x384x4096 : Shape := ⟨3, ![2, 384, 4096]⟩
abbrev S4096 : Shape := ⟨1, ![4096]⟩
abbrev S1 : Shape := ⟨1, ![1]⟩
abbrev S4096x11008 : Shape := ⟨2, ![4096, 11008]⟩
abbrev S32x11008 : Shape := ⟨2, ![32, 11008]⟩
abbrev S11008 : Shape := ⟨1, ![11008]⟩
abbrev S768x4096 : Shape := ⟨2, ![768, 4096]⟩
abbrev S1x4096 : Shape := ⟨2, ![1, 4096]⟩
abbrev S1x11008 : Shape := ⟨2, ![1, 11008]⟩
abbrev S768x11008 : Shape := ⟨2, ![768, 11008]⟩
abbrev S3x4096x512 : Shape := ⟨3, ![3, 4096, 512]⟩
abbrev S8x4096 : Shape := ⟨2, ![8, 4096]⟩
abbrev S2x768x512 : Shape := ⟨3, ![2, 768, 512]⟩
abbrev S3x768x256 : Shape := ⟨3, ![3, 768, 256]⟩
abbrev S16 : Shape := ⟨1, ![16]⟩
abbrev S3 : Shape := ⟨1, ![3]⟩
abbrev S4 : Shape := ⟨1, ![4]⟩
abbrev S2 : Shape := ⟨1, ![2]⟩
abbrev S_ : Shape := ⟨0, ![]⟩
abbrev S768x256 : Shape := ⟨2, ![768, 256]⟩
abbrev S1x256x512 : Shape := ⟨3, ![1, 256, 512]⟩
abbrev S256x512 : Shape := ⟨2, ![256, 512]⟩
abbrev S1x4096x512 : Shape := ⟨3, ![1, 4096, 512]⟩
abbrev S4096x512 : Shape := ⟨2, ![4096, 512]⟩
abbrev S16x256 : Shape := ⟨2, ![16, 256]⟩
abbrev S256 : Shape := ⟨1, ![256]⟩
abbrev S1x256 : Shape := ⟨2, ![1, 256]⟩
abbrev S8x256 : Shape := ⟨2, ![8, 256]⟩
abbrev S32x256 : Shape := ⟨2, ![32, 256]⟩
abbrev S128x256 : Shape := ⟨2, ![128, 256]⟩
abbrev S8x16x256 : Shape := ⟨3, ![8, 16, 256]⟩
abbrev S1x16x256 : Shape := ⟨3, ![1, 16, 256]⟩
abbrev S256x256 : Shape := ⟨2, ![256, 256]⟩
abbrev S1x768x256 : Shape := ⟨3, ![1, 768, 256]⟩
abbrev S1x128x256 : Shape := ⟨3, ![1, 128, 256]⟩
abbrev S1x4096x256 : Shape := ⟨3, ![1, 4096, 256]⟩
abbrev S4096x256 : Shape := ⟨2, ![4096, 256]⟩
abbrev S768x512 : Shape := ⟨2, ![768, 512]⟩
abbrev S1x768x512 : Shape := ⟨3, ![1, 768, 512]⟩
abbrev S2x384x11008 : Shape := ⟨3, ![2, 384, 11008]⟩

abbrev nBuf : Space → Nat
  | .hbm => 18
  | .vmem => 12
  | .smem => 1
  | _ => 0

abbrev bufTy : (tb : Table) → Fin (tcTables nBuf tb) → BufTy
  | .hbm, ⟨0, _⟩ => ⟨S2x384x4096, .bf16⟩
  | .hbm, ⟨1, _⟩ => ⟨S4096, .f32⟩
  | .hbm, ⟨2, _⟩ => ⟨S1, .f32⟩
  | .hbm, ⟨3, _⟩ => ⟨S4096x11008, .i8⟩
  | .hbm, ⟨4, _⟩ => ⟨S32x11008, .f32⟩
  | .hbm, ⟨5, _⟩ => ⟨S11008, .f32⟩
  | .hbm, ⟨6, _⟩ => ⟨S768x4096, .bf16⟩
  | .hbm, ⟨7, _⟩ => ⟨S1x4096, .f32⟩
  | .hbm, ⟨8, _⟩ => ⟨S1x11008, .f32⟩
  | .hbm, ⟨9, _⟩ => ⟨S768x11008, .bf16⟩
  | .hbm, ⟨10, _⟩ => ⟨S1x11008, .f32⟩
  | .hbm, ⟨11, _⟩ => ⟨S1x4096, .f32⟩
  | .hbm, ⟨12, _⟩ => ⟨S768x4096, .i8⟩
  | .hbm, ⟨13, _⟩ => ⟨S1, .f32⟩
  | .hbm, ⟨14, _⟩ => ⟨S2x384x11008, .bf16⟩
  | .hbm, ⟨15, _⟩ => ⟨S11008, .f32⟩
  | .hbm, ⟨16, _⟩ => ⟨S4096, .f32⟩
  | .hbm, ⟨17, _⟩ => ⟨S2x384x4096, .i8⟩
  | .local _ .vmem, ⟨0, _⟩ => ⟨S768x4096, .bf16⟩
  | .local _ .vmem, ⟨1, _⟩ => ⟨S768x4096, .bf16⟩
  | .local _ .vmem, ⟨2, _⟩ => ⟨S768x4096, .i8⟩
  | .local _ .vmem, ⟨3, _⟩ => ⟨S3x4096x512, .i8⟩
  | .local _ .vmem, ⟨4, _⟩ => ⟨S32x11008, .f32⟩
  | .local _ .vmem, ⟨5, _⟩ => ⟨S1x4096, .f32⟩
  | .local _ .vmem, ⟨6, _⟩ => ⟨S1x11008, .f32⟩
  | .local _ .vmem, ⟨7, _⟩ => ⟨S1x4096, .f32⟩
  | .local _ .vmem, ⟨8, _⟩ => ⟨S8x4096, .f32⟩
  | .local _ .vmem, ⟨9, _⟩ => ⟨S1x11008, .f32⟩
  | .local _ .vmem, ⟨10, _⟩ => ⟨S2x768x512, .bf16⟩
  | .local _ .vmem, ⟨11, _⟩ => ⟨S3x768x256, .bf16⟩
  | .local _ .smem, ⟨0, _⟩ => ⟨S1, .f32⟩
  | _, _ => ⟨S2x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.smem, 0, rfl⟩

abbrev nD : Nat := 1
abbrev τ : Topo := Topo.v7x

variable {F : FTy → Type} [FloatOps F]

abbrev grid0 : Pipeline.Grid := .none

def k0_mult1 : BitVec 32 :=
  let c512_i32_150 : BitVec 32 := 512#32
  c512_i32_150
def k0_mult2 : BitVec 32 :=
  let c1024_i32_156 : BitVec 32 := 1024#32
  c1024_i32_156
def k0_mult3 : BitVec 32 :=
  let c512_i32_6002_r0 : BitVec 32 := 512#32
  c512_i32_6002_r0
@[reducible] def k0_t1_loop : Scf.Loop 32 :=
  let c0_i32_6064_r0 : BitVec 32 := 0#32
  let c20_i32_r0 : BitVec 32 := 20#32
  let v11570_r0 : BitVec 32 := Scalar.addi c0_i32_6064_r0 c20_i32_r0
  let c1_i32_6065_r0 : BitVec 32 := 1#32
  ⟨c0_i32_6064_r0, v11570_r0, c1_i32_6065_r0⟩
def k0_cond1 (k0_t1 : Fin k0_t1_loop.trips) : BitVec 1 :=
  let c0_i32_6064_r0 : BitVec 32 := 0#32
  let c1_i32_6065_r0 : BitVec 32 := 1#32
  let arg32_r0 : BitVec 32 := Scf.iv c0_i32_6064_r0 c1_i32_6065_r0 k0_t1
  let c1_i32_6699_r0 : BitVec 32 := 1#32
  let v12362_r0 : BitVec 32 := Scalar.addi arg32_r0 c1_i32_6699_r0
  let c20_i32_6700_r0 : BitVec 32 := 20#32
  let v12363_r0 : BitVec 1 := Scalar.cmpi .slt v12362_r0 c20_i32_6700_r0
  let v12364_r0 : BitVec 32 := Scalar.extui v12363_r0
  let c0_i32_6701_r0 : BitVec 32 := 0#32
  let v12365_r0 : BitVec 1 := Scalar.cmpi .ne v12364_r0 c0_i32_6701_r0
  v12365_r0

def k0_mult4 (k0_t1 : Fin k0_t1_loop.trips) : BitVec 32 :=
  let c512_i32_7606_r0 : BitVec 32 := 512#32
  let c0_i32_6064_r0 : BitVec 32 := 0#32
  let c1_i32_6065_r0 : BitVec 32 := 1#32
  let arg32_r0 : BitVec 32 := Scf.iv c0_i32_6064_r0 c1_i32_6065_r0 k0_t1
  let c1_i32_7604_r0 : BitVec 32 := 1#32
  let v13794_r0 : BitVec 32 := Scalar.addi arg32_r0 c1_i32_7604_r0
  let c512_i32_7605_r0 : BitVec 32 := 512#32
  let v13795_r0 : BitVec 32 := Scalar.muli v13794_r0 c512_i32_7605_r0
  let v13796_r0 : BitVec 32 := Scalar.addi c512_i32_7606_r0 v13795_r0
  v13796_r0
def k0_off1 (k0_t1 : Fin k0_t1_loop.trips) : Fin 1 → Nat :=
  let c0_i32_6064_r0 : BitVec 32 := 0#32
  let c1_i32_6065_r0 : BitVec 32 := 1#32
  let arg32_r0 : BitVec 32 := Scf.iv c0_i32_6064_r0 c1_i32_6065_r0 k0_t1
  let c1_i32_6694_r0 : BitVec 32 := 1#32
  let v12357_r0 : BitVec 32 := Scalar.addi arg32_r0 c1_i32_6694_r0
  let c3_i32_6695_r0 : BitVec 32 := 3#32
  let v12358_r0 : BitVec 32 := Scalar.remsi v12357_r0 c3_i32_6695_r0
  ![v12358_r0.toNat]
def k0_off2 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c1_i32_6694_r0 : BitVec 32 := 1#32
  let v12357_r0 : BitVec 32 := Scalar.addi arg32_r0 c1_i32_6694_r0
  let c3_i32_6695_r0 : BitVec 32 := 3#32
  let v12358_r0 : BitVec 32 := Scalar.remsi v12357_r0 c3_i32_6695_r0
  let c0_i32_7607_r0 : BitVec 32 := 0#32
  let c0_i32_7608_r0 : BitVec 32 := 0#32
  ![v12358_r0.toNat, 0, 0]
def k0_off3 (k0_t1 : Fin k0_t1_loop.trips) : Fin 2 → Nat :=
  let c0_i32_7609_r0 : BitVec 32 := 0#32
  let c512_i32_7606_r0 : BitVec 32 := 512#32
  let c0_i32_6064_r0 : BitVec 32 := 0#32
  let c1_i32_6065_r0 : BitVec 32 := 1#32
  let arg32_r0 : BitVec 32 := Scf.iv c0_i32_6064_r0 c1_i32_6065_r0 k0_t1
  let c1_i32_7604_r0 : BitVec 32 := 1#32
  let v13794_r0 : BitVec 32 := Scalar.addi arg32_r0 c1_i32_7604_r0
  let c512_i32_7605_r0 : BitVec 32 := 512#32
  let v13795_r0 : BitVec 32 := Scalar.muli v13794_r0 c512_i32_7605_r0
  let v13796_r0 : BitVec 32 := Scalar.addi c512_i32_7606_r0 v13795_r0
  let v13797_r0 : BitVec 32 := v13796_r0
  ![0, v13797_r0.toNat]
def k0_cond2 (k0_t1 : Fin k0_t1_loop.trips) : BitVec 1 :=
  let c0_i32_6064_r0 : BitVec 32 := 0#32
  let c1_i32_6065_r0 : BitVec 32 := 1#32
  let arg32_r0 : BitVec 32 := Scf.iv c0_i32_6064_r0 c1_i32_6065_r0 k0_t1
  let c2_i32_6702_r0 : BitVec 32 := 2#32
  let v12366_r0 : BitVec 32 := Scalar.addi arg32_r0 c2_i32_6702_r0
  let c20_i32_6703_r0 : BitVec 32 := 20#32
  let v12367_r0 : BitVec 1 := Scalar.cmpi .slt v12366_r0 c20_i32_6703_r0
  let v12368_r0 : BitVec 32 := Scalar.extui v12367_r0
  let c0_i32_6704_r0 : BitVec 32 := 0#32
  let v12369_r0 : BitVec 1 := Scalar.cmpi .ne v12368_r0 c0_i32_6704_r0
  v12369_r0

def k0_mult5 (k0_t1 : Fin k0_t1_loop.trips) : BitVec 32 :=
  let c512_i32_7608_r0 : BitVec 32 := 512#32
  let c0_i32_6064_r0 : BitVec 32 := 0#32
  let c1_i32_6065_r0 : BitVec 32 := 1#32
  let arg32_r0 : BitVec 32 := Scf.iv c0_i32_6064_r0 c1_i32_6065_r0 k0_t1
  let c2_i32_7604_r0 : BitVec 32 := 2#32
  let v13794_r0 : BitVec 32 := Scalar.addi arg32_r0 c2_i32_7604_r0
  let c512_i32_7607_r0 : BitVec 32 := 512#32
  let v13797_r0 : BitVec 32 := Scalar.muli v13794_r0 c512_i32_7607_r0
  let v13798_r0 : BitVec 32 := Scalar.addi c512_i32_7608_r0 v13797_r0
  v13798_r0
def k0_off4 (k0_t1 : Fin k0_t1_loop.trips) : Fin 1 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_7605_r0 : BitVec 32 := 2#32
  let v13795_r0 : BitVec 32 := Scalar.addi arg32_r0 c2_i32_7605_r0
  let c3_i32_7606_r0 : BitVec 32 := 3#32
  let v13796_r0 : BitVec 32 := Scalar.remsi v13795_r0 c3_i32_7606_r0
  ![v13796_r0.toNat]
def k0_off5 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_7605_r0 : BitVec 32 := 2#32
  let v13795_r0 : BitVec 32 := Scalar.addi arg32_r0 c2_i32_7605_r0
  let c3_i32_7606_r0 : BitVec 32 := 3#32
  let v13796_r0 : BitVec 32 := Scalar.remsi v13795_r0 c3_i32_7606_r0
  let c0_i32_7609_r0 : BitVec 32 := 0#32
  let c0_i32_7610_r0 : BitVec 32 := 0#32
  ![v13796_r0.toNat, 0, 0]
def k0_off6 (k0_t1 : Fin k0_t1_loop.trips) : Fin 2 → Nat :=
  let c0_i32_7611_r0 : BitVec 32 := 0#32
  let c512_i32_7608_r0 : BitVec 32 := 512#32
  let c0_i32_6064_r0 : BitVec 32 := 0#32
  let c1_i32_6065_r0 : BitVec 32 := 1#32
  let arg32_r0 : BitVec 32 := Scf.iv c0_i32_6064_r0 c1_i32_6065_r0 k0_t1
  let c2_i32_7604_r0 : BitVec 32 := 2#32
  let v13794_r0 : BitVec 32 := Scalar.addi arg32_r0 c2_i32_7604_r0
  let c512_i32_7607_r0 : BitVec 32 := 512#32
  let v13797_r0 : BitVec 32 := Scalar.muli v13794_r0 c512_i32_7607_r0
  let v13798_r0 : BitVec 32 := Scalar.addi c512_i32_7608_r0 v13797_r0
  let v13799_r0 : BitVec 32 := v13798_r0
  ![0, v13799_r0.toNat]
def k0_cond5 (k0_t1 : Fin k0_t1_loop.trips) : BitVec 1 :=
  let c0_i32_6064_r0 : BitVec 32 := 0#32
  let c1_i32_6065_r0 : BitVec 32 := 1#32
  let arg32_r0 : BitVec 32 := Scf.iv c0_i32_6064_r0 c1_i32_6065_r0 k0_t1
  let c0_i32_6707_r0 : BitVec 32 := 0#32
  let v12376_r0 : BitVec 1 := Scalar.cmpi .sgt arg32_r0 c0_i32_6707_r0
  let v12377_r0 : BitVec 32 := Scalar.extui v12376_r0
  let c0_i32_6708_r0 : BitVec 32 := 0#32
  let v12378_r0 : BitVec 1 := Scalar.cmpi .ne v12377_r0 c0_i32_6708_r0
  v12378_r0

def k0_mult6 (k0_t1 : Fin k0_t1_loop.trips) : BitVec 32 :=
  let c256_i32_7607_r0 : BitVec 32 := 256#32
  let c0_i32_6064_r0 : BitVec 32 := 0#32
  let c1_i32_6065_r0 : BitVec 32 := 1#32
  let arg32_r0 : BitVec 32 := Scf.iv c0_i32_6064_r0 c1_i32_6065_r0 k0_t1
  let c1_i32_7604_r0 : BitVec 32 := 1#32
  let v13794_r0 : BitVec 32 := Scalar.subi arg32_r0 c1_i32_7604_r0
  let c512_i32_7606_r0 : BitVec 32 := 512#32
  let v13796_r0 : BitVec 32 := Scalar.muli v13794_r0 c512_i32_7606_r0
  let v13797_r0 : BitVec 32 := Scalar.addi c256_i32_7607_r0 v13796_r0
  v13797_r0
def k0_off7 (k0_t1 : Fin k0_t1_loop.trips) : Fin 1 → Nat :=
  let c1_i32_7605_r0 : BitVec 32 := 1#32
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let v13795_r0 : BitVec 32 := Scalar.subi c1_i32_7605_r0 v12359_r0
  ![v13795_r0.toNat]
def k0_off8 (k0_t1 : Fin k0_t1_loop.trips) : Fin 2 → Nat :=
  let c0_i32_7608_r0 : BitVec 32 := 0#32
  let c256_i32_7607_r0 : BitVec 32 := 256#32
  let c0_i32_6064_r0 : BitVec 32 := 0#32
  let c1_i32_6065_r0 : BitVec 32 := 1#32
  let arg32_r0 : BitVec 32 := Scf.iv c0_i32_6064_r0 c1_i32_6065_r0 k0_t1
  let c1_i32_7604_r0 : BitVec 32 := 1#32
  let v13794_r0 : BitVec 32 := Scalar.subi arg32_r0 c1_i32_7604_r0
  let c512_i32_7606_r0 : BitVec 32 := 512#32
  let v13796_r0 : BitVec 32 := Scalar.muli v13794_r0 c512_i32_7606_r0
  let v13797_r0 : BitVec 32 := Scalar.addi c256_i32_7607_r0 v13796_r0
  let v13798_r0 : BitVec 32 := v13797_r0
  ![0, v13798_r0.toNat]
def k0_off9 (k0_t1 : Fin k0_t1_loop.trips) : Fin 3 → Nat :=
  let c1_i32_7605_r0 : BitVec 32 := 1#32
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let v13795_r0 : BitVec 32 := Scalar.subi c1_i32_7605_r0 v12359_r0
  let c0_i32_7609_r0 : BitVec 32 := 0#32
  let c0_i32_7610_r0 : BitVec 32 := 0#32
  ![v13795_r0.toNat, 0, 0]
def k0_cond6 (k0_t1 : Fin k0_t1_loop.trips) : BitVec 1 :=
  let c0_i32_6064_r0 : BitVec 32 := 0#32
  let c1_i32_6065_r0 : BitVec 32 := 1#32
  let arg32_r0 : BitVec 32 := Scf.iv c0_i32_6064_r0 c1_i32_6065_r0 k0_t1
  let c1_i32_6709_r0 : BitVec 32 := 1#32
  let v12379_r0 : BitVec 1 := Scalar.cmpi .sgt arg32_r0 c1_i32_6709_r0
  let v12380_r0 : BitVec 32 := Scalar.extui v12379_r0
  let c0_i32_6710_r0 : BitVec 32 := 0#32
  let v12381_r0 : BitVec 1 := Scalar.cmpi .ne v12380_r0 c0_i32_6710_r0
  v12381_r0

def k0_mult7 (k0_t1 : Fin k0_t1_loop.trips) : BitVec 32 :=
  let c256_i32_7606_r0 : BitVec 32 := 256#32
  let c0_i32_6064_r0 : BitVec 32 := 0#32
  let c1_i32_6065_r0 : BitVec 32 := 1#32
  let arg32_r0 : BitVec 32 := Scf.iv c0_i32_6064_r0 c1_i32_6065_r0 k0_t1
  let c2_i32_7604_r0 : BitVec 32 := 2#32
  let v13794_r0 : BitVec 32 := Scalar.subi arg32_r0 c2_i32_7604_r0
  let c512_i32_7605_r0 : BitVec 32 := 512#32
  let v13795_r0 : BitVec 32 := Scalar.muli v13794_r0 c512_i32_7605_r0
  let v13796_r0 : BitVec 32 := Scalar.addi c256_i32_7606_r0 v13795_r0
  v13796_r0
def k0_off10 (k0_t1 : Fin k0_t1_loop.trips) : Fin 1 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  ![v12359_r0.toNat]
def k0_off11 (k0_t1 : Fin k0_t1_loop.trips) : Fin 2 → Nat :=
  let c0_i32_7607_r0 : BitVec 32 := 0#32
  let c256_i32_7606_r0 : BitVec 32 := 256#32
  let c0_i32_6064_r0 : BitVec 32 := 0#32
  let c1_i32_6065_r0 : BitVec 32 := 1#32
  let arg32_r0 : BitVec 32 := Scf.iv c0_i32_6064_r0 c1_i32_6065_r0 k0_t1
  let c2_i32_7604_r0 : BitVec 32 := 2#32
  let v13794_r0 : BitVec 32 := Scalar.subi arg32_r0 c2_i32_7604_r0
  let c512_i32_7605_r0 : BitVec 32 := 512#32
  let v13795_r0 : BitVec 32 := Scalar.muli v13794_r0 c512_i32_7605_r0
  let v13796_r0 : BitVec 32 := Scalar.addi c256_i32_7606_r0 v13795_r0
  let v13797_r0 : BitVec 32 := v13796_r0
  ![0, v13797_r0.toNat]
def k0_off12 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let c0_i32_7608_r0 : BitVec 32 := 0#32
  let c0_i32_7609_r0 : BitVec 32 := 0#32
  ![v12359_r0.toNat, 0, 0]
def k0_mult8 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6725_r0 : BitVec 32 := 0#32
  let v12389_r0 : BitVec 32 := Scalar.addi v12361_r0 c0_i32_6725_r0
  let c256_i32_6726_r0 : BitVec 32 := 256#32
  let v12390_r0 : BitVec 32 := Scalar.muli v12389_r0 c256_i32_6726_r0
  v12390_r0
def k0_off13 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c3_i32_6693_r0 : BitVec 32 := 3#32
  let v12356_r0 : BitVec 32 := Scalar.remsi arg32_r0 c3_i32_6693_r0
  let c0_i32_6727_r0 : BitVec 32 := 0#32
  let c0_i32_6728_r0 : BitVec 32 := 0#32
  ![v12356_r0.toNat, 0, 0]
def k0_off14 (k0_t1 : Fin k0_t1_loop.trips) (c0_i32_6725_r0 : BitVec 32) : Fin 2 → Nat :=
  let c2_6731_r0 : Index := 2#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12389_r0 : BitVec 32 := Scalar.addi v12361_r0 c0_i32_6725_r0
  let c256_i32_6726_r0 : BitVec 32 := 256#32
  let v12390_r0 : BitVec 32 := Scalar.muli v12389_r0 c256_i32_6726_r0
  let v12391_r0 : BitVec 32 := v12390_r0
  let v12396_r0 : Index := Scalar.indexCast v12391_r0
  ![2, v12396_r0.toNat]
def k0_off15 (k0_t1 : Fin k0_t1_loop.trips) (c0_i32_6725_r0 : BitVec 32) : Fin 2 → Nat :=
  let c3_6736_r0 : Index := 3#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12389_r0 : BitVec 32 := Scalar.addi v12361_r0 c0_i32_6725_r0
  let c256_i32_6726_r0 : BitVec 32 := 256#32
  let v12390_r0 : BitVec 32 := Scalar.muli v12389_r0 c256_i32_6726_r0
  let v12391_r0 : BitVec 32 := v12390_r0
  let v12410_r0 : Index := Scalar.indexCast v12391_r0
  ![3, v12410_r0.toNat]
def k0_mult9 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6737_r0 : BitVec 32 := 0#32
  let v12421_r0 : BitVec 32 := Scalar.addi v12361_r0 c0_i32_6737_r0
  let c1_i32_6738_r0 : BitVec 32 := 1#32
  let v12422_r0 : BitVec 32 := Scalar.subi v12421_r0 c1_i32_6738_r0
  let c256_i32_6739_r0 : BitVec 32 := 256#32
  let v12423_r0 : BitVec 32 := Scalar.muli v12422_r0 c256_i32_6739_r0
  v12423_r0
def k0_off16 (k0_t1 : Fin k0_t1_loop.trips) (c0_i32_6737_r0 : BitVec 32) : Fin 2 → Nat :=
  let c0_6741_r0 : Index := 0#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12421_r0 : BitVec 32 := Scalar.addi v12361_r0 c0_i32_6737_r0
  let c1_i32_6738_r0 : BitVec 32 := 1#32
  let v12422_r0 : BitVec 32 := Scalar.subi v12421_r0 c1_i32_6738_r0
  let c256_i32_6739_r0 : BitVec 32 := 256#32
  let v12423_r0 : BitVec 32 := Scalar.muli v12422_r0 c256_i32_6739_r0
  let v12424_r0 : BitVec 32 := v12423_r0
  let v12429_r0 : Index := Scalar.indexCast v12424_r0
  ![0, v12429_r0.toNat]
def k0_off17 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let c0_i32_6743_r0 : BitVec 32 := 0#32
  let c0_i32_6744_r0 : BitVec 32 := 0#32
  ![v12359_r0.toNat, 0, 0]
def k0_off18 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let c0_i32_6743_r0 : BitVec 32 := 0#32
  let c0_i32_6744_r0 : BitVec 32 := 0#32
  ![v12359_r0.toNat, 0, 0]
def k0_off19 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let c0_i32_6748_r0 : BitVec 32 := 0#32
  ![v12359_r0.toNat, 384, 0]
def k0_off20 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let c0_i32_6752_r0 : BitVec 32 := 0#32
  ![v12359_r0.toNat, 128, 0]
def k0_off21 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let c0_i32_6756_r0 : BitVec 32 := 0#32
  ![v12359_r0.toNat, 512, 0]
def k0_off22 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let c0_i32_6760_r0 : BitVec 32 := 0#32
  ![v12359_r0.toNat, 256, 0]
def k0_off23 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let c0_i32_6764_r0 : BitVec 32 := 0#32
  ![v12359_r0.toNat, 640, 0]
def k0_mult10 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6781_r0 : BitVec 32 := 0#32
  let v12510_r0 : BitVec 32 := Scalar.addi v12361_r0 c0_i32_6781_r0
  let c256_i32_6782_r0 : BitVec 32 := 256#32
  let v12511_r0 : BitVec 32 := Scalar.muli v12510_r0 c256_i32_6782_r0
  v12511_r0
def k0_off24 (k0_t1 : Fin k0_t1_loop.trips) (c0_i32_6781_r0 : BitVec 32) : Fin 2 → Nat :=
  let c4_6787_r0 : Index := 4#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12510_r0 : BitVec 32 := Scalar.addi v12361_r0 c0_i32_6781_r0
  let c256_i32_6782_r0 : BitVec 32 := 256#32
  let v12511_r0 : BitVec 32 := Scalar.muli v12510_r0 c256_i32_6782_r0
  let v12512_r0 : BitVec 32 := v12511_r0
  let v12517_r0 : Index := Scalar.indexCast v12512_r0
  ![4, v12517_r0.toNat]
def k0_off25 (k0_t1 : Fin k0_t1_loop.trips) (c0_i32_6781_r0 : BitVec 32) : Fin 2 → Nat :=
  let c5_6792_r0 : Index := 5#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12510_r0 : BitVec 32 := Scalar.addi v12361_r0 c0_i32_6781_r0
  let c256_i32_6782_r0 : BitVec 32 := 256#32
  let v12511_r0 : BitVec 32 := Scalar.muli v12510_r0 c256_i32_6782_r0
  let v12512_r0 : BitVec 32 := v12511_r0
  let v12531_r0 : Index := Scalar.indexCast v12512_r0
  ![5, v12531_r0.toNat]
def k0_mult11 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6807_r0 : BitVec 32 := 0#32
  let v12549_r0 : BitVec 32 := Scalar.addi v12361_r0 c0_i32_6807_r0
  let c256_i32_6808_r0 : BitVec 32 := 256#32
  let v12550_r0 : BitVec 32 := Scalar.muli v12549_r0 c256_i32_6808_r0
  v12550_r0
def k0_off26 (k0_t1 : Fin k0_t1_loop.trips) (c0_i32_6807_r0 : BitVec 32) : Fin 2 → Nat :=
  let c6_6813_r0 : Index := 6#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12549_r0 : BitVec 32 := Scalar.addi v12361_r0 c0_i32_6807_r0
  let c256_i32_6808_r0 : BitVec 32 := 256#32
  let v12550_r0 : BitVec 32 := Scalar.muli v12549_r0 c256_i32_6808_r0
  let v12551_r0 : BitVec 32 := v12550_r0
  let v12556_r0 : Index := Scalar.indexCast v12551_r0
  ![6, v12556_r0.toNat]
def k0_off27 (k0_t1 : Fin k0_t1_loop.trips) (c0_i32_6807_r0 : BitVec 32) : Fin 2 → Nat :=
  let c7_6818_r0 : Index := 7#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12549_r0 : BitVec 32 := Scalar.addi v12361_r0 c0_i32_6807_r0
  let c256_i32_6808_r0 : BitVec 32 := 256#32
  let v12550_r0 : BitVec 32 := Scalar.muli v12549_r0 c256_i32_6808_r0
  let v12551_r0 : BitVec 32 := v12550_r0
  let v12570_r0 : Index := Scalar.indexCast v12551_r0
  ![7, v12570_r0.toNat]
def k0_mult12 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6833_r0 : BitVec 32 := 0#32
  let v12588_r0 : BitVec 32 := Scalar.addi v12361_r0 c0_i32_6833_r0
  let c256_i32_6834_r0 : BitVec 32 := 256#32
  let v12589_r0 : BitVec 32 := Scalar.muli v12588_r0 c256_i32_6834_r0
  v12589_r0
def k0_off28 (k0_t1 : Fin k0_t1_loop.trips) (c0_i32_6833_r0 : BitVec 32) : Fin 2 → Nat :=
  let c8_6839_r0 : Index := 8#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12588_r0 : BitVec 32 := Scalar.addi v12361_r0 c0_i32_6833_r0
  let c256_i32_6834_r0 : BitVec 32 := 256#32
  let v12589_r0 : BitVec 32 := Scalar.muli v12588_r0 c256_i32_6834_r0
  let v12590_r0 : BitVec 32 := v12589_r0
  let v12595_r0 : Index := Scalar.indexCast v12590_r0
  ![8, v12595_r0.toNat]
def k0_off29 (k0_t1 : Fin k0_t1_loop.trips) (c0_i32_6833_r0 : BitVec 32) : Fin 2 → Nat :=
  let c9_6844_r0 : Index := 9#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12588_r0 : BitVec 32 := Scalar.addi v12361_r0 c0_i32_6833_r0
  let c256_i32_6834_r0 : BitVec 32 := 256#32
  let v12589_r0 : BitVec 32 := Scalar.muli v12588_r0 c256_i32_6834_r0
  let v12590_r0 : BitVec 32 := v12589_r0
  let v12609_r0 : Index := Scalar.indexCast v12590_r0
  ![9, v12609_r0.toNat]
def k0_mult13 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6859_r0 : BitVec 32 := 0#32
  let v12627_r0 : BitVec 32 := Scalar.addi v12361_r0 c0_i32_6859_r0
  let c256_i32_6860_r0 : BitVec 32 := 256#32
  let v12628_r0 : BitVec 32 := Scalar.muli v12627_r0 c256_i32_6860_r0
  v12628_r0
def k0_off30 (k0_t1 : Fin k0_t1_loop.trips) (c0_i32_6859_r0 : BitVec 32) : Fin 2 → Nat :=
  let c10_6865_r0 : Index := 10#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12627_r0 : BitVec 32 := Scalar.addi v12361_r0 c0_i32_6859_r0
  let c256_i32_6860_r0 : BitVec 32 := 256#32
  let v12628_r0 : BitVec 32 := Scalar.muli v12627_r0 c256_i32_6860_r0
  let v12629_r0 : BitVec 32 := v12628_r0
  let v12634_r0 : Index := Scalar.indexCast v12629_r0
  ![10, v12634_r0.toNat]
def k0_off31 (k0_t1 : Fin k0_t1_loop.trips) (c0_i32_6859_r0 : BitVec 32) : Fin 2 → Nat :=
  let c11_6870_r0 : Index := 11#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12627_r0 : BitVec 32 := Scalar.addi v12361_r0 c0_i32_6859_r0
  let c256_i32_6860_r0 : BitVec 32 := 256#32
  let v12628_r0 : BitVec 32 := Scalar.muli v12627_r0 c256_i32_6860_r0
  let v12629_r0 : BitVec 32 := v12628_r0
  let v12648_r0 : Index := Scalar.indexCast v12629_r0
  ![11, v12648_r0.toNat]
def k0_mult14 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6885_r0 : BitVec 32 := 0#32
  let v12666_r0 : BitVec 32 := Scalar.addi v12361_r0 c0_i32_6885_r0
  let c256_i32_6886_r0 : BitVec 32 := 256#32
  let v12667_r0 : BitVec 32 := Scalar.muli v12666_r0 c256_i32_6886_r0
  v12667_r0
def k0_off32 (k0_t1 : Fin k0_t1_loop.trips) (c0_i32_6885_r0 : BitVec 32) : Fin 2 → Nat :=
  let c12_6891_r0 : Index := 12#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12666_r0 : BitVec 32 := Scalar.addi v12361_r0 c0_i32_6885_r0
  let c256_i32_6886_r0 : BitVec 32 := 256#32
  let v12667_r0 : BitVec 32 := Scalar.muli v12666_r0 c256_i32_6886_r0
  let v12668_r0 : BitVec 32 := v12667_r0
  let v12673_r0 : Index := Scalar.indexCast v12668_r0
  ![12, v12673_r0.toNat]
def k0_off33 (k0_t1 : Fin k0_t1_loop.trips) (c0_i32_6885_r0 : BitVec 32) : Fin 2 → Nat :=
  let c13_6896_r0 : Index := 13#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12666_r0 : BitVec 32 := Scalar.addi v12361_r0 c0_i32_6885_r0
  let c256_i32_6886_r0 : BitVec 32 := 256#32
  let v12667_r0 : BitVec 32 := Scalar.muli v12666_r0 c256_i32_6886_r0
  let v12668_r0 : BitVec 32 := v12667_r0
  let v12687_r0 : Index := Scalar.indexCast v12668_r0
  ![13, v12687_r0.toNat]
def k0_mult15 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6911_r0 : BitVec 32 := 0#32
  let v12705_r0 : BitVec 32 := Scalar.addi v12361_r0 c0_i32_6911_r0
  let c256_i32_6912_r0 : BitVec 32 := 256#32
  let v12706_r0 : BitVec 32 := Scalar.muli v12705_r0 c256_i32_6912_r0
  v12706_r0
def k0_off34 (k0_t1 : Fin k0_t1_loop.trips) (c0_i32_6911_r0 : BitVec 32) : Fin 2 → Nat :=
  let c14_6917_r0 : Index := 14#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12705_r0 : BitVec 32 := Scalar.addi v12361_r0 c0_i32_6911_r0
  let c256_i32_6912_r0 : BitVec 32 := 256#32
  let v12706_r0 : BitVec 32 := Scalar.muli v12705_r0 c256_i32_6912_r0
  let v12707_r0 : BitVec 32 := v12706_r0
  let v12712_r0 : Index := Scalar.indexCast v12707_r0
  ![14, v12712_r0.toNat]
def k0_off35 (k0_t1 : Fin k0_t1_loop.trips) (c0_i32_6911_r0 : BitVec 32) : Fin 2 → Nat :=
  let c15_6922_r0 : Index := 15#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12705_r0 : BitVec 32 := Scalar.addi v12361_r0 c0_i32_6911_r0
  let c256_i32_6912_r0 : BitVec 32 := 256#32
  let v12706_r0 : BitVec 32 := Scalar.muli v12705_r0 c256_i32_6912_r0
  let v12707_r0 : BitVec 32 := v12706_r0
  let v12726_r0 : Index := Scalar.indexCast v12707_r0
  ![15, v12726_r0.toNat]
def k0_mult16 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6937_r0 : BitVec 32 := 0#32
  let v12744_r0 : BitVec 32 := Scalar.addi v12361_r0 c0_i32_6937_r0
  let c256_i32_6938_r0 : BitVec 32 := 256#32
  let v12745_r0 : BitVec 32 := Scalar.muli v12744_r0 c256_i32_6938_r0
  v12745_r0
def k0_off36 (k0_t1 : Fin k0_t1_loop.trips) (c0_i32_6937_r0 : BitVec 32) : Fin 2 → Nat :=
  let c16_6943_r0 : Index := 16#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12744_r0 : BitVec 32 := Scalar.addi v12361_r0 c0_i32_6937_r0
  let c256_i32_6938_r0 : BitVec 32 := 256#32
  let v12745_r0 : BitVec 32 := Scalar.muli v12744_r0 c256_i32_6938_r0
  let v12746_r0 : BitVec 32 := v12745_r0
  let v12751_r0 : Index := Scalar.indexCast v12746_r0
  ![16, v12751_r0.toNat]
def k0_off37 (k0_t1 : Fin k0_t1_loop.trips) (c0_i32_6937_r0 : BitVec 32) : Fin 2 → Nat :=
  let c17_6948_r0 : Index := 17#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12744_r0 : BitVec 32 := Scalar.addi v12361_r0 c0_i32_6937_r0
  let c256_i32_6938_r0 : BitVec 32 := 256#32
  let v12745_r0 : BitVec 32 := Scalar.muli v12744_r0 c256_i32_6938_r0
  let v12746_r0 : BitVec 32 := v12745_r0
  let v12765_r0 : Index := Scalar.indexCast v12746_r0
  ![17, v12765_r0.toNat]
def k0_mult17 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6963_r0 : BitVec 32 := 0#32
  let v12783_r0 : BitVec 32 := Scalar.addi v12361_r0 c0_i32_6963_r0
  let c256_i32_6964_r0 : BitVec 32 := 256#32
  let v12784_r0 : BitVec 32 := Scalar.muli v12783_r0 c256_i32_6964_r0
  v12784_r0
def k0_off38 (k0_t1 : Fin k0_t1_loop.trips) (c0_i32_6963_r0 : BitVec 32) : Fin 2 → Nat :=
  let c18_6969_r0 : Index := 18#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12783_r0 : BitVec 32 := Scalar.addi v12361_r0 c0_i32_6963_r0
  let c256_i32_6964_r0 : BitVec 32 := 256#32
  let v12784_r0 : BitVec 32 := Scalar.muli v12783_r0 c256_i32_6964_r0
  let v12785_r0 : BitVec 32 := v12784_r0
  let v12790_r0 : Index := Scalar.indexCast v12785_r0
  ![18, v12790_r0.toNat]
def k0_off39 (k0_t1 : Fin k0_t1_loop.trips) (c0_i32_6963_r0 : BitVec 32) : Fin 2 → Nat :=
  let c19_6974_r0 : Index := 19#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12783_r0 : BitVec 32 := Scalar.addi v12361_r0 c0_i32_6963_r0
  let c256_i32_6964_r0 : BitVec 32 := 256#32
  let v12784_r0 : BitVec 32 := Scalar.muli v12783_r0 c256_i32_6964_r0
  let v12785_r0 : BitVec 32 := v12784_r0
  let v12804_r0 : Index := Scalar.indexCast v12785_r0
  ![19, v12804_r0.toNat]
def k0_mult18 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_6989_r0 : BitVec 32 := 0#32
  let v12822_r0 : BitVec 32 := Scalar.addi v12361_r0 c0_i32_6989_r0
  let c256_i32_6990_r0 : BitVec 32 := 256#32
  let v12823_r0 : BitVec 32 := Scalar.muli v12822_r0 c256_i32_6990_r0
  v12823_r0
def k0_off40 (k0_t1 : Fin k0_t1_loop.trips) (c0_i32_6989_r0 : BitVec 32) : Fin 2 → Nat :=
  let c20_6995_r0 : Index := 20#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12822_r0 : BitVec 32 := Scalar.addi v12361_r0 c0_i32_6989_r0
  let c256_i32_6990_r0 : BitVec 32 := 256#32
  let v12823_r0 : BitVec 32 := Scalar.muli v12822_r0 c256_i32_6990_r0
  let v12824_r0 : BitVec 32 := v12823_r0
  let v12829_r0 : Index := Scalar.indexCast v12824_r0
  ![20, v12829_r0.toNat]
def k0_off41 (k0_t1 : Fin k0_t1_loop.trips) (c0_i32_6989_r0 : BitVec 32) : Fin 2 → Nat :=
  let c21_7000_r0 : Index := 21#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12822_r0 : BitVec 32 := Scalar.addi v12361_r0 c0_i32_6989_r0
  let c256_i32_6990_r0 : BitVec 32 := 256#32
  let v12823_r0 : BitVec 32 := Scalar.muli v12822_r0 c256_i32_6990_r0
  let v12824_r0 : BitVec 32 := v12823_r0
  let v12843_r0 : Index := Scalar.indexCast v12824_r0
  ![21, v12843_r0.toNat]
def k0_mult19 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_7015_r0 : BitVec 32 := 0#32
  let v12861_r0 : BitVec 32 := Scalar.addi v12361_r0 c0_i32_7015_r0
  let c256_i32_7016_r0 : BitVec 32 := 256#32
  let v12862_r0 : BitVec 32 := Scalar.muli v12861_r0 c256_i32_7016_r0
  v12862_r0
def k0_off42 (k0_t1 : Fin k0_t1_loop.trips) (c0_i32_7015_r0 : BitVec 32) : Fin 2 → Nat :=
  let c22_7021_r0 : Index := 22#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12861_r0 : BitVec 32 := Scalar.addi v12361_r0 c0_i32_7015_r0
  let c256_i32_7016_r0 : BitVec 32 := 256#32
  let v12862_r0 : BitVec 32 := Scalar.muli v12861_r0 c256_i32_7016_r0
  let v12863_r0 : BitVec 32 := v12862_r0
  let v12868_r0 : Index := Scalar.indexCast v12863_r0
  ![22, v12868_r0.toNat]
def k0_off43 (k0_t1 : Fin k0_t1_loop.trips) (c0_i32_7015_r0 : BitVec 32) : Fin 2 → Nat :=
  let c23_7026_r0 : Index := 23#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12861_r0 : BitVec 32 := Scalar.addi v12361_r0 c0_i32_7015_r0
  let c256_i32_7016_r0 : BitVec 32 := 256#32
  let v12862_r0 : BitVec 32 := Scalar.muli v12861_r0 c256_i32_7016_r0
  let v12863_r0 : BitVec 32 := v12862_r0
  let v12882_r0 : Index := Scalar.indexCast v12863_r0
  ![23, v12882_r0.toNat]
def k0_mult20 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_7041_r0 : BitVec 32 := 0#32
  let v12900_r0 : BitVec 32 := Scalar.addi v12361_r0 c0_i32_7041_r0
  let c256_i32_7042_r0 : BitVec 32 := 256#32
  let v12901_r0 : BitVec 32 := Scalar.muli v12900_r0 c256_i32_7042_r0
  v12901_r0
def k0_off44 (k0_t1 : Fin k0_t1_loop.trips) (c0_i32_7041_r0 : BitVec 32) : Fin 2 → Nat :=
  let c24_7047_r0 : Index := 24#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12900_r0 : BitVec 32 := Scalar.addi v12361_r0 c0_i32_7041_r0
  let c256_i32_7042_r0 : BitVec 32 := 256#32
  let v12901_r0 : BitVec 32 := Scalar.muli v12900_r0 c256_i32_7042_r0
  let v12902_r0 : BitVec 32 := v12901_r0
  let v12907_r0 : Index := Scalar.indexCast v12902_r0
  ![24, v12907_r0.toNat]
def k0_off45 (k0_t1 : Fin k0_t1_loop.trips) (c0_i32_7041_r0 : BitVec 32) : Fin 2 → Nat :=
  let c25_7052_r0 : Index := 25#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12900_r0 : BitVec 32 := Scalar.addi v12361_r0 c0_i32_7041_r0
  let c256_i32_7042_r0 : BitVec 32 := 256#32
  let v12901_r0 : BitVec 32 := Scalar.muli v12900_r0 c256_i32_7042_r0
  let v12902_r0 : BitVec 32 := v12901_r0
  let v12921_r0 : Index := Scalar.indexCast v12902_r0
  ![25, v12921_r0.toNat]
def k0_mult21 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_7067_r0 : BitVec 32 := 0#32
  let v12939_r0 : BitVec 32 := Scalar.addi v12361_r0 c0_i32_7067_r0
  let c256_i32_7068_r0 : BitVec 32 := 256#32
  let v12940_r0 : BitVec 32 := Scalar.muli v12939_r0 c256_i32_7068_r0
  v12940_r0
def k0_off46 (k0_t1 : Fin k0_t1_loop.trips) (c0_i32_7067_r0 : BitVec 32) : Fin 2 → Nat :=
  let c26_7073_r0 : Index := 26#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12939_r0 : BitVec 32 := Scalar.addi v12361_r0 c0_i32_7067_r0
  let c256_i32_7068_r0 : BitVec 32 := 256#32
  let v12940_r0 : BitVec 32 := Scalar.muli v12939_r0 c256_i32_7068_r0
  let v12941_r0 : BitVec 32 := v12940_r0
  let v12946_r0 : Index := Scalar.indexCast v12941_r0
  ![26, v12946_r0.toNat]
def k0_off47 (k0_t1 : Fin k0_t1_loop.trips) (c0_i32_7067_r0 : BitVec 32) : Fin 2 → Nat :=
  let c27_7078_r0 : Index := 27#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12939_r0 : BitVec 32 := Scalar.addi v12361_r0 c0_i32_7067_r0
  let c256_i32_7068_r0 : BitVec 32 := 256#32
  let v12940_r0 : BitVec 32 := Scalar.muli v12939_r0 c256_i32_7068_r0
  let v12941_r0 : BitVec 32 := v12940_r0
  let v12960_r0 : Index := Scalar.indexCast v12941_r0
  ![27, v12960_r0.toNat]
def k0_mult22 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_7093_r0 : BitVec 32 := 0#32
  let v12978_r0 : BitVec 32 := Scalar.addi v12361_r0 c0_i32_7093_r0
  let c256_i32_7094_r0 : BitVec 32 := 256#32
  let v12979_r0 : BitVec 32 := Scalar.muli v12978_r0 c256_i32_7094_r0
  v12979_r0
def k0_off48 (k0_t1 : Fin k0_t1_loop.trips) (c0_i32_7093_r0 : BitVec 32) : Fin 2 → Nat :=
  let c28_7099_r0 : Index := 28#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12978_r0 : BitVec 32 := Scalar.addi v12361_r0 c0_i32_7093_r0
  let c256_i32_7094_r0 : BitVec 32 := 256#32
  let v12979_r0 : BitVec 32 := Scalar.muli v12978_r0 c256_i32_7094_r0
  let v12980_r0 : BitVec 32 := v12979_r0
  let v12985_r0 : Index := Scalar.indexCast v12980_r0
  ![28, v12985_r0.toNat]
def k0_off49 (k0_t1 : Fin k0_t1_loop.trips) (c0_i32_7093_r0 : BitVec 32) : Fin 2 → Nat :=
  let c29_7104_r0 : Index := 29#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v12978_r0 : BitVec 32 := Scalar.addi v12361_r0 c0_i32_7093_r0
  let c256_i32_7094_r0 : BitVec 32 := 256#32
  let v12979_r0 : BitVec 32 := Scalar.muli v12978_r0 c256_i32_7094_r0
  let v12980_r0 : BitVec 32 := v12979_r0
  let v12999_r0 : Index := Scalar.indexCast v12980_r0
  ![29, v12999_r0.toNat]
def k0_mult23 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c0_i32_7119_r0 : BitVec 32 := 0#32
  let v13017_r0 : BitVec 32 := Scalar.addi v12361_r0 c0_i32_7119_r0
  let c256_i32_7120_r0 : BitVec 32 := 256#32
  let v13018_r0 : BitVec 32 := Scalar.muli v13017_r0 c256_i32_7120_r0
  v13018_r0
def k0_off50 (k0_t1 : Fin k0_t1_loop.trips) (c0_i32_7119_r0 : BitVec 32) : Fin 2 → Nat :=
  let c30_7125_r0 : Index := 30#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v13017_r0 : BitVec 32 := Scalar.addi v12361_r0 c0_i32_7119_r0
  let c256_i32_7120_r0 : BitVec 32 := 256#32
  let v13018_r0 : BitVec 32 := Scalar.muli v13017_r0 c256_i32_7120_r0
  let v13019_r0 : BitVec 32 := v13018_r0
  let v13024_r0 : Index := Scalar.indexCast v13019_r0
  ![30, v13024_r0.toNat]
def k0_off51 (k0_t1 : Fin k0_t1_loop.trips) (c0_i32_7119_r0 : BitVec 32) : Fin 2 → Nat :=
  let c31_7130_r0 : Index := 31#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v13017_r0 : BitVec 32 := Scalar.addi v12361_r0 c0_i32_7119_r0
  let c256_i32_7120_r0 : BitVec 32 := 256#32
  let v13018_r0 : BitVec 32 := Scalar.muli v13017_r0 c256_i32_7120_r0
  let v13019_r0 : BitVec 32 := v13018_r0
  let v13038_r0 : Index := Scalar.indexCast v13019_r0
  ![31, v13038_r0.toNat]
def k0_mult24 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7145_r0 : BitVec 32 := 1#32
  let v13056_r0 : BitVec 32 := Scalar.addi v12361_r0 c1_i32_7145_r0
  let c256_i32_7146_r0 : BitVec 32 := 256#32
  let v13057_r0 : BitVec 32 := Scalar.muli v13056_r0 c256_i32_7146_r0
  v13057_r0
def k0_off52 (k0_t1 : Fin k0_t1_loop.trips) (c1_i32_7145_r0 : BitVec 32) : Fin 2 → Nat :=
  let c0_7151_r0 : Index := 0#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v13056_r0 : BitVec 32 := Scalar.addi v12361_r0 c1_i32_7145_r0
  let c256_i32_7146_r0 : BitVec 32 := 256#32
  let v13057_r0 : BitVec 32 := Scalar.muli v13056_r0 c256_i32_7146_r0
  let v13058_r0 : BitVec 32 := v13057_r0
  let v13063_r0 : Index := Scalar.indexCast v13058_r0
  ![0, v13063_r0.toNat]
def k0_off53 (k0_t1 : Fin k0_t1_loop.trips) (c1_i32_7145_r0 : BitVec 32) : Fin 2 → Nat :=
  let c1_7156_r0 : Index := 1#32
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let v13056_r0 : BitVec 32 := Scalar.addi v12361_r0 c1_i32_7145_r0
  let c256_i32_7146_r0 : BitVec 32 := 256#32
  let v13057_r0 : BitVec 32 := Scalar.muli v13056_r0 c256_i32_7146_r0
  let v13058_r0 : BitVec 32 := v13057_r0
  let v13077_r0 : Index := Scalar.indexCast v13058_r0
  ![1, v13077_r0.toNat]
def k0_mult25 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7171_r0 : BitVec 32 := 1#32
  let v13095_r0 : BitVec 32 := Scalar.addi v12361_r0 c1_i32_7171_r0
  let c256_i32_7172_r0 : BitVec 32 := 256#32
  let v13096_r0 : BitVec 32 := Scalar.muli v13095_r0 c256_i32_7172_r0
  v13096_r0
def k0_mult26 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7183_r0 : BitVec 32 := 1#32
  let v13127_r0 : BitVec 32 := Scalar.addi v12361_r0 c1_i32_7183_r0
  let c1_i32_7184_r0 : BitVec 32 := 1#32
  let v13128_r0 : BitVec 32 := Scalar.subi v13127_r0 c1_i32_7184_r0
  let c256_i32_7185_r0 : BitVec 32 := 256#32
  let v13129_r0 : BitVec 32 := Scalar.muli v13128_r0 c256_i32_7185_r0
  v13129_r0
def k0_off54 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  let c0_i32_7189_r0 : BitVec 32 := 0#32
  ![v12359_r0.toNat, 0, 256]
def k0_off55 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  ![v12359_r0.toNat, 384, 256]
def k0_off56 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  ![v12359_r0.toNat, 128, 256]
def k0_off57 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  ![v12359_r0.toNat, 512, 256]
def k0_off58 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  ![v12359_r0.toNat, 256, 256]
def k0_off59 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c2_i32_6696_r0 : BitVec 32 := 2#32
  let v12359_r0 : BitVec 32 := Scalar.remsi arg32_r0 c2_i32_6696_r0
  ![v12359_r0.toNat, 640, 256]
def k0_mult27 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7227_r0 : BitVec 32 := 1#32
  let v13216_r0 : BitVec 32 := Scalar.addi v12361_r0 c1_i32_7227_r0
  let c256_i32_7228_r0 : BitVec 32 := 256#32
  let v13217_r0 : BitVec 32 := Scalar.muli v13216_r0 c256_i32_7228_r0
  v13217_r0
def k0_mult28 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7253_r0 : BitVec 32 := 1#32
  let v13255_r0 : BitVec 32 := Scalar.addi v12361_r0 c1_i32_7253_r0
  let c256_i32_7254_r0 : BitVec 32 := 256#32
  let v13256_r0 : BitVec 32 := Scalar.muli v13255_r0 c256_i32_7254_r0
  v13256_r0
def k0_mult29 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7279_r0 : BitVec 32 := 1#32
  let v13294_r0 : BitVec 32 := Scalar.addi v12361_r0 c1_i32_7279_r0
  let c256_i32_7280_r0 : BitVec 32 := 256#32
  let v13295_r0 : BitVec 32 := Scalar.muli v13294_r0 c256_i32_7280_r0
  v13295_r0
def k0_mult30 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7305_r0 : BitVec 32 := 1#32
  let v13333_r0 : BitVec 32 := Scalar.addi v12361_r0 c1_i32_7305_r0
  let c256_i32_7306_r0 : BitVec 32 := 256#32
  let v13334_r0 : BitVec 32 := Scalar.muli v13333_r0 c256_i32_7306_r0
  v13334_r0
def k0_mult31 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7331_r0 : BitVec 32 := 1#32
  let v13372_r0 : BitVec 32 := Scalar.addi v12361_r0 c1_i32_7331_r0
  let c256_i32_7332_r0 : BitVec 32 := 256#32
  let v13373_r0 : BitVec 32 := Scalar.muli v13372_r0 c256_i32_7332_r0
  v13373_r0
def k0_mult32 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7357_r0 : BitVec 32 := 1#32
  let v13411_r0 : BitVec 32 := Scalar.addi v12361_r0 c1_i32_7357_r0
  let c256_i32_7358_r0 : BitVec 32 := 256#32
  let v13412_r0 : BitVec 32 := Scalar.muli v13411_r0 c256_i32_7358_r0
  v13412_r0
def k0_mult33 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7383_r0 : BitVec 32 := 1#32
  let v13450_r0 : BitVec 32 := Scalar.addi v12361_r0 c1_i32_7383_r0
  let c256_i32_7384_r0 : BitVec 32 := 256#32
  let v13451_r0 : BitVec 32 := Scalar.muli v13450_r0 c256_i32_7384_r0
  v13451_r0
def k0_mult34 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7409_r0 : BitVec 32 := 1#32
  let v13489_r0 : BitVec 32 := Scalar.addi v12361_r0 c1_i32_7409_r0
  let c256_i32_7410_r0 : BitVec 32 := 256#32
  let v13490_r0 : BitVec 32 := Scalar.muli v13489_r0 c256_i32_7410_r0
  v13490_r0
def k0_mult35 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7435_r0 : BitVec 32 := 1#32
  let v13528_r0 : BitVec 32 := Scalar.addi v12361_r0 c1_i32_7435_r0
  let c256_i32_7436_r0 : BitVec 32 := 256#32
  let v13529_r0 : BitVec 32 := Scalar.muli v13528_r0 c256_i32_7436_r0
  v13529_r0
def k0_mult36 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7461_r0 : BitVec 32 := 1#32
  let v13567_r0 : BitVec 32 := Scalar.addi v12361_r0 c1_i32_7461_r0
  let c256_i32_7462_r0 : BitVec 32 := 256#32
  let v13568_r0 : BitVec 32 := Scalar.muli v13567_r0 c256_i32_7462_r0
  v13568_r0
def k0_mult37 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7487_r0 : BitVec 32 := 1#32
  let v13606_r0 : BitVec 32 := Scalar.addi v12361_r0 c1_i32_7487_r0
  let c256_i32_7488_r0 : BitVec 32 := 256#32
  let v13607_r0 : BitVec 32 := Scalar.muli v13606_r0 c256_i32_7488_r0
  v13607_r0
def k0_mult38 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7513_r0 : BitVec 32 := 1#32
  let v13645_r0 : BitVec 32 := Scalar.addi v12361_r0 c1_i32_7513_r0
  let c256_i32_7514_r0 : BitVec 32 := 256#32
  let v13646_r0 : BitVec 32 := Scalar.muli v13645_r0 c256_i32_7514_r0
  v13646_r0
def k0_mult39 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7539_r0 : BitVec 32 := 1#32
  let v13684_r0 : BitVec 32 := Scalar.addi v12361_r0 c1_i32_7539_r0
  let c256_i32_7540_r0 : BitVec 32 := 256#32
  let v13685_r0 : BitVec 32 := Scalar.muli v13684_r0 c256_i32_7540_r0
  v13685_r0
def k0_mult40 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c1_i32_7565_r0 : BitVec 32 := 1#32
  let v13723_r0 : BitVec 32 := Scalar.addi v12361_r0 c1_i32_7565_r0
  let c256_i32_7566_r0 : BitVec 32 := 256#32
  let v13724_r0 : BitVec 32 := Scalar.muli v13723_r0 c256_i32_7566_r0
  v13724_r0
def k0_mult41 (k0_t1 : Fin k0_t1_loop.trips) : BitVec 32 :=
  let c2_i32_6698_r0 : BitVec 32 := 2#32
  let c0_i32_6064_r0 : BitVec 32 := 0#32
  let c1_i32_6065_r0 : BitVec 32 := 1#32
  let arg32_r0 : BitVec 32 := Scf.iv c0_i32_6064_r0 c1_i32_6065_r0 k0_t1
  let c2_i32_6697_r0 : BitVec 32 := 2#32
  let v12360_r0 : BitVec 32 := Scalar.muli arg32_r0 c2_i32_6697_r0
  let v12361_r0 : BitVec 32 := Scalar.addi c2_i32_6698_r0 v12360_r0
  let c2_i32_7591_r0 : BitVec 32 := 2#32
  let v13762_r0 : BitVec 32 := Scalar.addi v12361_r0 c2_i32_7591_r0
  let c256_i32_7592_r0 : BitVec 32 := 256#32
  let v13763_r0 : BitVec 32 := Scalar.muli v13762_r0 c256_i32_7592_r0
  v13763_r0
def k0_off60 (k0_t1 : Fin k0_t1_loop.trips) : Fin 3 → Nat :=
  let c0_i32_6064_r0 : BitVec 32 := 0#32
  let c1_i32_6065_r0 : BitVec 32 := 1#32
  let arg32_r0 : BitVec 32 := Scf.iv c0_i32_6064_r0 c1_i32_6065_r0 k0_t1
  let c1_i32_6694_r0 : BitVec 32 := 1#32
  let v12357_r0 : BitVec 32 := Scalar.addi arg32_r0 c1_i32_6694_r0
  let c3_i32_6695_r0 : BitVec 32 := 3#32
  let v12358_r0 : BitVec 32 := Scalar.remsi v12357_r0 c3_i32_6695_r0
  let c0_i32_7593_r0 : BitVec 32 := 0#32
  let c0_i32_7594_r0 : BitVec 32 := 0#32
  ![v12358_r0.toNat, 0, 0]
def k0_mult42 : BitVec 32 :=
  let c9984_i32_r0 : BitVec 32 := 9984#32
  c9984_i32_r0
def k0_mult43 : BitVec 32 :=
  let c9472_i32_r0 : BitVec 32 := 9472#32
  c9472_i32_r0
def k0_mult44 : BitVec 32 :=
  let c9984_i32_6669_r0 : BitVec 32 := 9984#32
  c9984_i32_6669_r0
-- ==== ReferenceIdeal.lean ====
abbrev S2x384x4096 : Shape := ⟨3, ![2, 384, 4096]⟩
abbrev S4096 : Shape := ⟨1, ![4096]⟩
abbrev S1 : Shape := ⟨1, ![1]⟩
abbrev S4096x11008 : Shape := ⟨2, ![4096, 11008]⟩
abbrev S32x11008 : Shape := ⟨2, ![32, 11008]⟩
abbrev S11008 : Shape := ⟨1, ![11008]⟩
abbrev S768x4096 : Shape := ⟨2, ![768, 4096]⟩
abbrev S1x4096 : Shape := ⟨2, ![1, 4096]⟩
abbrev S1x11008 : Shape := ⟨2, ![1, 11008]⟩
abbrev S768x11008 : Shape := ⟨2, ![768, 11008]⟩
abbrev S32x128x11008 : Shape := ⟨3, ![32, 128, 11008]⟩
abbrev S32x1x11008 : Shape := ⟨3, ![32, 1, 11008]⟩
abbrev S2x384x11008 : Shape := ⟨3, ![2, 384, 11008]⟩

abbrev nBuf : Space → Nat
  | .hbm => 18
  | .vmem => 9
  | .smem => 2
  | _ => 0

abbrev bufTy : (tb : Table) → Fin (tcTables nBuf tb) → BufTy
  | .hbm, ⟨0, _⟩ => ⟨S2x384x4096, .bf16⟩
  | .hbm, ⟨1, _⟩ => ⟨S4096, .f32⟩
  | .hbm, ⟨2, _⟩ => ⟨S1, .f32⟩
  | .hbm, ⟨3, _⟩ => ⟨S4096x11008, .i8⟩
  | .hbm, ⟨4, _⟩ => ⟨S32x11008, .f32⟩
  | .hbm, ⟨5, _⟩ => ⟨S11008, .f32⟩
  | .hbm, ⟨6, _⟩ => ⟨S768x4096, .bf16⟩
  | .hbm, ⟨7, _⟩ => ⟨S1x4096, .f32⟩
  | .hbm, ⟨8, _⟩ => ⟨S1x11008, .f32⟩
  | .hbm, ⟨9, _⟩ => ⟨S768x11008, .bf16⟩
  | .hbm, ⟨10, _⟩ => ⟨S1x11008, .f32⟩
  | .hbm, ⟨11, _⟩ => ⟨S1x4096, .f32⟩
  | .hbm, ⟨12, _⟩ => ⟨S768x4096, .i8⟩
  | .hbm, ⟨13, _⟩ => ⟨S1, .f32⟩
  | .hbm, ⟨14, _⟩ => ⟨S2x384x11008, .bf16⟩
  | .hbm, ⟨15, _⟩ => ⟨S11008, .f32⟩
  | .hbm, ⟨16, _⟩ => ⟨S4096, .f32⟩
  | .hbm, ⟨17, _⟩ => ⟨S2x384x4096, .i8⟩
  | .local _ .vmem, ⟨0, _⟩ => ⟨S768x4096, .bf16⟩
  | .local _ .vmem, ⟨1, _⟩ => ⟨S1x4096, .f32⟩
  | .local _ .vmem, ⟨2, _⟩ => ⟨S4096x11008, .i8⟩
  | .local _ .vmem, ⟨3, _⟩ => ⟨S32x11008, .f32⟩
  | .local _ .vmem, ⟨4, _⟩ => ⟨S1x11008, .f32⟩
  | .local _ .vmem, ⟨5, _⟩ => ⟨S768x11008, .bf16⟩
  | .local _ .vmem, ⟨6, _⟩ => ⟨S1x11008, .f32⟩
  | .local _ .vmem, ⟨7, _⟩ => ⟨S1x4096, .f32⟩
  | .local _ .vmem, ⟨8, _⟩ => ⟨S768x4096, .i8⟩
  | .local _ .smem, ⟨0, _⟩ => ⟨S1, .f32⟩
  | .local _ .smem, ⟨1, _⟩ => ⟨S1, .f32⟩
  | _, _ => ⟨S2x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg2_0 : Ref sig .tc := ⟨.smem, 0, rfl⟩
abbrev cc0_stg10_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S768x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x11008 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x11008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x11008 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x11008 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768x4096 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Struct.lean ====
module

public import proofs.«01_k».proof.Proof.Gen.Kernel
public import proofs.«01_k».proof.Proof.Gen.Kernel.Points
public import Idealize.ShloMosaic.Lib.Tactic

/-! The kernel's body written again with its loops: one program per phase, over symbolic block numbers. -/

@[expose] public section

noncomputable section

namespace OsPlus

open Cert.Kernel Cert.Kernel.Gen Idealize.ShloMosaic Idealize.ShloMosaic.TcCoe Idealize.ShloMosaic.Tactic Idealize.SL.Sem

variable {F : FTy → Type} [FloatOps F]

/-- A program of the kernel's core. -/
abbrev Pg (F : FTy → Type) [FloatOps F] (α : Type) := Prog (TpuEff nD τ sig (Elt F) Λ₀ .tc) α

/-! ## The operands -/

abbrev xH : Memref sig .tc .hbm S768x4096 .bf16 := Memref.whole main_v0
abbrev sH : Memref sig .tc .hbm S1x4096 .f32 := Memref.whole main_v1
abbrev xsH : Memref sig .tc .hbm S1 .f32 := Memref.whole main_arg2
abbrev wH : Memref sig .tc .hbm S4096x11008 .i8 := Memref.whole main_arg3
abbrev wsH : Memref sig .tc .hbm S32x11008 .f32 := Memref.whole main_arg4
abbrev biasH : Memref sig .tc .hbm S1x11008 .f32 := Memref.whole main_v2
abbrev yH : Memref sig .tc .hbm S768x11008 .bf16 := Memref.whole main_v3_0
abbrev bcH : Memref sig .tc .hbm S1x11008 .f32 := Memref.whole main_v3_1
abbrev zH : Memref sig .tc .hbm S1x4096 .f32 := Memref.whole main_v3_2
abbrev qH : Memref sig .tc .hbm S768x4096 .i8 := Memref.whole main_v3_3
abbrev xsoH : Memref sig .tc .hbm S1 .f32 := Memref.whole main_v3_4
abbrev xv : Memref sig .tc .vmem S768x4096 .bf16 := Memref.whole cc0_scratch0
abbrev qbv : Memref sig .tc .vmem S768x4096 .bf16 := Memref.whole cc0_scratch1
abbrev qv : Memref sig .tc .vmem S768x4096 .i8 := Memref.whole cc0_scratch2
abbrev wv : Memref sig .tc .vmem S3x4096x512 .i8 := Memref.whole cc0_scratch3
abbrev wsv : Memref sig .tc .vmem S32x11008 .f32 := Memref.whole cc0_scratch4
abbrev sv : Memref sig .tc .vmem S1x4096 .f32 := Memref.whole cc0_scratch5
abbrev biasv : Memref sig .tc .vmem S1x11008 .f32 := Memref.whole cc0_scratch6
abbrev zv : Memref sig .tc .vmem S1x4096 .f32 := Memref.whole cc0_scratch7
abbrev uv : Memref sig .tc .vmem S8x4096 .f32 := Memref.whole cc0_scratch8
abbrev bcv : Memref sig .tc .vmem S1x11008 .f32 := Memref.whole cc0_scratch9
abbrev yv : Memref sig .tc .vmem S2x768x512 .bf16 := Memref.whole cc0_scratch10
abbrev y0v : Memref sig .tc .vmem S3x768x256 .bf16 := Memref.whole cc0_scratch11
abbrev xss : Memref sig .tc .smem S1 .f32 := Memref.whole cc0_scratch12
abbrev xSem : DmaSems sig S16 := cc0_scratch13
abbrev whSem : DmaSems sig S16 := cc0_scratch14
abbrev wSem : DmaSems sig S3 := cc0_scratch15
abbrev smallSem : DmaSems sig S4 := cc0_scratch16
abbrev qSem : DmaSems sig S16 := cc0_scratch17
abbrev ySem : DmaSems sig S2 := cc0_scratch18
abbrev y0Sem : DmaSems sig S3 := cc0_scratch19
abbrev outSem : DmaSems sig S3 := cc0_scratch20

/-- Semaphore `i` of an array of `n`. -/
abbrev semAt {n : ℕ} (a : DmaSems sig ⟨1, ![n]⟩) (i : Fin n) : DmaSems sig S_ :=
  (a.slice (Rect.unit (s := ⟨1, ![n]⟩) ![i.val] S1.size (Rect.inb₁ (by have := i.isLt; simp; omega)))).squeeze S_ squeezes_S1_S_

/-! ## Repetition -/

/-- `f i`, `f (i+1)`, … for `n` steps, a state passed along. -/
def forUp {σ : Type} {N : ℕ} (f : Fin N → σ → Pg F σ) : (n i : ℕ) → i + n ≤ N → σ → Pg F σ
  | 0, _, _, s => .ret s
  | n + 1, i, h, s => (f ⟨i, by omega⟩ s).bind (forUp f n (i + 1) (by omega))

/-- `f 0`, …, `f (N-1)`. -/
abbrev forN {σ : Type} (N : ℕ) (f : Fin N → σ → Pg F σ) (s : σ) : Pg F σ := forUp f N 0 (by omega) s

/-! ## Loads and stores -/

/-- A load of the box at `off`. -/
abbrev ld {s : Shape} {e : EltTy} (m : Memref sig .tc .vmem s e) (off size : Fin s.rank → ℕ)
    (h : ∀ a, off a + size a ≤ s.size a) (hp : 0 < (⟨s.rank, size⟩ : Shape).numel) : Pg F (Vec F ⟨s.rank, size⟩ e) :=
  Prog.lift (.load m (Rect.unit off size h).toLoadRect (View.loadsAt_vmem hp))

/-- A store of the box at `off`. -/
abbrev st {s : Shape} {e : EltTy} (m : Memref sig .tc .vmem s e) (off size : Fin s.rank → ℕ)
    (h : ∀ a, off a + size a ≤ s.size a) (w : Vec F ⟨s.rank, size⟩ e) (hx : (m.access (Rect.unit off size h)).Stores Finset.univ) : Pg F PUnit :=
  Prog.lift (.store m (Rect.unit off size h) w Finset.univ hx (.inl rfl))

/-! ## The copies -/

theorem inbX (k : Fin 16) : ∀ a, (![0, 256 * k.val] : Fin 2 → ℕ) a + S768x256.size a ≤ S768x4096.size a :=
  Rect.inb₂ (d := ![768, 4096]) (size := ![768, 256]) (by simp) (by have := k.isLt; simp; omega)
theorem fullRows {A B b n p : ℕ} (h) : (Rect.unit (s := ⟨2, ![A, B]⟩) ![0, b] ![A, n] h).WholeWords p :=
  .inr ⟨le_refl 2, rfl, rfl, rfl⟩
theorem someRows {A B a b m n p : ℕ} (h) (h1 : p ∣ a) (h2 : p ∣ m) : (Rect.unit (s := ⟨2, ![A, B]⟩) ![a, b] ![m, n] h).PackedRows p :=
  .inr ⟨le_refl 2, rfl, .inl ⟨h1, h2⟩⟩
theorem someRows3 {Z A B z a b m n p : ℕ} (h) (h1 : p ∣ a) (h2 : p ∣ m) : (Rect.unit (s := ⟨3, ![Z, A, B]⟩) ![z, a, b] ![1, m, n] h).PackedRows p :=
  .inr ⟨(by omega : 2 ≤ 3), rfl, .inl (by constructor; exacts [h1, h2])⟩
theorem fullRows3 {Z A B z b n p : ℕ} (h) : (Rect.unit (s := ⟨3, ![Z, A, B]⟩) ![z, 0, b] ![1, A, n] h).WholeWords p :=
  .inr ⟨(by omega : 2 ≤ 3), rfl, rfl, rfl⟩
theorem inb₃ {d off size : Fin 3 → ℕ} (h0 : off 0 + size 0 ≤ d 0) (h1 : off 1 + size 1 ≤ d 1) (h2 : off 2 + size 2 ≤ d 2) :
    ∀ a, off a + size a ≤ (⟨3, d⟩ : Shape).size a := by
  intro a; fin_cases a
  · exact h0
  · exact h1
  · exact h2

/-- Block `k` of 256 columns of an array of `x`'s shape. -/
abbrev blkX {sp : Space} {e : EltTy} (m : Memref sig .tc sp S768x4096 e) (k : Fin 16) : Memref sig .tc sp S768x256 e :=
  m.slice (Rect.unit (s := S768x4096) ![0, 256 * k.val] S768x256.size (inbX k)) (fun _ => rfl)

abbrev startX (k : Fin 16) : Pg F PUnit :=
  Prog.lift (.enqueueDma (blkX xH k) (.here (blkX xv k)) (.dma (semAt xSem k).sem)
    ((Memref.isWhole_whole _).wordExact_slice rfl _ (fullRows _)) ((Memref.isWhole_whole _).wordExact_slice rfl _ (fullRows _)) ⟨Or.inl rfl, trivial⟩)
abbrev waitX (k : Fin 16) : Pg F PUnit :=
  Prog.lift (.waitDma2 (semAt xSem k).sem (blkX xH k) (blkX xv k)
    ((Memref.isWhole_whole _).wordExact_slice rfl _ (fullRows _)) ((Memref.isWhole_whole _).wordExact_slice rfl _ (fullRows _)))
abbrev startQ (k : Fin 16) : Pg F PUnit :=
  Prog.lift (.enqueueDma (blkX qv k) (.here (blkX qH k)) (.dma (semAt qSem k).sem)
    ((Memref.isWhole_whole _).wordExact_slice rfl _ (fullRows _)) ((Memref.isWhole_whole _).wordExact_slice rfl _ (fullRows _)) ⟨Or.inl rfl, trivial⟩)
abbrev waitQ (k : Fin 16) : Pg F PUnit :=
  Prog.lift (.waitDma2 (semAt qSem k).sem (blkX qv k) (blkX qH k)
    ((Memref.isWhole_whole _).wordExact_slice rfl _ (fullRows _)) ((Memref.isWhole_whole _).wordExact_slice rfl _ (fullRows _)))

theorem inbWh (k : Fin 16) : ∀ a, (![256 * k.val, 0] : Fin 2 → ℕ) a + S256x512.size a ≤ S4096x11008.size a :=
  Rect.inb₂ (d := ![4096, 11008]) (size := ![256, 512]) (by have := k.isLt; simp; omega) (by simp)
theorem inbWhv (k : Fin 16) : ∀ a, (![2, 256 * k.val, 0] : Fin 3 → ℕ) a + S1x256x512.size a ≤ S3x4096x512.size a :=
  inb₃ (d := ![3, 4096, 512]) (size := ![1, 256, 512]) (by simp) (by have := k.isLt; simp; omega) (by simp)
theorem dvd256 (p : ℕ) (h : p ∣ 256) (k : ℕ) : p ∣ 256 * k := h.mul_right k
/-- Rows `256k` of `w`'s first 512 columns, and their place in the slot. -/
abbrev headH (k : Fin 16) : Memref sig .tc .hbm S256x512 .i8 :=
  wH.slice (Rect.unit (s := S4096x11008) ![256 * k.val, 0] S256x512.size (inbWh k)) (fun _ => rfl)
abbrev headV (k : Fin 16) : Memref sig .tc .vmem S256x512 .i8 :=
  (wv.slice (Rect.unit (s := S3x4096x512) ![2, 256 * k.val, 0] S1x256x512.size (inbWhv k)) (fun _ => rfl)).squeeze S256x512 squeezes_S1x256x512_S256x512
theorem wordsWh (k : Fin 16) : (headH k).view.WordExact :=
  (Memref.isWhole_whole _).wordExact_slice rfl _ (someRows _ (dvd256 4 (by decide) _) (by decide)).wholeWords
theorem wordsWhv (k : Fin 16) : (headV k).view.WordExact :=
  ((Memref.isWhole_whole cc0_scratch3 : wv.IsWhole).wordExact_slice rfl (Rect.unit (s := S3x4096x512) ![2, 256 * k.val, 0] S1x256x512.size (inbWhv k)) (someRows3 (p := 4) _ (dvd256 4 (by decide) _) (by decide)).wholeWords).reshape _ _
abbrev startHead (k : Fin 16) : Pg F PUnit :=
  Prog.lift (.enqueueDma (headH k) (.here (headV k)) (.dma (semAt whSem k).sem) (wordsWh k) (wordsWhv k) ⟨Or.inl rfl, trivial⟩)
abbrev waitHead (k : Fin 16) : Pg F PUnit :=
  Prog.lift (.waitDma2 (semAt whSem k).sem (headH k) (headV k) (wordsWh k) (wordsWhv k))

/-- Window `t` of 512 columns of `w` past the head, its slot, and the 256 columns at the end. -/
abbrev winH (t : Fin 20) : Memref sig .tc .hbm S4096x512 .i8 :=
  wH.slice (Rect.unit (s := S4096x11008) ![0, 512 * t.val + 512] S4096x512.size
    (Rect.inb₂ (d := ![4096, 11008]) (size := ![4096, 512]) (by simp) (by have := t.isLt; simp; omega))) (fun _ => rfl)
abbrev slotRaw (i : Fin 3) : Memref sig .tc .vmem S1x4096x512 .i8 :=
  wv.slice (Rect.unit (s := S3x4096x512) ![i.val, 0, 0] S1x4096x512.size
    (inb₃ (d := ![3, 4096, 512]) (size := ![1, 4096, 512]) (by have := i.isLt; simp; omega) (by simp) (by simp))) (fun _ => rfl)
abbrev slotV (i : Fin 3) : Memref sig .tc .vmem S4096x512 .i8 := (slotRaw i).squeeze S4096x512 squeezes_S1x4096x512_S4096x512
abbrev tailH : Memref sig .tc .hbm S4096x256 .i8 :=
  wH.slice (Rect.unit (s := S4096x11008) ![0, 10752] S4096x256.size inb_S4096x11008_S4096x256_0_10752) (fun _ => rfl)
abbrev tailV : Memref sig .tc .vmem S4096x256 .i8 :=
  (wv.slice (Rect.unit (s := S3x4096x512) ![2, 0, 0] S1x4096x256.size inb_S3x4096x512_S1x4096x256_2_0_0) (fun _ => rfl)).squeeze S4096x256 squeezes_S1x4096x256_S4096x256
theorem wordsWin (t : Fin 20) : (winH t).view.WordExact := (Memref.isWhole_whole _).wordExact_slice rfl _ (fullRows _)
theorem wordsSlot (i : Fin 3) : (slotV i).view.WordExact := ((Memref.isWhole_whole _).wordExact_slice rfl _ (fullRows3 _)).reshape _ _
theorem wordsTailH : tailH.view.WordExact := (Memref.isWhole_whole _).wordExact_slice rfl _ (fullRows _)
theorem wordsTailV : tailV.view.WordExact := ((Memref.isWhole_whole _).wordExact_slice rfl _ (fullRows3 _)).reshape _ _
abbrev startW (t : Fin 20) (i : Fin 3) : Pg F PUnit :=
  Prog.lift (.enqueueDma (winH t) (.here (slotV i)) (.dma (semAt wSem i).sem) (wordsWin t) (wordsSlot i) ⟨Or.inl rfl, trivial⟩)
abbrev waitW (t : Fin 20) (i : Fin 3) : Pg F PUnit :=
  Prog.lift (.waitDma2 (semAt wSem i).sem (winH t) (slotV i) (wordsWin t) (wordsSlot i))
abbrev startTail : Pg F PUnit :=
  Prog.lift (.enqueueDma tailH (.here tailV) (.dma (semAt wSem 2).sem) wordsTailH wordsTailV ⟨Or.inl rfl, trivial⟩)
abbrev waitTail : Pg F PUnit := Prog.lift (.waitDma2 (semAt wSem 2).sem tailH tailV wordsTailH wordsTailV)

/-- Window `t` of `y`, its slot; the three tiles of `y` outside the windows. -/
abbrev yWin (t : Fin 20) : Memref sig .tc .hbm S768x512 .bf16 :=
  yH.slice (Rect.unit (s := S768x11008) ![0, 512 * t.val + 256] S768x512.size
    (Rect.inb₂ (d := ![768, 11008]) (size := ![768, 512]) (by simp) (by have := t.isLt; simp; omega))) (fun _ => rfl)
abbrev ySlot (i : Fin 2) : Memref sig .tc .vmem S768x512 .bf16 :=
  (yv.slice (Rect.unit (s := S2x768x512) ![i.val, 0, 0] S1x768x512.size
    (inb₃ (d := ![2, 768, 512]) (size := ![1, 768, 512]) (by have := i.isLt; simp; omega) (by simp) (by simp))) (fun _ => rfl)).squeeze S768x512 squeezes_S1x768x512_S768x512
/-- The column tile of `y` that tile buffer `i` holds. -/
def tileNo : Fin 3 → Fin 43 := ![0, 41, 42]
abbrev yTile (i : Fin 3) : Memref sig .tc .hbm S768x256 .bf16 :=
  yH.slice (Rect.unit (s := S768x11008) ![0, 256 * (tileNo i).val] S768x256.size
    (Rect.inb₂ (d := ![768, 11008]) (size := ![768, 256]) (by simp) (by have := (tileNo i).isLt; simp; omega))) (fun _ => rfl)
abbrev y0Slot (i : Fin 3) : Memref sig .tc .vmem S768x256 .bf16 :=
  (y0v.slice (Rect.unit (s := S3x768x256) ![i.val, 0, 0] S1x768x256.size
    (inb₃ (d := ![3, 768, 256]) (size := ![1, 768, 256]) (by have := i.isLt; simp; omega) (by simp) (by simp))) (fun _ => rfl)).squeeze S768x256 squeezes_S1x768x256_S768x256
theorem wordsYWin (t : Fin 20) : (yWin t).view.WordExact := (Memref.isWhole_whole _).wordExact_slice rfl _ (fullRows _)
theorem wordsYSlot (i : Fin 2) : (ySlot i).view.WordExact := ((Memref.isWhole_whole _).wordExact_slice rfl _ (fullRows3 _)).reshape _ _
theorem wordsYTile (i : Fin 3) : (yTile i).view.WordExact := (Memref.isWhole_whole _).wordExact_slice rfl _ (fullRows _)
theorem wordsY0Slot (i : Fin 3) : (y0Slot i).view.WordExact := ((Memref.isWhole_whole _).wordExact_slice rfl _ (fullRows3 _)).reshape _ _
abbrev startY (t : Fin 20) (i : Fin 2) : Pg F PUnit :=
  Prog.lift (.enqueueDma (ySlot i) (.here (yWin t)) (.dma (semAt ySem i).sem) (wordsYSlot i) (wordsYWin t) ⟨Or.inl rfl, trivial⟩)
abbrev waitY (t : Fin 20) (i : Fin 2) : Pg F PUnit :=
  Prog.lift (.waitDma2 (semAt ySem i).sem (ySlot i) (yWin t) (wordsYSlot i) (wordsYWin t))
abbrev startY0 (i : Fin 3) : Pg F PUnit :=
  Prog.lift (.enqueueDma (y0Slot i) (.here (yTile i)) (.dma (semAt y0Sem i).sem) (wordsY0Slot i) (wordsYTile i) ⟨Or.inl rfl, trivial⟩)
abbrev waitY0 (i : Fin 3) : Pg F PUnit :=
  Prog.lift (.waitDma2 (semAt y0Sem i).sem (y0Slot i) (yTile i) (wordsY0Slot i) (wordsYTile i))

/-! ## The quantiser -/

theorem inbRX (r : ℕ) {R : ℕ} (h : r + R ≤ 768) (k : Fin 16) : ∀ a, (![r, 256 * k.val] : Fin 2 → ℕ) a + (![R, 256] : Fin 2 → ℕ) a ≤ S768x4096.size a :=
  Rect.inb₂ (d := ![768, 4096]) (size := ![R, 256]) h (by have := k.isLt; simp; omega)
theorem inb1X {R : ℕ} (k : Fin 16) : ∀ a, (![0, 256 * k.val] : Fin 2 → ℕ) a + (![R, 256] : Fin 2 → ℕ) a ≤ (⟨2, ![R, 4096]⟩ : Shape).size a :=
  Rect.inb₂ (d := ![R, 4096]) (size := ![R, 256]) (by simp) (by have := k.isLt; simp; omega)

/-- Rows `16i` of block `k` of `x`. -/
abbrev ldX16 (k : Fin 16) (i : Fin 48) : Pg F (Vec F S16x256 .bf16) :=
  ld xv ![16 * i.val, 256 * k.val] ![16, 256] (inbRX (16 * i.val) (by have := i.isLt; omega) k) h_S16x256

/-- Four lanes' running maxima and minima. -/
structure Lanes (F : FTy → Type) [FloatOps F] where
  hi : Fin 4 → FVec F S16x256 .bf16
  lo : Fin 4 → FVec F S16x256 .bf16

/-- Four more row groups, one to a lane. -/
def lanes4 (k : Fin 16) (j : Fin 12) (s : Lanes F) : Pg F (Lanes F) := do
  let a ← ldX16 k ⟨4 * j.val, by have := j.isLt; omega⟩
  let b ← ldX16 k ⟨4 * j.val + 1, by have := j.isLt; omega⟩
  let c ← ldX16 k ⟨4 * j.val + 2, by have := j.isLt; omega⟩
  let d ← ldX16 k ⟨4 * j.val + 3, by have := j.isLt; omega⟩
  .ret ⟨![maximumf (s.hi 0) a, maximumf (s.hi 1) b, maximumf (s.hi 2) c, maximumf (s.hi 3) d],
    ![minimumf (s.lo 0) a, minimumf (s.lo 1) b, minimumf (s.lo 2) c, minimumf (s.lo 3) d]⟩

/-- The first four row groups. -/
def lanes0 (k : Fin 16) : Pg F (Lanes F) := do
  let a ← ldX16 k ⟨0, by omega⟩
  let b ← ldX16 k ⟨1, by omega⟩
  let c ← ldX16 k ⟨2, by omega⟩
  let d ← ldX16 k ⟨3, by omega⟩
  .ret ⟨![a, b, c, d], ![a, b, c, d]⟩

/-- The centre of each column from the lanes' extrema. -/
def centre (s : Lanes F) : FVec F S1x256 .f32 :=
  let hi := maximumf (maximumf (s.hi 0) (s.hi 1)) (maximumf (s.hi 2) (s.hi 3))
  let lo := minimumf (minimumf (s.lo 0) (s.lo 1)) (minimumf (s.lo 2) (s.lo 3))
  let hi1 : FVec F S1x256 .f32 := shapeCast S1x256 (multiReduction .maximumf [0] S256 (extf .f32 hi bitsLt_bf16_f32) 0xFF800000#32 reduces_S16x256_S256 (.inl rfl) rfl) shapeCasts_S256_S1x256
  let lo1 : FVec F S1x256 .f32 := shapeCast S1x256 (multiReduction .minimumf [0] S256 (extf .f32 lo bitsLt_bf16_f32) 0x7F800000#32 reduces_S16x256_S256 (.inl rfl) rfl) shapeCasts_S256_S1x256
  mulf (addf hi1 lo1) (broadcast S1x256 (Scalar.ofBits .f32 0x3F000000#32))

/-- The scaled centre, rounded to bf16, in eight rows. -/
def scaled (z s : FVec F S1x256 .f32) : FVec F S8x256 .f32 :=
  broadcastTo S8x256 (shapeCast S1x256 (extf .f32 (truncf .bf16 (divf z s) bitsLt_bf16_f32) bitsLt_bf16_f32) shapeCasts_S1x256_S1x256) broadcasts_S1x256_S8x256

/-- What each column is multiplied by. -/
def factor (s : FVec F S1x256 .f32) (xs : Elt F .f32) : FVec F S1x256 .f32 :=
  divf (broadcast S1x256 (Scalar.ofBits .f32 0x3F800000#32)) (mulf s (broadcast S1x256 xs))

/-- The rounded and clipped rows. -/
def codes (z inv : FVec F S1x256 .f32) (v : FVec F S32x256 .bf16) : FVec F S32x256 .f32 :=
  minimumf (broadcast S32x256 (Scalar.ofBits .f32 0x42FE0000#32))
    (maximumf (broadcast S32x256 (Scalar.ofBits .f32 0xC2FE0000#32))
      (roundeven (mulf (subf (extf .f32 v bitsLt_bf16_f32) (broadcastTo S32x256 z broadcasts_S1x256_S32x256)) (broadcastTo S32x256 inv broadcasts_S1x256_S32x256))))

theorem storesQ (k : Fin 16) (i : Fin 24) (h) : (qv.access (Rect.unit (s := S768x4096) ![32 * i.val, 256 * k.val] ![32, 256] h)).Stores Finset.univ :=
  View.stores_vmem h_S32x256 ((Memref.isWhole_whole _).storeExact_slice rfl _ (someRows _ ((by decide : 4 ∣ 32).mul_right _) (by decide))) (fun _ => rfl)
theorem storesQb (k : Fin 16) (i : Fin 24) (h) : (qbv.access (Rect.unit (s := S768x4096) ![32 * i.val, 256 * k.val] ![32, 256] h)).Stores Finset.univ :=
  View.stores_vmem h_S32x256 ((Memref.isWhole_whole _).storeExact_slice rfl _ (someRows _ ((by decide : 2 ∣ 32).mul_right _) (by decide))) (fun _ => rfl)

/-- Rows `32i` of block `k`: the codes and the codes at bf16. -/
def rows32 (k : Fin 16) (z inv : FVec F S1x256 .f32) (i : Fin 24) : Pg F PUnit := do
  let v : Vec F S32x256 .bf16 ← ld xv ![32 * i.val, 256 * k.val] ![32, 256] (inbRX (32 * i.val) (by have := i.isLt; omega) k) h_S32x256
  let _ : Vec F S32x256 .i8 ← ld qv ![32 * i.val, 256 * k.val] ![32, 256] (inbRX (32 * i.val) (by have := i.isLt; omega) k) h_S32x256
  st qv ![32 * i.val, 256 * k.val] ![32, 256] (inbRX (32 * i.val) (by have := i.isLt; omega) k)
    (shapeCast S32x256 (fptosi 8 (codes z inv v)) shapeCasts_S32x256_S32x256) (storesQ k i _)
  let _ : Vec F S32x256 .bf16 ← ld qbv ![32 * i.val, 256 * k.val] ![32, 256] (inbRX (32 * i.val) (by have := i.isLt; omega) k) h_S32x256
  st qbv ![32 * i.val, 256 * k.val] ![32, 256] (inbRX (32 * i.val) (by have := i.isLt; omega) k)
    (shapeCast S32x256 (truncf .bf16 (codes z inv v) bitsLt_bf16_f32) shapeCasts_S32x256_S32x256) (storesQb k i _)

def xsWord : Pg F (Elt F .f32) := smemLoad xss (Rect.unit (s := S1) ![0] S1.size inb_S1_S1_0) numel1_S1 rfl

/-- Quantise block `k`. -/
def quantise (k : Fin 16) : Pg F PUnit := do
  let l0 ← lanes0 k
  let l ← forUp (lanes4 k) 11 1 (by omega) l0
  let z := centre l
  let _ : Vec F S1x256 .f32 ← ld zv ![0, 256 * k.val] ![1, 256] (inb1X k) h_S1x256
  st zv ![0, 256 * k.val] ![1, 256] (inb1X k) (shapeCast S1x256 z shapeCasts_S1x256_S1x256) (View.stores_vmem_bits_univ h_S1x256 rfl)
  let s : Vec F S1x256 .f32 ← ld sv ![0, 256 * k.val] ![1, 256] (inb1X k) h_S1x256
  let _ : Vec F S8x256 .f32 ← ld uv ![0, 256 * k.val] ![8, 256] (inb1X k) h_S8x256
  st uv ![0, 256 * k.val] ![8, 256] (inb1X k) (shapeCast S8x256 (scaled z s) shapeCasts_S8x256_S8x256) (View.stores_vmem_bits_univ h_S8x256 rfl)
  let xs ← xsWord
  forN 24 (fun i _ => rows32 k z (factor s xs) i) ⟨⟩

/-! ## The matrix unit -/

/-- 128 rows of weights from their codes and their row of scales. -/
def deq (c : Vec F S128x256 .i8) (v : Vec F S1x256 .f32) : FVec F S128x256 .bf16 :=
  shapeCast S128x256 (mulf (shapeCast S8x16x256 (sitofp .bf16 c) shapeCasts_S128x256_S8x16x256)
    (broadcastTo S8x16x256 (shapeCast S1x16x256 (truncf .bf16 (broadcastTo S16x256 (shapeCast S1x256 v shapeCasts_S1x256_S1x256) broadcasts_S1x256_S16x256) bitsLt_bf16_f32)
      shapeCasts_S16x256_S1x16x256) broadcasts_S1x16x256_S8x16x256)) shapeCasts_S8x16x256_S128x256

/-- 128 rows of dequantised weights: codes at rows `128g` and columns `256 lane` of a slot, scales at `(g, 256n)`. -/
def half (slot : Fin 3) (g : Fin 32) (lane : Fin 2) (n : Fin 43) : Pg F (FVec F S128x256 .bf16) := do
  let c : Vec F S128x256 .i8 ← ld (slotV slot) ![128 * g.val, 256 * lane.val] ![128, 256]
    (Rect.inb₂ (d := ![4096, 512]) (size := ![128, 256]) (by have := g.isLt; simp; omega) (by have := lane.isLt; simp; omega)) h_S128x256
  let v : Vec F S1x256 .f32 ← ld wsv ![g.val, 256 * n.val] ![1, 256]
    (Rect.inb₂ (d := ![32, 11008]) (size := ![1, 256]) (by have := g.isLt; simp; omega) (by have := n.isLt; simp; omega)) h_S1x256
  .ret (deq c v)

/-- Two halves of a tile. -/
def glued (a b : FVec F S128x256 .bf16) : FVec F S256x256 .bf16 :=
  concatenate S256x256 0 [⟨S128x256, a⟩, ⟨S128x256, b⟩] concatenates_S128x256_S128x256_S256x256_d0

/-- Dequantise tile `k` of column tile `n` and stage it for both units. -/
def push (slot : Fin 3) (k : Fin 16) (lane : Fin 2) (n : Fin 43) (reg : Fin 2) (s : Mxu F) : Pg F (Mxu F) := do
  let a ← half slot ⟨2 * k.val, by have := k.isLt; omega⟩ lane n
  let b ← half slot ⟨2 * k.val + 1, by have := k.isLt; omega⟩ lane n
  let v : FVec F S256x256 .bf16 := glued a b
  let s ← s.pushRhs 0 reg false v
  s.pushRhs 1 reg false v

theorem fitsP (par : Fin 2) (p : Fin 3) : Mxu.Fits (98 * par.val + 32 * p.val) 128 := by revert par p; decide
theorem fitsC (par : Fin 2) : Mxu.Fits (98 * par.val + 96) 8 := by revert par; decide

/-- Rows `384m + 128p` of block `k` of the codes. -/
abbrev ldA (k : Fin 16) (m : Fin 2) (p : Fin 3) : Pg F (Vec F S128x256 .bf16) :=
  ld qbv ![384 * m.val + 128 * p.val, 256 * k.val] ![128, 256] (inbRX _ (by have := m.isLt; have := p.isLt; omega) k) h_S128x256

/-- One tile's products with the codes, into the accumulators of `par`. -/
def accumQ (par : Fin 2) (k : Fin 16) (reg : Fin 2) (s : Mxu F) : Pg F (Mxu F) := do
  let a ← ldA k 0 0
  let s := s.accLhs 0 reg (98 * par.val + 32 * 0) a (fitsP par 0)
  let a ← ldA k 1 0
  let s := s.accLhs 1 reg (98 * par.val + 32 * 0) a (fitsP par 0)
  let a ← ldA k 0 1
  let s ← s.accLhsLoaded 0 (98 * par.val + 32 * 1) a (fitsP par 1)
  let a ← ldA k 1 1
  let s ← s.accLhsLoaded 1 (98 * par.val + 32 * 1) a (fitsP par 1)
  let a ← ldA k 0 2
  let s ← s.accLhsLoaded 0 (98 * par.val + 32 * 2) a (fitsP par 2)
  let a ← ldA k 1 2
  s.accLhsLoaded 1 (98 * par.val + 32 * 2) a (fitsP par 2)

/-- Its product with the scaled centre. -/
def accumU (par : Fin 2) (k : Fin 16) (s : Mxu F) : Pg F (Mxu F) := do
  let u : Vec F S8x256 .f32 ← ld uv ![0, 256 * k.val] ![8, 256] (inb1X k) h_S8x256
  s.accLhsLoaded ⟨k.val % 2, Nat.mod_lt _ (by omega)⟩ (98 * par.val + 96) u (fitsC par)

/-- One tile's products into the accumulators of `par`. -/
def accum (par : Fin 2) (k : Fin 16) (reg : Fin 2) (s : Mxu F) : Pg F (Mxu F) :=
  (accumQ par k reg s).bind (accumU par k)

/-- The corrected bias from the two units' sums. -/
def corrected (b : FVec F S1x256 .f32) (c0 c1 : FVec F S8x256 .f32) : FVec F S1x256 .f32 :=
  addf b (extractStridedSlice S1x256 ![0, 0] (addf c0 c1) slices_S8x256_o0_0_S1x256)

/-- What one block of 128 rows of `y` is made of. -/
def outRows (acc : FVec F S128x256 .f32) (xs : Elt F .f32) (bc : FVec F S1x256 .f32) : FVec F S128x256 .bf16 :=
  truncf .bf16 (addf (mulf acc (broadcast S128x256 xs)) (broadcastTo S128x256 bc broadcasts_S1x256_S128x256)) bitsLt_bf16_f32

theorem storesY {Z C : ℕ} (yb : Memref sig .tc .vmem ⟨3, ![Z, 768, C]⟩ .bf16) (hy : yb.IsWhole) (z : ℕ) (m : Fin 2) (p : Fin 3) (c : ℕ) (h) :
    (yb.access (Rect.unit (s := ⟨3, ![Z, 768, C]⟩) ![z, 384 * m.val + 128 * p.val, c] ![1, 128, 256] h)).Stores Finset.univ :=
  View.stores_vmem h_S1x128x256 (hy.storeExact_slice rfl _ (someRows3 _ (((by decide : 2 ∣ 384).mul_right _).add ((by decide : 2 ∣ 128).mul_right _)) (by decide))) (fun _ => rfl)

/-- 128 rows of `y` out of unit `m`. -/
def finRows {Z C : ℕ} (yb : Memref sig .tc .vmem ⟨3, ![Z, 768, C]⟩ .bf16) (hy : yb.IsWhole) (ys : Memref sig .tc .vmem ⟨2, ![768, C]⟩ .bf16)
    (z : Fin Z) (lane : ℕ) (hl : 256 * lane + 256 ≤ C) (par : Fin 2) (xs : Elt F .f32) (bc : FVec F S1x256 .f32) (p : Fin 3) (m : Fin 2) (s : Mxu F) : Pg F (Mxu F) := do
  let acc : FVec F S128x256 .f32 := s.read m (98 * par.val + 32 * p.val) (fitsP par p)
  let s := s.pop m (98 * par.val + 32 * p.val) 128 (fitsP par p)
  let _ : Vec F S128x256 .bf16 ← ld ys ![384 * m.val + 128 * p.val, 256 * lane] ![128, 256]
    (Rect.inb₂ (d := ![768, C]) (size := ![128, 256]) (by have := m.isLt; have := p.isLt; simp; omega) hl) h_S128x256
  st yb ![z.val, 384 * m.val + 128 * p.val, 256 * lane] ![1, 128, 256]
    (inb₃ (d := ![Z, 768, C]) (size := ![1, 128, 256]) z.isLt (by have := m.isLt; have := p.isLt; simp; omega) hl)
    (shapeCast S1x128x256 (shapeCast S128x256 (outRows acc xs bc) shapeCasts_S128x256_S128x256) shapeCasts_S128x256_S1x128x256) (storesY yb hy _ m p _ _)
  .ret s

/-- Column tile `n` finished: its corrected bias and its rows of `y`. -/
def finish {Z C : ℕ} (yb : Memref sig .tc .vmem ⟨3, ![Z, 768, C]⟩ .bf16) (hy : yb.IsWhole) (ys : Memref sig .tc .vmem ⟨2, ![768, C]⟩ .bf16)
    (z : Fin Z) (lane : ℕ) (hl : 256 * lane + 256 ≤ C) (par : Fin 2) (n : Fin 43) (s : Mxu F) : Pg F (Mxu F) := do
  let xs ← xsWord
  let c0 : FVec F S8x256 .f32 := s.read 0 (98 * par.val + 96) (fitsC par)
  let s := s.pop 0 (98 * par.val + 96) 8 (fitsC par)
  let c1 : FVec F S8x256 .f32 := s.read 1 (98 * par.val + 96) (fitsC par)
  let s := s.pop 1 (98 * par.val + 96) 8 (fitsC par)
  let b : Vec F S1x256 .f32 ← ld biasv ![0, 256 * n.val] ![1, 256]
    (Rect.inb₂ (d := ![1, 11008]) (size := ![1, 256]) (by simp) (by have := n.isLt; simp; omega)) h_S1x256
  let bc : FVec F S1x256 .f32 := corrected b c0 c1
  let _ : Vec F S1x256 .f32 ← ld bcv ![0, 256 * n.val] ![1, 256]
    (Rect.inb₂ (d := ![1, 11008]) (size := ![1, 256]) (by simp) (by have := n.isLt; simp; omega)) h_S1x256
  st bcv ![0, 256 * n.val] ![1, 256]
    (Rect.inb₂ (d := ![1, 11008]) (size := ![1, 256]) (by simp) (by have := n.isLt; simp; omega))
    (shapeCast S1x256 bc shapeCasts_S1x256_S1x256) (View.stores_vmem_bits_univ h_S1x256 rfl)
  forN 3 (fun p s => (finRows yb hy ys z lane hl par xs bc p 0 s).bind (finRows yb hy ys z lane hl par xs bc p 1)) s

/-! ## The phases -/

abbrev smallCopy {sp sp' : Space} {s : Shape} {e : EltTy} (a : Memref sig .tc sp s e) (b : Memref sig .tc sp' s e) (d : DmaSems sig S_)
    (ha : a.view.WordExact) (hb : b.view.WordExact) (ht : DmaTarget.Typed (nD := nD) (τ := τ) (p := .tc) sp (.dma d.sem) (.here b)) : Pg F PUnit :=
  Prog.lift (.enqueueDma a (.here b) (.dma d.sem) ha hb ht)
abbrev smallWait {sp sp' : Space} {s : Shape} {e : EltTy} (a : Memref sig .tc sp s e) (b : Memref sig .tc sp' s e) (d : DmaSems sig S_)
    (ha : a.view.WordExact) (hb : b.view.WordExact) : Pg F PUnit :=
  Prog.lift (.waitDma2 d.sem a b ha hb)

theorem wh {b : Ref sig .tc} : (Memref.whole b).view.WordExact := (Memref.isWhole_whole b).wordExact

def starts : Pg F PUnit := do
  smallCopy xsH xss (semAt smallSem 0) wh wh ⟨Or.inl rfl, trivial⟩
  smallCopy sH sv (semAt smallSem 1) wh wh ⟨Or.inl rfl, trivial⟩
  startX 0
  smallCopy wsH wsv (semAt smallSem 2) wh wh ⟨Or.inl rfl, trivial⟩
  startHead 0
  let _ ← forUp (N := 16) (fun k _ => (startX k).bind fun _ => startHead k) 15 1 (by omega) ⟨⟩
  smallCopy biasH biasv (semAt smallSem 3) wh wh ⟨Or.inl rfl, trivial⟩
  smallCopy xsH xsoH (semAt outSem 0) wh wh ⟨Or.inl rfl, trivial⟩
  startW 0 0
  startW 1 1
  smallWait xsH xss (semAt smallSem 0) wh wh
  smallWait sH sv (semAt smallSem 1) wh wh

def headRest (k : Fin 16) (s : Mxu F) : Pg F (Mxu F) := do
  quantise k
  let s ← push 2 k 0 0 0 s
  let s ← accum 0 k 0 s
  let s ← push 2 k 1 1 1 s
  let s ← accum 1 k 1 s
  startQ k
  .ret s
def headStep (k : Fin 16) (s : Mxu F) : Pg F (Mxu F) := do
  waitX k
  waitHead k
  headRest k s
def headStep0 (s : Mxu F) : Pg F (Mxu F) := do
  waitX 0
  waitHead 0
  smallWait wsH wsv (semAt smallSem 2) wh wh
  headRest 0 s

def between (s : Mxu F) : Pg F (Mxu F) := do
  smallCopy zv zH (semAt outSem 1) wh wh ⟨Or.inl rfl, trivial⟩
  smallWait biasH biasv (semAt smallSem 3) wh wh
  waitW 0 0
  let s ← push 0 0 0 2 0 s
  let s ← finish y0v (Memref.isWhole_whole _) (y0Slot 0) 0 0 (by omega) 0 0 s
  startY0 0
  .ret s

/-- The copies at the beginning of trip `t`. -/
def tripCopies (t : Fin 20) : Pg F PUnit := do
  if h : t.val + 1 < 20 then waitW ⟨t.val + 1, h⟩ ⟨(t.val + 1) % 3, Nat.mod_lt _ (by omega)⟩ else pure ⟨⟩
  if h : t.val + 2 < 20 then startW ⟨t.val + 2, h⟩ ⟨(t.val + 2) % 3, Nat.mod_lt _ (by omega)⟩ else pure ⟨⟩
  if t.val = 18 then startTail else pure ⟨⟩
  if t.val = 19 then waitTail else pure ⟨⟩
  if h : 0 < t.val then startY ⟨t.val - 1, by omega⟩ ⟨1 - t.val % 2, by omega⟩ else pure ⟨⟩
  if h : 1 < t.val then waitY ⟨t.val - 2, by omega⟩ ⟨t.val % 2, by omega⟩ else pure ⟨⟩

abbrev tSlot (t : Fin 20) : Fin 3 := ⟨t.val % 3, Nat.mod_lt _ (by omega)⟩
abbrev tNext (t : Fin 20) : Fin 3 := ⟨(t.val + 1) % 3, Nat.mod_lt _ (by omega)⟩
abbrev tY (t : Fin 20) : Fin 2 := ⟨t.val % 2, by omega⟩
/-- Column tile `2t + j`. -/
abbrev tTile (t : Fin 20) (j : Fin 5) (h : j.val ≤ 4 := by decide) : Fin 43 := ⟨2 * t.val + j.val, by have := t.isLt; have := j.isLt; omega⟩
abbrev odd (k : ℕ) : Fin 2 := ⟨k % 2, by omega⟩

/-- The `k`-th product of a column tile in slot `slot`, with the next tile staged, `k > 0`. -/
def step (slot : Fin 3) (lane : Fin 2) (n : Fin 43) (par : Fin 2) (k : Fin 15) (s : Mxu F) : Pg F (Mxu F) := do
  let s ← accum par ⟨k.val, by omega⟩ (odd k.val) s
  push slot ⟨k.val + 1, by omega⟩ lane n (odd (k.val + 1)) s

def trip (t : Fin 20) (s : Mxu F) : Pg F (Mxu F) := do
  tripCopies t
  let s ← step (tSlot t) 0 (tTile t 2) 0 0 s
  let s ← finish yv (Memref.isWhole_whole _) (ySlot (tY t)) (tY t) 0 (by omega) 1 (tTile t 1) s
  let s ← forUp (N := 15) (step (tSlot t) 0 (tTile t 2) 0) 14 1 (by omega) s
  let s ← accum 0 15 1 s
  let s ← push (tSlot t) 0 1 (tTile t 3) 0 s
  let s ← step (tSlot t) 1 (tTile t 3) 1 0 s
  let s ← finish yv (Memref.isWhole_whole _) (ySlot (tY t)) (tY t) 1 (by omega) 0 (tTile t 2) s
  let s ← forUp (N := 15) (step (tSlot t) 1 (tTile t 3) 1) 14 1 (by omega) s
  let s ← accum 1 15 1 s
  push (tNext t) 0 0 (tTile t 4) 0 s

def lastA (s : Mxu F) : Pg F (Mxu F) := do
  startY 19 1
  accumQ 0 0 0 s

def lastB (s : Mxu F) : Pg F (Mxu F) := do
  let s ← accumU 0 0 s
  let s ← push 2 1 0 42 1 s
  let s ← finish y0v (Memref.isWhole_whole _) (y0Slot 1) 1 0 (by omega) 1 41 s
  let s ← forUp (N := 15) (step 2 0 42 0) 14 1 (by omega) s
  let s ← accum 0 15 1 s
  startY0 1
  let s ← finish y0v (Memref.isWhole_whole _) (y0Slot 2) 2 0 (by omega) 0 42 s
  startY0 2
  smallCopy bcv bcH (semAt outSem 2) wh wh ⟨Or.inl rfl, trivial⟩
  let _ ← forN 16 (fun k _ => waitQ k) ⟨⟩
  smallWait zv zH (semAt outSem 1) wh wh
  smallWait xsH xsoH (semAt outSem 0) wh wh
  waitY 18 0
  waitY 19 1
  waitY0 0
  waitY0 1
  .ret s

def lastC (s : Mxu F) : Pg F PUnit := do
  waitY0 2
  smallWait bcv bcH (semAt outSem 2) wh wh
  s.exit

/-- The head: every copy in, the quantiser, the first two column tiles. -/
def head : Pg F (Mxu F) := do
  starts
  let s ← headStep0 Mxu.init
  let s ← forUp headStep 15 1 (by omega) s
  between s

end OsPlus
end
-- ==== Proof.Base.lean ====
module

public import proofs.«01_k».proof.Proof.Struct
public import proofs.«01_k».proof.Proof.Gen.Kernel.Launch
public import Idealize.ShloMosaic.Lib.Pipeline.FrameBody
public import Idealize.ShloMosaic.Lib.Pipeline.FrameSuffixV
public import Idealize.ShloMosaic.Lib.Transfers
public import Idealize.ShloMosaic.Lib.ViewIndex
public import Idealize.ShloMosaic.Lib.Ring
public import Idealize.ShloMosaic.Lib.Tactic

/-! Rules for the kernel's loads, stores, copies and loops: a buffer is held at contents that agree with a target where the target has been reached. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

/-- The precondition of a program of the kernel's core. -/
abbrev WP {α : Type} (p : Pg F α) (Q : α → sProp 𝕄) : sProp 𝕄 :=
  wp frame (wpE (defs₀ (F := F)) Variants.none (c : Thread nD τ) none) Set.univ p Q

variable {c}

theorem seq {α β : Type} {P : sProp 𝕄} {p : Pg F α} {R : α → sProp 𝕄} {k : α → Pg F β} {Q : β → sProp 𝕄} (h : P ⊢ WP c p R) :
    P ⊢ iprop((∀ x, R x -∗ WP c (k x) Q) -∗ WP c (p.bind k) Q) := by
  have e : WP c (p.bind k) Q = WP c p (fun a => WP c (k a) Q) := wp_bind frame _ Set.univ p k Q
  rw [e]
  exact h.trans (wp_wand frame _ Set.univ)

theorem last {α : Type} {P : sProp 𝕄} {p : Pg F α} {R Q : α → sProp 𝕄} (h : P ⊢ WP c p R) :
    P ⊢ iprop((∀ x, R x -∗ Q x) -∗ WP c p Q) := h.trans (wp_wand frame _ Set.univ)

theorem done {α : Type} {x : α} {Q : α → sProp 𝕄} : Q x ⊢ WP (F := F) c (.ret x) Q := le_wp_ret _ _ _ x Q

/-- A loop's triple from its trips'. -/
theorem up {σ : Type} {N : ℕ} {f : Fin N → σ → Pg F σ} (lo : ℕ) (I : ℕ → σ → sProp 𝕄) (hf : ∀ (i : Fin N) s, lo ≤ i.val → I i.val s ⊢ WP c (f i s) (I (i.val + 1))) :
    ∀ (n i : ℕ) (h : i + n ≤ N) (_ : lo ≤ i) (s : σ), I i s ⊢ WP c (forUp f n i h s) (I (i + n))
  | 0, i, h, _, s => by simpa only [forUp, Nat.add_zero] using done
  | n + 1, i, h, hl, s => by
    have e : WP c ((f ⟨i, by omega⟩ s).bind (forUp f n (i + 1) (by omega))) (I (i + (n + 1)))
      = WP c (f ⟨i, by omega⟩ s) (fun a => WP c (forUp f n (i + 1) (by omega) a) (I (i + (n + 1)))) := wp_bind frame _ Set.univ _ _ _
    unfold forUp; rw [e]
    refine (hf ⟨i, by omega⟩ s hl).trans (wp_mono frame _ _ fun a => ?_)
    have := up lo I hf n (i + 1) (by omega) (by omega) a
    have e : I (i + 1 + n) = I (i + (n + 1)) := by congr 1; omega
    rwa [e] at this

/-- The core's waits, whichever they were. -/
def Ow (c : Dev nD) : sProp 𝕄 := iprop(∃ W, owes (c : Thread nD τ) 0 W)

section Mem
variable {sp : Space} {s : Shape} {e : EltTy}

/-- Elements `S` of a buffer, which agree with `T` where `D` holds. -/
def Ag (c : Dev nD) (m : Memref sig .tc sp s e) (S : Finset (Idx (m.view.loc (c : Thread nD τ)))) (D : Idx (m.view.loc (c : Thread nD τ)) → Prop)
    (T : Buf (Elt F) (m.view.loc (c : Thread nD τ))) : sProp 𝕄 :=
  iprop(∃ g, ⌜∀ i ∈ S, D i → g i = T i⌝ ∗ (m.view.loc (c : Thread nD τ) ↦[S]{fullShare} g))

variable {m : Memref sig .tc sp s e} {S : Finset (Idx (m.view.loc (c : Thread nD τ)))} {D D' : Idx (m.view.loc (c : Thread nD τ)) → Prop}
  {T : Buf (Elt F) (m.view.loc (c : Thread nD τ))}

theorem Ag.weak (h : ∀ i ∈ S, D' i → D i) : (Ag c m S D T : sProp 𝕄) ⊢ Ag c m S D' T := by
  unfold Ag
  iintro ⟨%g, %hg, H⟩
  iexists g
  isplitr; · ipureintro; exact fun i hi hd => hg i hi (h i hi hd)
  iexact H

theorem Ag.intro : (m.view.loc (c : Thread nD τ) ↦[S]{fullShare} T) ⊢ (Ag c m S D T : sProp 𝕄) := by
  unfold Ag
  iintro H
  iexists T
  isplitr; · ipureintro; exact fun i _ _ => rfl
  iexact H

theorem Ag.junk {T' : Buf (Elt F) (m.view.loc (c : Thread nD τ))} : (m.view.loc (c : Thread nD τ) ↦[S]{fullShare} T') ⊢ (Ag c m S (fun _ => False) T : sProp 𝕄) := by
  unfold Ag
  iintro H
  iexists T'
  isplitr; · ipureintro; exact fun i _ h => h.elim
  iexact H

theorem Ag.exact (h : ∀ i ∈ S, D i) : (Ag c m S D T : sProp 𝕄) ⊢ (m.view.loc (c : Thread nD τ) ↦[S]{fullShare} T) := by
  unfold Ag
  iintro ⟨%g, %hg, H⟩
  have e := pointsTo_congr (Ix := Unit) (Name := ℕ) (U := Pipeline.UD sig nD τ) (Lvl := ℕ) (Val := Elt F) (ℓ := m.view.loc (c : Thread nD τ)) (I := S) (q := fullShare) (fun i hi => hg i hi (h i hi))
  rw [← e]
  iexact H

/-- A load of reached elements. -/
theorem ld_ag {off size : Fin s.rank → ℕ} {m : Memref sig .tc .vmem s e} {S : Finset (Idx (m.view.loc (c : Thread nD τ)))} {D : Idx (m.view.loc (c : Thread nD τ)) → Prop}
    {T : Buf (Elt F) (m.view.loc (c : Thread nD τ))} (h) (hp)
    (hS : ∀ i ∈ (m.access (Rect.unit off size h)).set, i ∈ S) (hD : ∀ i ∈ (m.access (Rect.unit off size h)).set, D i) :
    (Ag c m S D T : sProp 𝕄) ⊢ WP c (ld m off size h hp) (fun v => iprop(⌜v = (m.access (Rect.unit off size h)).read (Elt F) T⌝ ∗ Ag c m S D T)) := by
  unfold Ag
  iintro ⟨%g, %hg, H⟩
  iapply (wp_load_rect (m := m) (r := Rect.unit off size h) (f := g) (S := S) Variants.none (c : Thread nD τ) none Set.univ hS) $$ H
  iintro H
  iapply done
  isplitr
  · ipureintro
    funext x
    exact congrArg (_root_.cast _) (hg _ (hS _ (View.emb_mem_set _ x)) (hD _ (View.emb_mem_set _ x)))
  iexists g
  isplitr; · ipureintro; exact hg
  iexact H

/-- A load whose value is not used. -/
theorem ld_any {off size : Fin s.rank → ℕ} {m : Memref sig .tc .vmem s e} {S : Finset (Idx (m.view.loc (c : Thread nD τ)))} {D : Idx (m.view.loc (c : Thread nD τ)) → Prop}
    {T : Buf (Elt F) (m.view.loc (c : Thread nD τ))} (h) (hp) (hS : ∀ i ∈ (m.access (Rect.unit off size h)).set, i ∈ S) :
    (Ag c m S D T : sProp 𝕄) ⊢ WP c (ld m off size h hp) (fun _ => Ag c m S D T) := by
  unfold Ag
  iintro ⟨%g, %hg, H⟩
  iapply (wp_load_rect (m := m) (r := Rect.unit off size h) (f := g) (S := S) Variants.none (c : Thread nD τ) none Set.univ hS) $$ H
  iintro H
  iapply done
  iexists g
  isplitr; · ipureintro; exact hg
  iexact H

/-- A store reaches what it writes. -/
theorem st_ag {off size : Fin s.rank → ℕ} {m : Memref sig .tc .vmem s e} {S : Finset (Idx (m.view.loc (c : Thread nD τ)))} {D D' : Idx (m.view.loc (c : Thread nD τ)) → Prop}
    {T : Buf (Elt F) (m.view.loc (c : Thread nD τ))} (h) (w) (hx)
    (hS : ∀ i ∈ (m.access (Rect.unit off size h)).set, i ∈ S) (hw : w = (m.access (Rect.unit off size h)).read (Elt F) T)
    (hD : ∀ i ∈ S, D' i → D i ∨ i ∈ (m.access (Rect.unit off size h)).set) :
    (Ag c m S D T : sProp 𝕄) ⊢ WP c (st m off size h w hx) (fun _ => Ag c m S D' T) := by
  unfold Ag
  iintro ⟨%g, %hg, H⟩
  iapply (wp_store (m := m) (r := Rect.unit off size h) (f := g) (S := S) Variants.none (c : Thread nD τ) none Set.univ (by rw [View.setOn_univ]; exact hS)) $$ H
  iintro H
  iapply done
  iexists ((m.access (Rect.unit off size h)).write (Elt F) g w Finset.univ)
  isplitr
  · ipureintro
    intro i hi hd
    subst hw
    by_cases hm : i ∈ (m.access (Rect.unit off size h)).set
    · obtain ⟨x, -, rfl⟩ := Finset.mem_map.mp hm
      rw [View.write_emb_of_mem _ _ (Finset.mem_univ x), View.read_apply]
      exact cast_cast _ _ _
    · rw [View.write_of_not_mem _ _ _ (by rw [View.setOn_univ]; exact hm)]
      exact hg i hi ((hD i hi hd).resolve_right hm)
  iexact H

end Mem

section Copy
variable {sp sp' : Space} {s : Shape} {e : EltTy}

/-- A copy in flight: at its wait it gives its destination at `T` and its source back. -/
def Fl (c : Dev nD) (src : Memref sig .tc sp s e) (dst : Memref sig .tc sp' s e) (sem : DmaSem sig) (q : PosShare TreeShare)
    (fs : Buf (Elt F) (src.view.loc (c : Thread nD τ))) (T : Buf (Elt F) (dst.view.loc (c : Thread nD τ))) : sProp 𝕄 :=
  Transfers.Flight (countersEmb (U := Pipeline.UD sig nD τ)) (c : Thread nD τ) (.dma sem) () dst.view.dmaCredit
    iprop((dst.view.loc (c : Thread nD τ) ↦[dst.view.set]{fullShare} T) ∗ (src.view.loc (c : Thread nD τ) ↦[src.view.set]{q} fs))

variable {src : Memref sig .tc sp s e} {dst : Memref sig .tc sp' s e} {sem : DmaSem sig} {q : PosShare TreeShare}
  {fs : Buf (Elt F) (src.view.loc (c : Thread nD τ))} {T T' : Buf (Elt F) (dst.view.loc (c : Thread nD τ))} {D : Idx (dst.view.loc (c : Thread nD τ)) → Prop}

theorem copy_start (hs) (hd) (ht) (h0 : 0 < s.numel) (hT : src.view.read (Elt F) fs = dst.view.read (Elt F) T) :
    iprop((src.view.loc (c : Thread nD τ) ↦[src.view.set]{q} fs) ∗ Ag c dst dst.view.set D T' ∗ semVal ((c : Thread nD τ), .dma sem) 0)
      ⊢ WP c (Prog.lift (.enqueueDma src (.here dst) (.dma sem) hs hd ht)) (fun _ => Fl c src dst sem q fs T) := by
  unfold Ag
  iintro ⟨Hs, ⟨%g, %hg, Hd⟩, Hv⟩
  iapply (Transfers.wp_dmaLocal (countersEmb (U := Pipeline.UD sig nD τ)) Variants.none (c : Thread nD τ) none () dst.view.dmaCredit rfl (View.dmaCredit_pos _ h0) (Finset.Subset.refl _)) $$ [Hs Hd Hv]
  · isplitl [Hs]; · iexact Hs
    isplitl [Hd] <;> iassumption
  iintro H
  iapply done
  unfold Fl
  have hc : ∀ i ∈ dst.view.set, dst.view.write (Elt F) g (ReadAs.same.apply (src.view.read (Elt F) fs)) Finset.univ i = T i := by
    intro i hi
    obtain ⟨x, -, rfl⟩ := Finset.mem_map.mp hi
    rw [View.write_emb_of_mem _ _ (Finset.mem_univ x)]
    show _root_.cast _ (src.view.read (Elt F) fs x) = _
    rw [hT, View.read_apply]
    exact cast_cast _ _ _
  rw [pointsTo_congr hc]
  iexact H

theorem copy_wait (hs) (hd) :
    iprop(Fl c src dst sem q fs T ∗ Ow c)
      ⊢ WP c (Prog.lift (.waitDma2 sem src dst hs hd)) (fun _ => iprop((dst.view.loc (c : Thread nD τ) ↦[dst.view.set]{fullShare} T)
        ∗ (src.view.loc (c : Thread nD τ) ↦[src.view.set]{q} fs) ∗ semVal ((c : Thread nD τ), .dma sem) 0 ∗ Ow c)) := by
  unfold Fl Ow
  iintro ⟨Hf, ⟨%W, Ho⟩⟩
  iapply (Transfers.wp_waitLocal (countersEmb (U := Pipeline.UD sig nD τ)) Variants.none (c : Thread nD τ) none () rfl) $$ [Hf Ho]
  · isplitl [Hf] <;> iassumption
  iintro ⟨⟨Hd, Hs⟩, Hv, Ho⟩
  iapply done
  isplitl [Hd]; · iexact Hd
  isplitl [Hs]; · iexact Hs
  isplitl [Hv]; · iexact Hv
  iexists _
  iexact Ho

end Copy

end OsPlus
end
-- ==== Proof.Cells.lean ====
module

public import proofs.«01_k».proof.Proof.Struct
public import Idealize.ShloMosaic.Lib.Mxu.Lemmas

/-! The matrix units' accumulators as sixteen cells, each not live or live at a value. -/

@[expose] public section

noncomputable section

namespace OsPlus

open Cert.Kernel Cert.Kernel.Gen Idealize.ShloMosaic Idealize.ShloMosaic.TcCoe Idealize.ShloMosaic.Tactic Idealize.SL.Sem

variable {F : FTy → Type} [FloatOps F]

/-- A cell's rows: three of codes, one of the centre. -/
abbrev sz : Fin 4 → ℕ := ![128, 128, 128, 8]
theorem fitsAll : ∀ (par : Fin 2) (p : Fin 4), Mxu.Fits (98 * par.val + 32 * p.val) (sz p) := by decide

/-- What each unit's cells hold for one column tile. -/
abbrev Col (F : FTy → Type) [FloatOps F] := (q : Fin 2) → (p : Fin 4) → Option (FVec F ⟨2, ![sz p, 256]⟩ .f32)
abbrev Tile (F : FTy → Type) [FloatOps F] := FVec F S256x256 .bf16

/-- A pass deposited. -/
def dep {p : Fin 4} (o x : Option (FVec F ⟨2, ![sz p, 256]⟩ .f32)) : Option (FVec F ⟨2, ![sz p, 256]⟩ .f32) :=
  match x with
  | none => o
  | some x => match o with
    | none => some x
    | some e => some (addf e x)

structure Mst (s : Mxu F) (R : (q r : Fin 2) → Option (Tile F)) (G : Fin 2 → Option (Tile F)) (C : Fin 2 → Col F) : Prop where
  reg : ∀ q r, s.reg q r = (R q r).map fun v => ⟨.bf16, false, v⟩
  gmr : ∀ q v, G q = some v → s.gmr q = some ⟨.bf16, false, v⟩
  empty : ∀ par q p, C par q p = none → ∀ i : Fin (sz p), s.live q (Mxu.row (fitsAll par p) i) = false
  full : ∀ par q p v, C par q p = some v → (∀ i : Fin (sz p), s.live q (Mxu.row (fitsAll par p) i) = true)
    ∧ s.read q (98 * par.val + 32 * p.val) (fitsAll par p) = v
  off : ∀ q (i : Fin 1024), 784 ≤ i.val → s.live q i = false

theorem sz_pos (p : Fin 4) : 8 ≤ sz p := by revert p; decide
theorem apart : ∀ (par par' : Fin 2) (p p' : Fin 4), ¬ (par' = par ∧ p' = p) →
    4 * (98 * par'.val + 32 * p'.val) + sz p' ≤ 4 * (98 * par.val + 32 * p.val)
      ∨ 4 * (98 * par.val + 32 * p.val) + sz p ≤ 4 * (98 * par'.val + 32 * p'.val) := by decide
theorem within : ∀ (par : Fin 2) (p : Fin 4), 4 * (98 * par.val + 32 * p.val) + sz p ≤ 784 := by decide

theorem Mst.init : Mst (F := F) Mxu.init (fun _ _ => none) (fun _ => none) (fun _ _ _ => none) where
  reg q r := rfl
  gmr q v h := by cases h
  empty _ _ _ _ _ := rfl
  full _ _ _ _ h := by cases h
  off _ _ _ := rfl

variable {s : Mxu F} {R R' : (q r : Fin 2) → Option (Tile F)} {G G' : Fin 2 → Option (Tile F)} {C C' : Fin 2 → Col F}

theorem Mst.pushed (h : Mst s R G C) (q r : Fin 2) (v : Tile F) (hn : R q r = none) (hs : R' q r = some v)
    (ho : ∀ q' r', ¬ (q' = q ∧ r' = r) → R' q' r' = R q' r') : Mst (s.pushed q r false v) R' G C where
  reg q' r' := by
    by_cases e : q' = q ∧ r' = r
    · obtain ⟨rfl, rfl⟩ := e
      rw [Mxu.reg_pushed_of_none s q' r' false v (by rw [h.reg, hn]; rfl), hs]; rfl
    · rw [Mxu.reg_pushed_ne s q r false v q' r' e, h.reg, ho q' r' e]
  gmr := by rw [Mxu.gmr_pushed]; exact h.gmr
  empty := by rw [Mxu.live_pushed]; exact h.empty
  full := by
    simp only [Mxu.live_pushed, Mxu.read_pushed]; exact h.full
  off := by rw [Mxu.live_pushed]; exact h.off

theorem Mst.accBy (h : Mst s R G C) (par q : Fin 2) (p : Fin 4) (w : Tile F) {φ : FTy} (lhs : FVec F ⟨2, ![sz p, 256]⟩ φ)
    (hs : C' par q p = dep (C par q p) (some (FloatOps.mxuPass (DotDims.plain (sz p) 256 256) lhs w)))
    (ho : ∀ par' q' p', ¬ (par' = par ∧ q' = q ∧ p' = p) → C' par' q' p' = C par' q' p') :
    Mst (s.accBy q ⟨.bf16, false, w⟩ (98 * par.val + 32 * p.val) lhs (fitsAll par p)) R G C' where
  reg := h.reg
  gmr := h.gmr
  off q' i hi := by
    rw [Mxu.live_accBy, if_neg (by have := within par p; omega)]; exact h.off q' i hi
  empty par' q' p' hC i := by
    by_cases e : par' = par ∧ q' = q ∧ p' = p
    · obtain ⟨rfl, rfl, rfl⟩ := e
      rw [hs] at hC; unfold dep at hC
      cases hc : C par' q' p' <;> rw [hc] at hC <;> cases hC
    · rw [ho _ _ _ e] at hC
      rw [Mxu.live_accBy, if_neg]
      · exact h.empty _ _ _ hC i
      · rintro ⟨rfl, h1, h2⟩
        have := apart par par' p p' (fun hh => e ⟨hh.1, rfl, hh.2⟩)
        have hi := i.isLt
        simp only [Mxu.row] at h1 h2
        omega
  full par' q' p' v hC := by
    by_cases e : par' = par ∧ q' = q ∧ p' = p
    · obtain ⟨rfl, rfl, rfl⟩ := e
      refine ⟨fun i => Mxu.live_accBy_row .., ?_⟩
      rw [hs] at hC; unfold dep at hC
      cases hc : C par' q' p' with
      | none =>
        rw [hc] at hC
        rw [Mxu.read_accBy_of_not_live _ _ _ _ _ _ (h.empty _ _ _ hc)]
        exact Option.some.inj hC
      | some e =>
        rw [hc] at hC
        rw [Mxu.read_accBy_of_live _ _ _ _ _ _ (h.full _ _ _ _ hc).1, (h.full _ _ _ _ hc).2]
        exact Option.some.inj hC
    · rw [ho _ _ _ e] at hC
      constructor
      · intro i
        rw [Mxu.live_accBy]
        split
        · rfl
        · exact (h.full _ _ _ _ hC).1 i
      · rw [Mxu.read_accBy_ne]
        · exact (h.full _ _ _ _ hC).2
        · by_cases hq : q' = q
          · exact .inr (apart par par' p p' (fun hh => e ⟨hh.1, hq, hh.2⟩))
          · exact .inl hq

theorem Mst.accLhs (h : Mst s R G C) (par q r : Fin 2) (p : Fin 4) (w : Tile F) {φ : FTy} (lhs : FVec F ⟨2, ![sz p, 256]⟩ φ)
    (hr : R q r = some w)
    (hs : C' par q p = dep (C par q p) (some (FloatOps.mxuPass (DotDims.plain (sz p) 256 256) lhs w)))
    (ho : ∀ par' q' p', ¬ (par' = par ∧ q' = q ∧ p' = p) → C' par' q' p' = C par' q' p')
    (hR : R' q r = none) (hRo : ∀ q' r', ¬ (q' = q ∧ r' = r) → R' q' r' = R q' r') (hG : G' q = some w) (hGo : ∀ q', q' ≠ q → G' q' = G q') :
    Mst (s.accLhs q r (98 * par.val + 32 * p.val) lhs (fitsAll par p)) R' G' C' := by
  have e : s.staged q r = ⟨.bf16, false, w⟩ := by rw [Mxu.staged_eq, h.reg, hr]; rfl
  have k := h.accBy par q p w lhs hs ho
  rw [← e] at k
  refine ⟨fun q' r' => ?_, fun q' v hv => ?_, k.empty, k.full, k.off⟩
  · by_cases e : q' = q ∧ r' = r
    · obtain ⟨rfl, rfl⟩ := e
      rw [Mxu.reg_accLhs, hR]; rfl
    · rw [Mxu.reg_accLhs_ne _ _ _ _ _ _ _ _ e, h.reg, hRo _ _ e]
  · by_cases eq : q' = q
    · subst eq
      rw [hG] at hv; cases hv
      rw [Mxu.gmr_accLhs, e]
    · rw [Mxu.gmr_accLhs_ne _ _ _ _ _ _ _ eq]
      exact h.gmr _ _ (by rw [← hGo _ eq]; exact hv)

theorem Mst.pop (h : Mst s R G C) (par q : Fin 2) (p : Fin 4) (hs : C' par q p = none)
    (ho : ∀ par' q' p', ¬ (par' = par ∧ q' = q ∧ p' = p) → C' par' q' p' = C par' q' p') :
    Mst (s.pop q (98 * par.val + 32 * p.val) (sz p) (fitsAll par p)) R G C' where
  reg := h.reg
  gmr := h.gmr
  off q' i hi := by
    rw [Mxu.live_pop, if_neg (by have := within par p; omega)]; exact h.off q' i hi
  empty par' q' p' hC i := by
    by_cases e : par' = par ∧ q' = q ∧ p' = p
    · obtain ⟨rfl, rfl, rfl⟩ := e
      exact Mxu.live_pop_row ..
    · rw [ho _ _ _ e] at hC
      rw [Mxu.live_pop]
      split
      · rfl
      · exact h.empty _ _ _ hC i
  full par' q' p' v hC := by
    by_cases e : par' = par ∧ q' = q ∧ p' = p
    · obtain ⟨rfl, rfl, rfl⟩ := e
      rw [hs] at hC; cases hC
    · rw [ho _ _ _ e] at hC
      constructor
      · intro i
        rw [Mxu.live_pop, if_neg]
        · exact (h.full _ _ _ _ hC).1 i
        · rintro ⟨rfl, h1, h2⟩
          have := apart par par' p p' (fun hh => e ⟨hh.1, rfl, hh.2⟩)
          have hi := i.isLt
          simp only [Mxu.row] at h1 h2
          omega
      · rw [Mxu.read_pop_ne]
        · exact (h.full _ _ _ _ hC).2
        · by_cases hq : q' = q
          · exact .inr (apart par par' p p' (fun hh => e ⟨hh.1, hq, hh.2⟩))
          · exact .inl hq

theorem Mst.drained (h : Mst s (fun _ _ => none) G (fun _ _ _ => none)) : s.Drained := by
  refine ⟨fun q r => by rw [h.reg]; rfl, fun q i => ?_⟩
  by_cases hi : 784 ≤ i.val
  · exact h.off q i hi
  · have key : ∀ (i : Fin 1024), i.val < 784 → ∃ (par : Fin 2) (p : Fin 4), 4 * (98 * par.val + 32 * p.val) ≤ i.val ∧ i.val < 4 * (98 * par.val + 32 * p.val) + sz p := by
      intro i hi
      have hp : i.val % 392 / 128 = 0 ∨ i.val % 392 / 128 = 1 ∨ i.val % 392 / 128 = 2 ∨ i.val % 392 / 128 = 3 := by omega
      rcases hp with hp | hp | hp | hp
      · exact ⟨⟨i.val / 392, by omega⟩, 0, show 4 * (98 * (i.val / 392) + 32 * 0) ≤ i.val by omega, show i.val < 4 * (98 * (i.val / 392) + 32 * 0) + 128 by omega⟩
      · exact ⟨⟨i.val / 392, by omega⟩, 1, show 4 * (98 * (i.val / 392) + 32 * 1) ≤ i.val by omega, show i.val < 4 * (98 * (i.val / 392) + 32 * 1) + 128 by omega⟩
      · exact ⟨⟨i.val / 392, by omega⟩, 2, show 4 * (98 * (i.val / 392) + 32 * 2) ≤ i.val by omega, show i.val < 4 * (98 * (i.val / 392) + 32 * 2) + 128 by omega⟩
      · exact ⟨⟨i.val / 392, by omega⟩, 3, show 4 * (98 * (i.val / 392) + 32 * 3) ≤ i.val by omega, show i.val < 4 * (98 * (i.val / 392) + 32 * 3) + 8 by omega⟩
    obtain ⟨par, p, h1, h2⟩ := key i (by omega)
    have := h.empty par q p rfl ⟨i.val - 4 * (98 * par.val + 32 * p.val), by omega⟩
    have e : Mxu.row (fitsAll par p) ⟨i.val - 4 * (98 * par.val + 32 * p.val), by omega⟩ = i := Fin.ext (by simp only [Mxu.row]; omega)
    rwa [e] at this

/-! ## One tile's products, and the pops -/

/-- The products of one tile with the left-hand rows, cell by cell. -/
abbrev Prods (F : FTy → Type) [FloatOps F] := Col F

/-- Of `par`'s cells the first `j` of the codes deposited. -/
def upTo (C : Fin 2 → Col F) (par : Fin 2) (x : Col F) (j : ℕ) : Fin 2 → Col F :=
  fun par' q p => if par' = par ∧ p ≠ 3 ∧ 2 * p.val + q.val < j then dep (C par' q p) (x q p) else C par' q p

theorem upTo_zero (C : Fin 2 → Col F) (par : Fin 2) (x : Col F) : upTo C par x 0 = C := by
  funext par' q p; unfold upTo; rw [if_neg (by omega)]

theorem upTo_self (C : Fin 2 → Col F) (par : Fin 2) (x : Col F) (q : Fin 2) (p : Fin 4) (hp : p ≠ 3) (j : ℕ) (hj : j = 2 * p.val + q.val) :
    upTo C par x (j + 1) par q p = dep (upTo C par x j par q p) (x q p) := by
  unfold upTo; rw [if_pos ⟨rfl, hp, by omega⟩, if_neg (by omega)]

theorem upTo_ne (C : Fin 2 → Col F) (par : Fin 2) (x : Col F) (q : Fin 2) (p : Fin 4) (j : ℕ) (hj : j = 2 * p.val + q.val)
    (par' q' : Fin 2) (p' : Fin 4) (h : ¬ (par' = par ∧ q' = q ∧ p' = p)) : upTo C par x (j + 1) par' q' p' = upTo C par x j par' q' p' := by
  unfold upTo
  by_cases hc : par' = par ∧ p' ≠ 3 ∧ 2 * p'.val + q'.val < j
  · rw [if_pos hc, if_pos ⟨hc.1, hc.2.1, by omega⟩]
  · rw [if_neg hc, if_neg]
    rintro ⟨h1, h3, h2⟩
    exact h ⟨h1, Fin.ext (by by_contra; exact hc ⟨h1, h3, by omega⟩), Fin.ext (by by_contra; exact hc ⟨h1, h3, by omega⟩)⟩

/-- The codes' cells of `par` deposited. -/
def depQ (C : Fin 2 → Col F) (par : Fin 2) (x : Col F) : Fin 2 → Col F := upTo C par x 6
/-- All cells of `par` deposited. -/
def depAll (C : Fin 2 → Col F) (par : Fin 2) (x : Col F) : Fin 2 → Col F :=
  fun par' => if par' = par then fun q p => dep (C par' q p) (x q p) else C par'

theorem depAll_self (C : Fin 2 → Col F) (par : Fin 2) (x : Col F) (u : Fin 2) (v) (hu : x u 3 = some v) :
    depAll C par x par u 3 = dep (depQ C par x par u 3) (some v) := by
  unfold depAll depQ upTo; rw [if_pos rfl, if_neg (by simp), hu]

theorem depAll_ne (C : Fin 2 → Col F) (par : Fin 2) (x : Col F) (u : Fin 2) (hu : ∀ q, q ≠ u → x q 3 = none)
    (par' q' : Fin 2) (p' : Fin 4) (h : ¬ (par' = par ∧ q' = u ∧ p' = 3)) : depAll C par x par' q' p' = depQ C par x par' q' p' := by
  unfold depAll depQ upTo
  by_cases h1 : par' = par
  · rw [if_pos h1]
    by_cases h3 : p' = 3
    · subst h3
      rw [if_neg (by simp), hu q' (fun hq => h ⟨h1, hq, rfl⟩)]; rfl
    · rw [if_pos ⟨h1, h3, by have := q'.isLt; have := p'.isLt; have : p'.val ≠ 3 := fun h => h3 (Fin.ext h); omega⟩]
  · rw [if_neg h1, if_neg (fun h => h1 h.1)]

/-- The place of a cell in the order of the pops. -/
def rank (q : Fin 2) (p : Fin 4) : ℕ := if p = 3 then q.val else 2 + 2 * p.val + q.val
theorem rank_inj : ∀ q q' p p', rank q p = rank q' p' → q = q' ∧ p = p' := by decide
theorem rank_lt : ∀ q p, rank q p < 8 := by decide
/-- `par`'s first `j` cells popped. -/
def popTo (C : Fin 2 → Col F) (par : Fin 2) (j : ℕ) : Fin 2 → Col F :=
  fun par' q p => if par' = par ∧ rank q p < j then none else C par' q p

theorem popTo_zero (C : Fin 2 → Col F) (par : Fin 2) : popTo C par 0 = C := by
  funext par' q p; unfold popTo; rw [if_neg (by omega)]
theorem popTo_self (C : Fin 2 → Col F) (par q : Fin 2) (p : Fin 4) (j : ℕ) (hj : j = rank q p) : popTo C par (j + 1) par q p = none := by
  unfold popTo; rw [if_pos ⟨rfl, by omega⟩]
theorem popTo_ne (C : Fin 2 → Col F) (par q : Fin 2) (p : Fin 4) (j : ℕ) (hj : j = rank q p)
    (par' q' : Fin 2) (p' : Fin 4) (h : ¬ (par' = par ∧ q' = q ∧ p' = p)) : popTo C par (j + 1) par' q' p' = popTo C par j par' q' p' := by
  unfold popTo
  by_cases hc : par' = par ∧ rank q' p' < j
  · rw [if_pos hc, if_pos ⟨hc.1, by omega⟩]
  · rw [if_neg hc, if_neg]
    rintro ⟨h1, h2⟩
    have : rank q' p' = rank q p := by by_contra; exact hc ⟨h1, by omega⟩
    exact h ⟨h1, rank_inj _ _ _ _ this⟩
theorem popTo_old (C : Fin 2 → Col F) (par q : Fin 2) (p : Fin 4) (j : ℕ) (hj : j ≤ rank q p) : popTo C par j par q p = C par q p := by
  unfold popTo; rw [if_neg (by omega)]
/-- All of `par`'s cells popped. -/
def popAll (C : Fin 2 → Col F) (par : Fin 2) : Fin 2 → Col F := fun par' => if par' = par then fun _ _ => none else C par'
theorem popTo_all (C : Fin 2 → Col F) (par : Fin 2) : popTo C par 8 = popAll C par := by
  funext par' q p; unfold popTo popAll
  by_cases h : par' = par
  · rw [if_pos ⟨h, rank_lt q p⟩, if_pos h]
  · rw [if_neg (fun hh => h hh.1), if_neg h]

end OsPlus
end
-- ==== Proof.Values.lean ====
module

public import proofs.«01_k».proof.Proof.Cells

/-! What the kernel computes, block by block, as functions of its operands. -/

@[expose] public section

noncomputable section

namespace OsPlus

open Cert.Kernel Cert.Kernel.Gen Idealize.ShloMosaic Idealize.ShloMosaic.TcCoe Idealize.ShloMosaic.Tactic Idealize.SL.Sem

variable {F : FTy → Type} [FloatOps F]

/-! ## Blocks of a matrix -/

/-- The index at row `r` and column `c`. -/
def at2 (A B : ℕ) [NeZero A] [NeZero B] (r c : ℕ) : (⟨2, ![A, B]⟩ : Shape).Idx := fun a =>
  match a with
  | 0 => Fin.ofNat A r
  | 1 => Fin.ofNat B c

theorem at2_0 {A B : ℕ} [NeZero A] [NeZero B] {r c : ℕ} (h : r < A) : ((at2 A B r c) 0).val = r := Nat.mod_eq_of_lt h
theorem at2_1 {A B : ℕ} [NeZero A] [NeZero B] {r c : ℕ} (h : c < B) : ((at2 A B r c) 1).val = c := Nat.mod_eq_of_lt h
theorem eq_at2 {A B : ℕ} [NeZero A] [NeZero B] (i : (⟨2, ![A, B]⟩ : Shape).Idx) (r c : ℕ) (h0 : (i 0).val = r) (h1 : (i 1).val = c) : i = at2 A B r c := by
  subst h0 h1
  funext a
  match a with
  | 0 => exact Fin.ext (Nat.mod_eq_of_lt (i 0).isLt).symm
  | 1 => exact Fin.ext (Nat.mod_eq_of_lt (i 1).isLt).symm

variable {α : Type}

/-- The block of `f` at row `r` and column `c`. -/
def blk {A B : ℕ} [NeZero A] [NeZero B] (f : (⟨2, ![A, B]⟩ : Shape).Idx → α) (r c : ℕ) {R C : ℕ} : (⟨2, ![R, C]⟩ : Shape).Idx → α :=
  fun x => f (at2 A B (r + (x 0).val) (c + (x 1).val))

/-- The matrix whose block `(a, b)` is `f a b`. -/
def glue (A B R C : ℕ) [NeZero R] [NeZero C] (f : ℕ → ℕ → (⟨2, ![R, C]⟩ : Shape).Idx → α) : (⟨2, ![A, B]⟩ : Shape).Idx → α :=
  fun i => f ((i 0).val / R) ((i 1).val / C) (at2 R C (i 0).val (i 1).val)

theorem blk_glue {A B R C : ℕ} [NeZero A] [NeZero B] [NeZero R] [NeZero C] (f : ℕ → ℕ → (⟨2, ![R, C]⟩ : Shape).Idx → α) (a b : ℕ)
    (ha : R * a + R ≤ A) (hb : C * b + C ≤ B) : blk (glue A B R C f) (R * a) (C * b) = f a b := by
  funext x
  have h0 : (x 0).val < R := (x 0).isLt
  have h1 : (x 1).val < C := (x 1).isLt
  unfold blk glue
  rw [at2_0 (by omega), at2_1 (by omega)]
  have e0 : (R * a + (x 0).val) / R = a := by rw [Nat.mul_add_div (by omega), Nat.div_eq_of_lt h0, Nat.add_zero]
  have e1 : (C * b + (x 1).val) / C = b := by rw [Nat.mul_add_div (by omega), Nat.div_eq_of_lt h1, Nat.add_zero]
  rw [e0, e1]
  congr 1
  funext i
  match i with
  | 0 => exact Fin.ext (by show (R * a + (x 0).val) % R = _; rw [Nat.mul_add_mod, Nat.mod_eq_of_lt h0])
  | 1 => exact Fin.ext (by show (C * b + (x 1).val) % C = _; rw [Nat.mul_add_mod, Nat.mod_eq_of_lt h1])

theorem emb_blk {A B r c R C : ℕ} [NeZero A] [NeZero B] (f : (⟨2, ![A, B]⟩ : Shape).Idx → α)
    (h : ∀ a, (![r, c] : Fin 2 → ℕ) a + (![R, C] : Fin 2 → ℕ) a ≤ (⟨2, ![A, B]⟩ : Shape).size a) :
    (fun x => f ((Rect.unit (s := ⟨2, ![A, B]⟩) ![r, c] ![R, C] h).emb x)) = blk f r c := by
  funext x
  unfold blk
  refine congrArg f (eq_at2 _ _ _ ?_ ?_)
  · show r + 1 * (x 0).val = _; omega
  · show c + 1 * (x 1).val = _; omega

/-! ## The operands and what is made of them -/

structure Data (F : FTy → Type) [FloatOps F] where
  x : Vec F S768x4096 .bf16
  s : Vec F S1x4096 .f32
  xs : Vec F S1 .f32
  w : Vec F S4096x11008 .i8
  ws : Vec F S32x11008 .f32
  b : Vec F S1x11008 .f32

namespace Data
variable (d : Data F)

/-- The scale of the codes. -/
def xsw : Elt F .f32 := d.xs fun a => match a with | 0 => (0 : Fin 1)

abbrev x16 (k i : ℕ) : FVec F S16x256 .bf16 := blk d.x (16 * i) (256 * k)

/-- The lanes' extrema after `4j` row groups. -/
def lanes (k : ℕ) : ℕ → Lanes F
  | 0 => ⟨![d.x16 k 0, d.x16 k 1, d.x16 k 2, d.x16 k 3], ![d.x16 k 0, d.x16 k 1, d.x16 k 2, d.x16 k 3]⟩
  | j + 1 =>
    if j = 0 then ⟨![d.x16 k 0, d.x16 k 1, d.x16 k 2, d.x16 k 3], ![d.x16 k 0, d.x16 k 1, d.x16 k 2, d.x16 k 3]⟩
    else
      let s := lanes k j
      ⟨![maximumf (s.hi 0) (d.x16 k (4 * j)), maximumf (s.hi 1) (d.x16 k (4 * j + 1)), maximumf (s.hi 2) (d.x16 k (4 * j + 2)), maximumf (s.hi 3) (d.x16 k (4 * j + 3))],
        ![minimumf (s.lo 0) (d.x16 k (4 * j)), minimumf (s.lo 1) (d.x16 k (4 * j + 1)), minimumf (s.lo 2) (d.x16 k (4 * j + 2)), minimumf (s.lo 3) (d.x16 k (4 * j + 3))]⟩

abbrev sb (k : ℕ) : FVec F S1x256 .f32 := blk d.s 0 (256 * k)
def zb (k : ℕ) : FVec F S1x256 .f32 := centre (d.lanes k 12)
def cb (k i : ℕ) : FVec F S32x256 .f32 := codes (d.zb k) (factor (d.sb k) d.xsw) (blk d.x (32 * i) (256 * k))

def zT : Vec F S1x4096 .f32 := glue 1 4096 1 256 fun _ k => shapeCast S1x256 (d.zb k) shapeCasts_S1x256_S1x256
def uT : Vec F S8x4096 .f32 := glue 8 4096 8 256 fun _ k => shapeCast S8x256 (scaled (d.zb k) (d.sb k)) shapeCasts_S8x256_S8x256
def qT : Vec F S768x4096 .i8 := glue 768 4096 32 256 fun i k => shapeCast S32x256 (fptosi 8 (d.cb k i)) shapeCasts_S32x256_S32x256
def qbT : Vec F S768x4096 .bf16 := glue 768 4096 32 256 fun i k => shapeCast S32x256 (truncf .bf16 (d.cb k i) bitsLt_bf16_f32) shapeCasts_S32x256_S32x256

/-- Tile `k` of column tile `n` of the weights. -/
def tile (n k : ℕ) : Tile F :=
  glued (deq (blk d.w (128 * (2 * k)) (256 * n)) (blk d.ws (2 * k) (256 * n))) (deq (blk d.w (128 * (2 * k + 1)) (256 * n)) (blk d.ws (2 * k + 1) (256 * n)))

abbrev qa (k m p : ℕ) : FVec F S128x256 .bf16 := blk d.qbT (384 * m + 128 * p) (256 * k)
abbrev ub (k : ℕ) : FVec F S8x256 .f32 := blk d.uT 0 (256 * k)

/-- The products of tile `k` of column tile `n`. -/
def prod (n k : ℕ) : Col F := fun q p =>
  match p with
  | 0 => some (FloatOps.mxuPass (DotDims.plain 128 256 256) (d.qa k q.val 0) (d.tile n k))
  | 1 => some (FloatOps.mxuPass (DotDims.plain 128 256 256) (d.qa k q.val 1) (d.tile n k))
  | 2 => some (FloatOps.mxuPass (DotDims.plain 128 256 256) (d.qa k q.val 2) (d.tile n k))
  | 3 => if q.val = k % 2 then some (FloatOps.mxuPass (DotDims.plain 8 256 256) (d.ub k) (d.tile n k)) else none

/-- The accumulators of column tile `n` after `j` tiles. -/
def acc (n : ℕ) : ℕ → Col F
  | 0 => fun _ _ => none
  | j + 1 => fun q p => dep (acc n j q p) (d.prod n j q p)

theorem acc_succ (n j : ℕ) (q : Fin 2) (p : Fin 4) : d.acc n (j + 1) q p = dep (d.acc n j q p) (d.prod n j q p) := rfl

theorem dep_some_left {p : Fin 4} {o x : Option (FVec F ⟨2, ![sz p, 256]⟩ .f32)} (h : o.isSome) : (dep o x).isSome := by
  unfold dep; cases x <;> cases o <;> simp at h ⊢
theorem dep_some_right {p : Fin 4} {o x : Option (FVec F ⟨2, ![sz p, 256]⟩ .f32)} (h : x.isSome) : (dep o x).isSome := by
  unfold dep; cases x <;> cases o <;> simp at h ⊢

theorem acc_some (n j : ℕ) (q : Fin 2) (p : Fin 4) : (d.acc n (j + 2) q p).isSome := by
  induction j with
  | zero =>
    rw [show 0 + 2 = 0 + 1 + 1 from rfl, acc_succ, acc_succ]
    match p with
    | 0 => exact dep_some_right (x := d.prod n 1 q 0) rfl
    | 1 => exact dep_some_right (x := d.prod n 1 q 1) rfl
    | 2 => exact dep_some_right (x := d.prod n 1 q 2) rfl
    | 3 =>
      match q with
      | 0 => exact dep_some_left (dep_some_right (x := d.prod n 0 0 3) rfl)
      | 1 => exact dep_some_right (x := d.prod n 1 1 3) rfl
  | succ j ih => rw [acc_succ]; exact dep_some_left ih

/-- The finished accumulators of column tile `n`. -/
def fin (n : ℕ) (q : Fin 2) (p : Fin 4) : FVec F ⟨2, ![sz p, 256]⟩ .f32 := (d.acc n 16 q p).get (d.acc_some n 14 q p)
theorem acc_fin (n : ℕ) (q : Fin 2) (p : Fin 4) : d.acc n 16 q p = some (d.fin n q p) := (Option.some_get _).symm

def bcb (n : ℕ) : FVec F S1x256 .f32 := corrected (blk d.b 0 (256 * n)) (d.fin n 0 3) (d.fin n 1 3)
/-- The finished rows `128p` of unit `m`. -/
def finRow (n : ℕ) (m : Fin 2) : ℕ → FVec F S128x256 .f32
  | 0 => d.fin n m 0
  | 1 => d.fin n m 1
  | _ => d.fin n m 2
def yb (n : ℕ) (m : Fin 2) (p : ℕ) : FVec F S128x256 .bf16 :=
  shapeCast S128x256 (outRows (d.finRow n m p) d.xsw (d.bcb n)) shapeCasts_S128x256_S128x256

def bcT : Vec F S1x11008 .f32 := glue 1 11008 1 256 fun _ n => shapeCast S1x256 (d.bcb n) shapeCasts_S1x256_S1x256
def yT : Vec F S768x11008 .bf16 := glue 768 11008 128 256 fun a n => d.yb n (Fin.ofNat 2 (a / 3)) (a % 3)

/-- A slot of weights from column `b` on. -/
def wT (b : ℕ) : Vec F S3x4096x512 .i8 := fun i => d.w (at2 4096 11008 (i 1).val (b + (i 2).val))
/-- A slot of `y` from column `b` on. -/
def ysT (b : ℕ) : Vec F S2x768x512 .bf16 := fun i => d.yT (at2 768 11008 (i 1).val (b + (i 2).val))
def ytT (b : ℕ) : Vec F S3x768x256 .bf16 := fun i => d.yT (at2 768 11008 (i 1).val (b + (i 2).val))

end Data
end OsPlus
end
-- ==== Proof.Quant.lean ====
module

public import proofs.«01_k».proof.Proof.Base
public import proofs.«01_k».proof.Proof.Values

/-! One block quantised. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable {c : Dev nD} (d : Data F)

theorem mem_box {b : Ref sig .tc} {off size : Fin b.ty.shape.rank → ℕ} {h} {i : b.ty.shape.Idx} :
    i ∈ ((View.whole b).slice (Rect.unit off size h)).set ↔ ∀ a, off a ≤ (i a).val ∧ (i a).val < off a + size a := by
  rw [View.set_slice_whole]; exact Rect.mem_set_unit

theorem all2 {off size x : Fin 2 → ℕ} : (∀ a, off a ≤ x a ∧ x a < off a + size a) ↔ (off 0 ≤ x 0 ∧ x 0 < off 0 + size 0) ∧ (off 1 ≤ x 1 ∧ x 1 < off 1 + size 1) :=
  ⟨fun h => ⟨h 0, h 1⟩, fun h a => match a with | 0 => h.1 | 1 => h.2⟩

/-- The scale, in its word. -/
def Scale (c : Dev nD) : sProp 𝕄 := (xss.view.loc (c : Thread nD τ) ↦[Finset.univ]{fullShare} d.xs)

theorem xsWord_t : Scale d c ⊢ WP c xsWord (fun v => iprop(⌜v = d.xsw⌝ ∗ Scale d c)) := by
  unfold Scale xsWord smemLoad
  iintro H
  iapply (wp_smemLoadElt (m := xss) (r := Rect.unit (s := S1) ![0] S1.size inb_S1_S1_0) (f := d.xs) (S := Finset.univ) Variants.none (c : Thread nD τ) none Set.univ (Finset.subset_univ _)) $$ H
  iintro H
  iapply done
  isplitr
  · ipureintro
    exact congrArg d.xs (funext fun a => match a with | 0 => Subsingleton.elim (α := Fin 1) _ _)
  iexact H

/-- Block `k` of `x`, in VMEM. -/
def XB (c : Dev nD) (k : Fin 16) : sProp 𝕄 := Ag c xv (blkX xv k).view.set (fun _ => True) d.x
/-- Block `k` of the codes up to row `r`. -/
def QB (c : Dev nD) (k : Fin 16) (r : ℕ) : sProp 𝕄 := Ag c qv (blkX qv k).view.set (fun i : S768x4096.Idx => (i 0).val < r) d.qT
/-- The codes at bf16, the columns before block `k` and of block `k` the rows before `r`. -/
def QbP (k r : ℕ) : S768x4096.Idx → Prop := fun i => (i 1).val < 256 * k ∨ (i 1).val < 256 * k + 256 ∧ (i 0).val < r
def Qb (c : Dev nD) (P : S768x4096.Idx → Prop) : sProp 𝕄 := Ag c qbv Finset.univ P d.qbT

theorem ldX_t {r R : ℕ} (k : Fin 16) (h) (hp) :
    XB d c k ⊢ WP c (ld xv ![r, 256 * k.val] ![R, 256] h hp) (fun v => iprop(⌜v = blk d.x r (256 * k.val)⌝ ∗ XB d c k)) := by
  unfold XB
  refine (ld_ag h hp (fun i hi => ?_) (fun _ _ => trivial)).trans (wp_mono frame _ _ fun v => ?_)
  · have hi := all2.1 (mem_box.1 hi)
    refine mem_box.2 (all2.2 ⟨⟨Nat.zero_le _, ?_⟩, hi.2⟩)
    have h0 : (i 0).val < 768 := (i 0).isLt
    show (i 0).val < 0 + 768
    omega
  · iintro ⟨%hv, H⟩
    isplitr
    · ipureintro; rw [hv]; exact emb_blk d.x _
    iexact H

theorem lanes0_t (k : Fin 16) : XB d c k ⊢ WP c (lanes0 k) (fun l => iprop(⌜l = d.lanes k.val 1⌝ ∗ XB d c k)) := by
  unfold lanes0
  iintro H
  iapply (seq (ldX_t d k _ _)) $$ H
  iintro %a ⟨%ha, H⟩
  iapply (seq (ldX_t d k _ _)) $$ H
  iintro %b ⟨%hb, H⟩
  iapply (seq (ldX_t d k _ _)) $$ H
  iintro %e ⟨%he, H⟩
  iapply (seq (ldX_t d k _ _)) $$ H
  iintro %f ⟨%hf, H⟩
  iapply done
  isplitr
  · ipureintro; subst ha hb he hf; rfl
  iexact H

theorem lanes4_t (k : Fin 16) (j : Fin 12) (s : Lanes F) (hj : 1 ≤ j.val) :
    iprop(⌜s = d.lanes k.val j.val⌝ ∗ XB d c k) ⊢ WP c (lanes4 k j s) (fun l => iprop(⌜l = d.lanes k.val (j.val + 1)⌝ ∗ XB d c k)) := by
  unfold lanes4
  iintro ⟨%hs, H⟩
  iapply (seq (ldX_t d k _ _)) $$ H
  iintro %a ⟨%ha, H⟩
  iapply (seq (ldX_t d k _ _)) $$ H
  iintro %b ⟨%hb, H⟩
  iapply (seq (ldX_t d k _ _)) $$ H
  iintro %e ⟨%he, H⟩
  iapply (seq (ldX_t d k _ _)) $$ H
  iintro %f ⟨%hf, H⟩
  iapply done
  isplitr
  · ipureintro
    subst ha hb he hf hs
    have : d.lanes k.val (j.val + 1) = if j.val = 0 then _ else _ := rfl
    rw [this, if_neg (by omega)]
  iexact H

theorem blk_q {k i : ℕ} (hk : k < 16) (hi : i < 24) :
    blk d.qT (32 * i) (256 * k) = (shapeCast S32x256 (fptosi 8 (d.cb k i)) shapeCasts_S32x256_S32x256 : Vec F S32x256 .i8) :=
  blk_glue _ _ _ (by omega) (by omega)
theorem blk_qb {k i : ℕ} (hk : k < 16) (hi : i < 24) :
    blk d.qbT (32 * i) (256 * k) = (shapeCast S32x256 (truncf .bf16 (d.cb k i) bitsLt_bf16_f32) shapeCasts_S32x256_S32x256 : Vec F S32x256 .bf16) :=
  blk_glue _ _ _ (by omega) (by omega)

set_option maxHeartbeats 1000000 in
theorem rows32_t (k : Fin 16) (i : Fin 24) :
    iprop(XB d c k ∗ QB d c k (32 * i.val) ∗ Qb d c (QbP k.val (32 * i.val)))
      ⊢ WP c (rows32 k (d.zb k.val) (factor (d.sb k.val) d.xsw) i) (fun _ => iprop(XB d c k ∗ QB d c k (32 * (i.val + 1)) ∗ Qb d c (QbP k.val (32 * (i.val + 1))))) := by
  have hk := k.isLt
  have hi := i.isLt
  have sub : ∀ x : S768x4096.Idx, (∀ a, (![32 * i.val, 256 * k.val] : Fin 2 → ℕ) a ≤ (x a).val ∧ (x a).val < (![32 * i.val, 256 * k.val] : Fin 2 → ℕ) a + (![32, 256] : Fin 2 → ℕ) a) →
      ∀ a, (![0, 256 * k.val] : Fin 2 → ℕ) a ≤ (x a).val ∧ (x a).val < (![0, 256 * k.val] : Fin 2 → ℕ) a + (![768, 256] : Fin 2 → ℕ) a := by
    intro x hx
    have hx := all2.1 hx
    refine all2.2 ⟨⟨Nat.zero_le _, ?_⟩, hx.2⟩
    have h0 : (x 0).val < 768 := (x 0).isLt
    show (x 0).val < 0 + 768
    omega
  unfold rows32
  iintro ⟨HX, HQ, HB⟩
  iapply (seq (ldX_t d k _ _)) $$ HX
  iintro %v ⟨%hv, HX⟩
  unfold QB Qb
  iapply (seq (ld_any _ _ ?_)) $$ HQ
  · exact fun x hx => mem_box.2 (sub x (mem_box.1 hx))
  iintro %_ HQ
  iapply (seq (st_ag (c := c) (m := qv) (D' := fun x : S768x4096.Idx => (x 0).val < 32 * (i.val + 1)) _ _ _ ?_ ?_ ?_)) $$ HQ
  · exact fun x hx => mem_box.2 (sub x (mem_box.1 hx))
  · subst hv
    exact (blk_q d hk hi).symm.trans (emb_blk d.qT _).symm
  · intro x hx (hd : (x 0).val < _)
    have hx := all2.1 (mem_box.1 hx)
    by_cases h : (x 0).val < 32 * i.val
    · exact .inl h
    · exact .inr (mem_box.2 (all2.2 ⟨⟨by show 32 * i.val ≤ _; omega, by show _ < 32 * i.val + 32; omega⟩, hx.2⟩))
  iintro %_ HQ
  iapply (seq (ld_any _ _ fun _ _ => Finset.mem_univ _)) $$ HB
  iintro %_ HB
  iapply (last (st_ag (c := c) (m := qbv) (D' := QbP k.val (32 * (i.val + 1))) _ _ _ (fun _ _ => Finset.mem_univ _) ?_ ?_)) $$ HB
  · subst hv
    exact (blk_qb d hk hi).symm.trans (emb_blk d.qbT _).symm
  · intro x _ hd
    by_cases h : QbP k.val (32 * i.val) x
    · exact .inl h
    · unfold QbP at hd h
      exact .inr (mem_box.2 (all2.2 ⟨⟨by show 32 * i.val ≤ _; omega, by show _ < 32 * i.val + 32; omega⟩, ⟨by show 256 * k.val ≤ _; omega, by show _ < 256 * k.val + 256; omega⟩⟩))
  iintro %_ HB
  isplitl [HX]; · iexact HX
  isplitl [HQ]; · iexact HQ
  iexact HB

/-- The centre, the scaled centre: the columns before block `k` reached. -/
def ZB (c : Dev nD) (k : ℕ) : sProp 𝕄 := Ag c zv Finset.univ (fun i : S1x4096.Idx => (i 1).val < 256 * k) d.zT
def UB (c : Dev nD) (k : ℕ) : sProp 𝕄 := Ag c uv Finset.univ (fun i : S8x4096.Idx => (i 1).val < 256 * k) d.uT
def SB (c : Dev nD) : sProp 𝕄 := Ag c sv Finset.univ (fun _ => True) d.s

theorem blk_z {k : ℕ} (hk : k < 16) : blk d.zT 0 (256 * k) = (shapeCast S1x256 (d.zb k) shapeCasts_S1x256_S1x256 : Vec F S1x256 .f32) :=
  blk_glue (R := 1) _ 0 k (by omega) (by omega)
theorem blk_u {k : ℕ} (hk : k < 16) : blk d.uT 0 (256 * k) = (shapeCast S8x256 (scaled (d.zb k) (d.sb k)) shapeCasts_S8x256_S8x256 : Vec F S8x256 .f32) :=
  blk_glue (R := 8) _ 0 k (by omega) (by omega)

set_option maxHeartbeats 1000000 in
theorem quantise_t (k : Fin 16) :
    iprop(XB d c k ∗ QB d c k 0 ∗ Qb d c (QbP k.val 0) ∗ ZB d c k.val ∗ UB d c k.val ∗ SB d c ∗ Scale d c)
      ⊢ WP c (quantise k) (fun _ => iprop(XB d c k ∗ QB d c k 768 ∗ Qb d c (QbP (k.val + 1) 0) ∗ ZB d c (k.val + 1) ∗ UB d c (k.val + 1) ∗ SB d c ∗ Scale d c)) := by
  have hk := k.isLt
  unfold quantise
  iintro ⟨HX, HQ, HB, HZ, HU, HS, HW⟩
  iapply (seq (lanes0_t d k)) $$ HX
  iintro %l0 ⟨%h0, HX⟩
  ihave HX := (show XB d c k ⊢ iprop(⌜l0 = d.lanes k.val 1⌝ ∗ XB d c k) by
    iintro H
    isplitr
    · ipureintro; exact h0
    iexact H) $$ HX
  iapply (seq (up 1 (fun i s => iprop(⌜s = d.lanes k.val i⌝ ∗ XB d c k)) (fun i s hi => lanes4_t d k i s hi) 11 1 _ (by omega) l0)) $$ HX
  iintro %l ⟨%hl, HX⟩
  have hz : centre l = d.zb k.val := by subst hl; rfl
  rw [hz]
  unfold ZB UB SB
  iapply (seq (ld_any _ _ fun _ _ => Finset.mem_univ _)) $$ HZ
  iintro %_ HZ
  iapply (seq (st_ag (c := c) (m := zv) (D' := fun i : S1x4096.Idx => (i 1).val < 256 * (k.val + 1)) _ _ _ (fun _ _ => Finset.mem_univ _) ?_ ?_)) $$ HZ
  · exact (blk_z d hk).symm.trans (emb_blk d.zT _).symm
  · intro x _ (hd : (x 1).val < _)
    by_cases h : (x 1).val < 256 * k.val
    · exact .inl h
    · have h0 : (x 0).val < 1 := (x 0).isLt
      exact .inr (mem_box.2 (all2.2 ⟨⟨by show 0 ≤ _; omega, by show _ < 0 + 1; omega⟩, ⟨by show 256 * k.val ≤ _; omega, by show _ < 256 * k.val + 256; omega⟩⟩))
  iintro %_ HZ
  iapply (seq (ld_ag _ _ (fun _ _ => Finset.mem_univ _) (fun _ _ => trivial))) $$ HS
  iintro %sv ⟨%hs, HS⟩
  have hs : sv = d.sb k.val := hs.trans (emb_blk d.s _)
  subst hs
  iapply (seq (ld_any _ _ fun _ _ => Finset.mem_univ _)) $$ HU
  iintro %_ HU
  iapply (seq (st_ag (c := c) (m := uv) (D' := fun i : S8x4096.Idx => (i 1).val < 256 * (k.val + 1)) _ _ _ (fun _ _ => Finset.mem_univ _) ?_ ?_)) $$ HU
  · exact (blk_u d hk).symm.trans (emb_blk d.uT _).symm
  · intro x _ (hd : (x 1).val < _)
    by_cases h : (x 1).val < 256 * k.val
    · exact .inl h
    · have h0 : (x 0).val < 8 := (x 0).isLt
      exact .inr (mem_box.2 (all2.2 ⟨⟨by show 0 ≤ _; omega, by show _ < 0 + 8; omega⟩, ⟨by show 256 * k.val ≤ _; omega, by show _ < 256 * k.val + 256; omega⟩⟩))
  iintro %_ HU
  iapply (seq (xsWord_t d)) $$ HW
  iintro %xs ⟨%hxs, HW⟩
  subst hxs
  iapply (last (up 0 (fun i _ => iprop(XB d c k ∗ QB d c k (32 * i) ∗ Qb d c (QbP k.val (32 * i)))) (fun i _ _ => rows32_t d k i) 24 0 _ (by omega) ⟨⟩)) $$ [HX HQ HB]
  · isplitl [HX]; · iexact HX
    isplitl [HQ] <;> iassumption
  iintro %_ ⟨HX, HQ, HB⟩
  isplitl [HX]; · iexact HX
  isplitl [HQ]; · iexact HQ
  isplitl [HB]
  · unfold Qb
    iapply (Ag.weak ?_) $$ HB
    intro x _ h
    unfold QbP at h ⊢
    have h0 : (x 0).val < 768 := (x 0).isLt
    omega
  isplitl [HZ]; · iexact HZ
  isplitl [HU]; · iexact HU
  isplitl [HS]; · iexact HS
  iexact HW

end OsPlus
end
-- ==== Proof.Unit.lean ====
module

public import proofs.«01_k».proof.Proof.Quant

/-! One tile staged, multiplied and deposited; a column tile finished. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable {c : Dev nD} (d : Data F)

/-! ## The registers -/

/-- Both units' registers: empty, or one of them holding a tile. -/
def Rs (o : Option (Fin 2 × Tile F)) : (q r : Fin 2) → Option (Tile F) := fun _ r =>
  match o with
  | none => none
  | some (r', t) => if r = r' then some t else none
/-- One unit's register holding a tile. -/
def Rh (q₀ r₀ : Fin 2) (t : Tile F) : (q r : Fin 2) → Option (Tile F) := fun q r => if q = q₀ ∧ r = r₀ then some t else none

/-- The units' state: the registers and the cells. -/
def Ms (s : Mxu F) (o : Option (Fin 2 × Tile F)) (C : Fin 2 → Col F) : Prop := ∃ G, Mst s (Rs o) G C

theorem Ms.pushed0 {s : Mxu F} {G : Fin 2 → Option (Tile F)} {C : Fin 2 → Col F} (h : Mst s (Rs none) G C) (r : Fin 2) (v : Tile F) : Mst (s.pushed 0 r false v) (Rh 0 r v) G C :=
  h.pushed 0 r v rfl (if_pos ⟨rfl, rfl⟩) fun _ _ hh => if_neg hh
theorem Ms.pushed1 {s : Mxu F} {G : Fin 2 → Option (Tile F)} {C : Fin 2 → Col F} (r : Fin 2) (v : Tile F) (h : Mst s (Rh 0 r v) G C) : Mst (s.pushed 1 r false v) (Rs (some (r, v))) G C :=
  h.pushed 1 r v (if_neg (by simp)) (if_pos rfl) fun q' r' hh => by
    unfold Rs Rh
    match q' with
    | 0 => by_cases e : r' = r
           · exact (if_pos e).trans (if_pos ⟨rfl, e⟩).symm
           · exact (if_neg e).trans (if_neg fun h => e h.2).symm
    | 1 => exact (if_neg fun e => hh ⟨rfl, e⟩).trans (if_neg (by simp)).symm

theorem Ms.acc0 {s : Mxu F} {G : Fin 2 → Option (Tile F)} {C C' : Fin 2 → Col F} (r : Fin 2) (v : Tile F) (h : Mst s (Rs (some (r, v))) G C) (par : Fin 2) (lhs : FVec F S128x256 .bf16)
    (hs : C' par 0 0 = dep (C par 0 0) (some (FloatOps.mxuPass (DotDims.plain 128 256 256) lhs v)))
    (ho : ∀ par' q' p', ¬ (par' = par ∧ q' = 0 ∧ p' = 0) → C' par' q' p' = C par' q' p') :
    Mst (s.accLhs 0 r (98 * par.val + 32 * 0) lhs (fitsP par 0)) (Rh 1 r v) (fun q => if q = 0 then some v else G q) C' :=
  Mst.accLhs h par 0 r 0 v lhs (if_pos rfl) hs ho (if_neg (by simp)) (fun q' r' hh => by
    unfold Rs Rh
    match q' with
    | 1 => by_cases e : r' = r
           · rw [if_pos ⟨rfl, e⟩]; exact (if_pos e).symm
           · rw [if_neg (fun h => e h.2)]; exact (if_neg e).symm
    | 0 => rw [if_neg (by simp)]; exact (if_neg (fun e => hh ⟨rfl, e⟩)).symm) (if_pos rfl) (fun q' hq => if_neg hq)

theorem Ms.acc1 {s : Mxu F} {G : Fin 2 → Option (Tile F)} {C C' : Fin 2 → Col F} (r : Fin 2) (v : Tile F) (h : Mst s (Rh 1 r v) (fun q => if q = 0 then some v else G q) C) (par : Fin 2) (lhs : FVec F S128x256 .bf16)
    (hs : C' par 1 0 = dep (C par 1 0) (some (FloatOps.mxuPass (DotDims.plain 128 256 256) lhs v)))
    (ho : ∀ par' q' p', ¬ (par' = par ∧ q' = 1 ∧ p' = 0) → C' par' q' p' = C par' q' p') :
    Mst (s.accLhs 1 r (98 * par.val + 32 * 0) lhs (fitsP par 0)) (Rs none) (fun _ => some v) C' :=
  Mst.accLhs h par 1 r 0 v lhs (if_pos ⟨rfl, rfl⟩) hs ho rfl (fun q' r' hh => (if_neg hh).symm) rfl
    (fun q' hq => match q' with | 0 => (if_pos rfl).symm | 1 => absurd rfl hq)

/-! ## A tile staged -/

theorem sq_numel (A B : ℕ) : (⟨2, ![A, B]⟩ : Shape).numel = (⟨3, ![1, A, B]⟩ : Shape).numel := by
  simp [Shape.numel, Fin.prod_univ_succ]

/-- Where a squeezed slot's box lies. -/
theorem sq_emb {Z A B A' B' i a r k R C : ℕ} (h3) (h2) (hq) (x : (⟨2, ![R, C]⟩ : Shape).Idx) :
    let y := (Rect.unit (s := ⟨3, ![Z, A, B]⟩) ![i, a, 0] ![1, A', B'] h3).emb (Shape.reshapeEquiv hq ((Rect.unit (s := ⟨2, ![A', B']⟩) ![r, k] ![R, C] h2).emb x))
    (y 0).val = i ∧ (y 1).val = a + (r + (x 0).val) ∧ (y 2).val = k + (x 1).val := by
  have e := Shape.reshapeEquiv_cons_one (n := 2) (d := ![A', B']) hq ((Rect.unit (s := ⟨2, ![A', B']⟩) ![r, k] ![R, C] h2).emb x)
  refine ⟨?_, ?_, ?_⟩
  · show i + 1 * (Shape.reshapeEquiv hq _ 0).val = _
    rw [e]; show i + 1 * 0 = i; omega
  · show a + 1 * (Shape.reshapeEquiv hq _ 1).val = _
    rw [e]; show a + 1 * (r + 1 * (x 0).val) = _; omega
  · show 0 + 1 * (Shape.reshapeEquiv hq _ 2).val = _
    rw [e]; show 0 + 1 * (k + 1 * (x 1).val) = _; omega

/-- A slot of weights from column `b` on, held. -/
def Wv (c : Dev nD) (S : Finset S3x4096x512.Idx) (b : ℕ) : sProp 𝕄 := Ag c wv S (fun _ => True) (d.wT b)
/-- The weights' scales, held. -/
def Wsv (c : Dev nD) : sProp 𝕄 := Ag c wsv Finset.univ (fun _ => True) d.ws

/-- The elements of slot `slot` of tile `k` in lane `lane`. -/
def InS (S : Finset S3x4096x512.Idx) (slot : Fin 3) (k : Fin 16) (lane : Fin 2) : Prop :=
  ∀ i : S3x4096x512.Idx, (i 0).val = slot.val → 256 * k.val ≤ (i 1).val → (i 1).val < 256 * k.val + 256 → 256 * lane.val ≤ (i 2).val → (i 2).val < 256 * lane.val + 256 → i ∈ S

theorem half_t {S : Finset S3x4096x512.Idx} {b : ℕ} (slot : Fin 3) (k : Fin 16) (lane : Fin 2) (n : Fin 43) (hS : InS S slot k lane) (hb : b + 256 * lane.val = 256 * n.val)
    (g : Fin 32) (hg : g.val / 2 = k.val) :
    iprop(Wv d c S b ∗ Wsv d c) ⊢ WP c (half slot g lane n) (fun v => iprop(⌜v = deq (blk d.w (128 * g.val) (256 * n.val)) (blk d.ws g.val (256 * n.val))⌝ ∗ Wv d c S b ∗ Wsv d c)) := by
  have e : Wv d c S b = Ag c (slotV slot) S (fun _ => True) (d.wT b) := rfl
  rw [e]
  unfold half Wsv
  iintro ⟨HW, HS⟩
  iapply (seq (ld_ag (m := slotV slot) (S := S) (T := d.wT b) _ _ ?_ (fun _ _ => trivial))) $$ HW
  · intro i hi
    obtain ⟨x, -, rfl⟩ := Finset.mem_map.mp hi
    obtain ⟨h0, h1, h2⟩ := sq_emb (Z := 3) (A := 4096) (B := 512) (A' := 4096) (B' := 512) (i := slot.val) (a := 0) (r := 128 * g.val) (k := 256 * lane.val) (R := 128) (C := 256)
      (inb₃ (d := ![3, 4096, 512]) (size := ![1, 4096, 512]) (by have := slot.isLt; simp; omega) (by simp) (by simp))
      (Rect.inb₂ (d := ![4096, 512]) (size := ![128, 256]) (by have := g.isLt; simp; omega) (by have := lane.isLt; simp; omega)) (sq_numel 4096 512) x
    have hx0 : (x 0).val < 128 := (x 0).isLt
    have hx1 : (x 1).val < 256 := (x 1).isLt
    exact hS _ h0 (le_of_le_of_eq (by omega) h1.symm) (lt_of_eq_of_lt h1 (by omega)) (le_of_le_of_eq (by omega) h2.symm) (lt_of_eq_of_lt h2 (by omega))
  iintro %w ⟨%hw, HW⟩
  iapply (seq (ld_ag _ _ (fun _ _ => Finset.mem_univ _) (fun _ _ => trivial))) $$ HS
  iintro %v ⟨%hv, HS⟩
  iapply done
  isplitr
  · ipureintro
    have e1 : v = blk d.ws g.val (256 * n.val) := hv.trans (emb_blk d.ws _)
    have e2 : w = blk d.w (128 * g.val) (256 * n.val) := by
      rw [hw]
      funext x
      obtain ⟨h0, h1, h2⟩ := sq_emb (Z := 3) (A := 4096) (B := 512) (A' := 4096) (B' := 512) (i := slot.val) (a := 0) (r := 128 * g.val) (k := 256 * lane.val) (R := 128) (C := 256)
        (inb₃ (d := ![3, 4096, 512]) (size := ![1, 4096, 512]) (by have := slot.isLt; simp; omega) (by simp) (by simp))
        (Rect.inb₂ (d := ![4096, 512]) (size := ![128, 256]) (by have := g.isLt; simp; omega) (by have := lane.isLt; simp; omega)) (sq_numel 4096 512) x
      show d.w (at2 4096 11008 _ (b + _)) = d.w (at2 4096 11008 _ _)
      refine congrArg d.w ?_
      congr 1
      · exact h1.trans (Nat.zero_add _)
      · exact (congrArg (b + ·) h2).trans (by omega)
    rw [e1, e2]
  isplitl [HW] <;> iassumption

theorem pushRhs_t {u : Mxu F} {q r : Fin 2} {v : Tile F} {Q : Mxu F → sProp 𝕄} (h : u.PushOk q r false) :
    Q (u.pushed q r false v) ⊢ WP c (u.pushRhs q r false v) Q := by
  unfold Mxu.pushRhs
  exact (le_wp_ret _ _ _ _ Q).trans (wp_assume (defs := defs₀ (F := F)) (Q := Q) (k := fun _ => .ret (u.pushed q r false v)) Variants.none (c : Thread nD τ) none Set.univ h)
theorem accLoaded_t {u : Mxu F} {q : Fin 2} {A M : ℕ} {φ : FTy} {lhs : FVec F ⟨2, ![M, 256]⟩ φ} {h : Mxu.Fits A M} {t : Mxu.Staged F} {Q : Mxu F → sProp 𝕄} (ht : u.gmr q = some t) :
    Q (u.accBy q t A lhs h) ⊢ WP c (u.accLhsLoaded q A lhs h) Q := by
  obtain ⟨hs, e⟩ := Option.eq_some_iff_get_eq.mp ht
  rw [← e]
  unfold Mxu.accLhsLoaded
  exact (le_wp_ret _ _ _ _ Q).trans (wp_assume (defs := defs₀ (F := F)) (Q := Q) (k := fun hl => .ret (u.accBy q ((u.gmr q).get hl.down) A lhs h)) Variants.none (c : Thread nD τ) none Set.univ hs)

theorem push_t {S : Finset S3x4096x512.Idx} {b : ℕ} (slot : Fin 3) (k : Fin 16) (lane : Fin 2) (n : Fin 43) (r : Fin 2) (s : Mxu F) (C : Fin 2 → Col F)
    (hS : InS S slot k lane) (hb : b + 256 * lane.val = 256 * n.val) :
    iprop(⌜Ms s none C⌝ ∗ Wv d c S b ∗ Wsv d c) ⊢ WP c (push slot k lane n r s) (fun s => iprop(⌜Ms s (some (r, d.tile n.val k.val)) C⌝ ∗ Wv d c S b ∗ Wsv d c)) := by
  unfold push
  iintro ⟨%hM, H⟩
  iapply (seq (half_t d slot k lane n hS hb ⟨2 * k.val, _⟩ (by show 2 * k.val / 2 = _; omega))) $$ H
  iintro %a ⟨%ha, H⟩
  iapply (seq (half_t d slot k lane n hS hb ⟨2 * k.val + 1, _⟩ (by show (2 * k.val + 1) / 2 = _; omega))) $$ H
  iintro %e ⟨%he, H⟩
  obtain ⟨G, hG⟩ := hM
  have m0 := Ms.pushed0 hG r (glued a e)
  have m1 := Ms.pushed1 r _ m0
  iapply (Mxu.wp_pushRhs _ (Mxu.pushOk_of_none _ _ _ _ (by rw [hG.reg]; rfl)))
  iapply (pushRhs_t (Mxu.pushOk_of_none _ _ _ _ (by rw [m0.reg]; unfold Rh; rw [if_neg (by simp)]; rfl)))
  isplitr
  · ipureintro
    subst ha he
    exact ⟨G, m1⟩
  iexact H

/-! ## A tile's products -/

theorem ldA_t {P : S768x4096.Idx → Prop} (k : Fin 16) (m : Fin 2) (p : Fin 3) (hP : ∀ i : S768x4096.Idx, 256 * k.val ≤ (i 1).val → (i 1).val < 256 * k.val + 256 → P i) :
    Qb d c P ⊢ WP c (ldA k m p) (fun v => iprop(⌜v = d.qa k.val m.val p.val⌝ ∗ Qb d c P)) := by
  unfold Qb
  iintro H
  iapply (last (ld_ag _ _ (fun _ _ => Finset.mem_univ _) ?_)) $$ H
  · intro i hi
    have hi := all2.1 (mem_box.1 hi)
    exact hP i hi.2.1 hi.2.2
  iintro %v ⟨%hv, H⟩
  isplitr
  · ipureintro; exact hv.trans (emb_blk d.qbT _)
  iexact H

set_option maxHeartbeats 1000000 in
theorem accumQ_t {P : S768x4096.Idx → Prop} (par : Fin 2) (k : Fin 16) (n : ℕ) (r : Fin 2) (s : Mxu F) (C : Fin 2 → Col F)
    (hP : ∀ i : S768x4096.Idx, 256 * k.val ≤ (i 1).val → (i 1).val < 256 * k.val + 256 → P i) :
    iprop(⌜Ms s (some (r, d.tile n k.val)) C⌝ ∗ Qb d c P)
      ⊢ WP c (accumQ par k r s) (fun s => iprop(⌜Mst s (Rs none) (fun _ => some (d.tile n k.val)) (depQ C par (d.prod n k.val))⌝ ∗ Qb d c P)) := by
  unfold accumQ
  iintro ⟨%hM, H⟩
  obtain ⟨G, h0⟩ := hM
  rw [← upTo_zero C par (d.prod n k.val)] at h0
  iapply (seq (ldA_t d k 0 0 hP)) $$ H
  iintro %a0 ⟨%e0, H⟩
  subst e0
  have h1 := Ms.acc0 r _ h0 par (d.qa k.val 0 0) (upTo_self C par (d.prod n k.val) 0 0 (by decide) 0 rfl) (upTo_ne C par (d.prod n k.val) 0 0 0 rfl)
  iapply (seq (ldA_t d k 1 0 hP)) $$ H
  iintro %a1 ⟨%e1, H⟩
  subst e1
  have h2 := Ms.acc1 r _ h1 par (d.qa k.val 1 0) (upTo_self C par (d.prod n k.val) 1 0 (by decide) 1 rfl) (upTo_ne C par (d.prod n k.val) 1 0 1 rfl)
  iapply (seq (ldA_t d k 0 1 hP)) $$ H
  iintro %a2 ⟨%e2, H⟩
  subst e2
  have h3 := h2.accBy par 0 1 (d.tile n k.val) (d.qa k.val 0 1) (upTo_self C par (d.prod n k.val) 0 1 (by decide) 2 rfl) (upTo_ne C par (d.prod n k.val) 0 1 2 rfl)
  iapply (Mxu.wp_accLhsLoaded _ _ (h2.gmr 0 _ rfl))
  iapply (seq (ldA_t d k 1 1 hP)) $$ H
  iintro %a3 ⟨%e3, H⟩
  subst e3
  have h4 := h3.accBy par 1 1 (d.tile n k.val) (d.qa k.val 1 1) (upTo_self C par (d.prod n k.val) 1 1 (by decide) 3 rfl) (upTo_ne C par (d.prod n k.val) 1 1 3 rfl)
  iapply (Mxu.wp_accLhsLoaded _ _ (h3.gmr 1 _ rfl))
  iapply (seq (ldA_t d k 0 2 hP)) $$ H
  iintro %a4 ⟨%e4, H⟩
  subst e4
  have h5 := h4.accBy par 0 2 (d.tile n k.val) (d.qa k.val 0 2) (upTo_self C par (d.prod n k.val) 0 2 (by decide) 4 rfl) (upTo_ne C par (d.prod n k.val) 0 2 4 rfl)
  iapply (Mxu.wp_accLhsLoaded _ _ (h4.gmr 0 _ rfl))
  iapply (seq (ldA_t d k 1 2 hP)) $$ H
  iintro %a5 ⟨%e5, H⟩
  subst e5
  have h6 := h5.accBy par 1 2 (d.tile n k.val) (d.qa k.val 1 2) (upTo_self C par (d.prod n k.val) 1 2 (by decide) 5 rfl) (upTo_ne C par (d.prod n k.val) 1 2 5 rfl)
  iapply (accLoaded_t (h5.gmr 1 _ rfl))
  isplitr
  · ipureintro
    exact h6
  iexact H

theorem prod_u (n k : ℕ) (q : Fin 2) (hq : q.val = k % 2) : d.prod n k q 3 = some (FloatOps.mxuPass (DotDims.plain 8 256 256) (d.ub k) (d.tile n k)) := if_pos hq
theorem prod_none (n k : ℕ) (q : Fin 2) (hq : q.val ≠ k % 2) : d.prod n k q 3 = none := if_neg hq

theorem accumU_t (par : Fin 2) (k : Fin 16) (kk : ℕ) (hk : k.val < kk) (n : ℕ) (s : Mxu F) (C : Fin 2 → Col F) :
    iprop(⌜Mst s (Rs none) (fun _ => some (d.tile n k.val)) (depQ C par (d.prod n k.val))⌝ ∗ UB d c kk)
      ⊢ WP c (accumU par k s) (fun s => iprop(⌜Ms s none (depAll C par (d.prod n k.val))⌝ ∗ UB d c kk)) := by
  unfold accumU UB
  iintro ⟨%h, H⟩
  iapply (seq (ld_ag _ _ (fun _ _ => Finset.mem_univ _) ?_)) $$ H
  · intro i hi
    have hi := all2.1 (mem_box.1 hi)
    have : (i 1).val < 256 * k.val + 256 := hi.2.2
    show (i 1).val < 256 * kk
    omega
  iintro %u ⟨%hu, H⟩
  have hu : u = d.ub k.val := hu.trans (emb_blk d.uT _)
  subst hu
  have h1 := h.accBy (C' := depAll C par (d.prod n k.val)) par ⟨k.val % 2, Nat.mod_lt _ (by omega)⟩ 3 (d.tile n k.val) (d.ub k.val)
    (depAll_self C par (d.prod n k.val) _ _ (prod_u d n k.val _ rfl))
    (depAll_ne C par (d.prod n k.val) _ fun q hq => prod_none d n k.val q fun e => hq (Fin.ext e))
  iapply (accLoaded_t (h.gmr _ _ rfl))
  isplitr
  · ipureintro
    exact ⟨_, h1⟩
  iexact H

theorem accum_t {P : S768x4096.Idx → Prop} (par : Fin 2) (k : Fin 16) (kk : ℕ) (hk : k.val < kk) (n : ℕ) (r : Fin 2) (s : Mxu F) (C : Fin 2 → Col F)
    (hP : ∀ i : S768x4096.Idx, 256 * k.val ≤ (i 1).val → (i 1).val < 256 * k.val + 256 → P i) :
    iprop(⌜Ms s (some (r, d.tile n k.val)) C⌝ ∗ Qb d c P ∗ UB d c kk)
      ⊢ WP c (accum par k r s) (fun s => iprop(⌜Ms s none (depAll C par (d.prod n k.val))⌝ ∗ Qb d c P ∗ UB d c kk)) := by
  unfold accum
  iintro ⟨%hM, HQ, HU⟩
  iapply (seq (accumQ_t d par k n r s C hP)) $$ [HQ]
  · isplitr
    · ipureintro; exact hM
    iexact HQ
  iintro %s' ⟨%h, HQ⟩
  iapply (last (accumU_t d par k kk hk n s' C)) $$ [HU]
  · isplitr
    · ipureintro; exact h
    iexact HU
  iintro %s'' ⟨%h, HU⟩
  isplitr
  · ipureintro; exact h
  isplitl [HQ] <;> iassumption

end OsPlus
end
-- ==== Proof.Finish.lean ====
module

public import proofs.«01_k».proof.Proof.Unit
public import Idealize.ShloMosaic.Lib.ValueLayout

/-! A column tile finished: its corrected bias and its rows of `y`. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

variable {c : Dev nD} (d : Data F)

/-- A finished row cell read and popped. -/
theorem Mst.rows {s : Mxu F} {R G C C'} (h : Mst s R G C) (n : ℕ) (par : Fin 2) (p : Fin 3) (m : Fin 2) (hc : C par m p.castSucc = some (d.fin n m p.castSucc))
    (hs : C' par m p.castSucc = none) (ho : ∀ par' q' p', ¬ (par' = par ∧ q' = m ∧ p' = p.castSucc) → C' par' q' p' = C par' q' p') :
    s.read m (98 * par.val + 32 * p.val) (fitsP par p) = d.finRow n m p.val ∧ Mst (s.pop m (98 * par.val + 32 * p.val) 128 (fitsP par p)) R G C' :=
  match p with
  | 0 => ⟨(h.full par m 0 _ hc).2, h.pop par m 0 hs ho⟩
  | 1 => ⟨(h.full par m 1 _ hc).2, h.pop par m 1 hs ho⟩
  | 2 => ⟨(h.full par m 2 _ hc).2, h.pop par m 2 hs ho⟩

/-- The element is in the box. -/
def In {sp : Space} {s : Shape} {e : EltTy} (c : Dev nD) (m : Memref sig .tc sp s e) (off size : Fin s.rank → ℕ) (h : ∀ a, off a + size a ≤ s.size a) (i : Idx (m.view.loc (c : Thread nD τ))) : Prop :=
  i ∈ (m.access (Rect.unit off size h)).set

/-- What a buffer of `y` must satisfy to take the rows of column tile `n`: `D j` are the elements reached after `j` of its six blocks. -/
structure YOk (c : Dev nD) {Z C : ℕ} (yb : Memref sig .tc .vmem ⟨3, ![Z, 768, C]⟩ .bf16) (ys : Memref sig .tc .vmem ⟨2, ![768, C]⟩ .bf16) (z lane n : ℕ)
    (S : Finset (Idx (yb.view.loc (c : Thread nD τ)))) (D : ℕ → Idx (yb.view.loc (c : Thread nD τ)) → Prop) (T : Buf (Elt F) (yb.view.loc (c : Thread nD τ))) : Prop where
  load : ∀ (j : ℕ) (m : Fin 2) (p : Fin 3) h, Ag c yb S (D j) T ⊢ WP c (ld ys ![384 * m.val + 128 * p.val, 256 * lane] ![128, 256] h h_S128x256) (fun _ => Ag c yb S (D j) T)
  sub : ∀ (m : Fin 2) (p : Fin 3) h i, In c yb ![z, 384 * m.val + 128 * p.val, 256 * lane] ![1, 128, 256] h i → i ∈ S
  val : ∀ (m : Fin 2) (p : Fin 3) h, (shapeCast S1x128x256 (d.yb n m p.val) shapeCasts_S128x256_S1x128x256 : Vec F S1x128x256 .bf16)
    = (yb.access (Rect.unit (s := ⟨3, ![Z, 768, C]⟩) ![z, 384 * m.val + 128 * p.val, 256 * lane] ![1, 128, 256] h)).read (Elt F) T
  next : ∀ (m : Fin 2) (p : Fin 3) h, ∀ i ∈ S, D (2 * p.val + m.val + 1) i → D (2 * p.val + m.val) i
    ∨ In c yb ![z, 384 * m.val + 128 * p.val, 256 * lane] ![1, 128, 256] h i

section
variable {Z C : ℕ} {yb : Memref sig .tc .vmem ⟨3, ![Z, 768, C]⟩ .bf16} {ys : Memref sig .tc .vmem ⟨2, ![768, C]⟩ .bf16} {z : Fin Z} {lane n : ℕ}
  {S : Finset (Idx (yb.view.loc (c : Thread nD τ)))} {D : ℕ → Idx (yb.view.loc (c : Thread nD τ)) → Prop} {T : Buf (Elt F) (yb.view.loc (c : Thread nD τ))}

theorem finRows_t (hY : YOk d c yb ys z.val lane n S D T) (hy : yb.IsWhole) (hl : 256 * lane + 256 ≤ C) (par : Fin 2) (p : Fin 3) (m : Fin 2) (s : Mxu F) {R G}
    {K : Fin 2 → Col F} (hK : ∀ q p, K par q p = some (d.fin n q p)) :
    iprop(⌜Mst s R G (popTo K par (2 + (2 * p.val + m.val)))⌝ ∗ Ag c yb S (D (2 * p.val + m.val)) T)
      ⊢ WP c (finRows yb hy ys z lane hl par d.xsw (d.bcb n) p m s) (fun s => iprop(⌜Mst s R G (popTo K par (2 + (2 * p.val + m.val + 1)))⌝ ∗ Ag c yb S (D (2 * p.val + m.val + 1)) T)) := by
  have hr : 2 + (2 * p.val + m.val) = rank m p.castSucc := by
    match p with
    | 0 | 1 | 2 => unfold rank; rw [if_neg (by decide)]; show _ = 2 + 2 * _ + _; simp <;> omega
  unfold finRows
  iintro ⟨%h, H⟩
  obtain ⟨e, h'⟩ := h.rows d (C' := popTo K par (2 + (2 * p.val + m.val) + 1)) n par p m (by rw [popTo_old _ _ _ _ _ (le_of_eq hr)]; exact hK m _) (popTo_self _ _ _ _ _ hr) (popTo_ne _ _ _ _ _ hr)
  iapply (seq (hY.load _ m p _)) $$ H
  iintro %_ H
  iapply (seq (st_ag (m := yb) (D' := D (2 * p.val + m.val + 1)) _ _ _ ?_ ?_ ?_)) $$ H
  · exact fun i hi => hY.sub m p _ i hi
  · rw [← hY.val m p, e]; rfl
  · exact fun i hi hd => hY.next m p _ i hi hd
  iintro %_ H
  iapply done
  isplitr
  · ipureintro; exact h'
  iexact H

/-- The bias, held; the corrected bias of the column tiles before `n`. -/
def Bias (c : Dev nD) : sProp 𝕄 := Ag c biasv Finset.univ (fun _ => True) d.b
def BcB (c : Dev nD) (n : ℕ) : sProp 𝕄 := Ag c bcv Finset.univ (fun i : S1x11008.Idx => (i 1).val < 256 * n) d.bcT

theorem blk_bc {n : ℕ} (hn : n < 43) : blk d.bcT 0 (256 * n) = (shapeCast S1x256 (d.bcb n) shapeCasts_S1x256_S1x256 : Vec F S1x256 .f32) :=
  blk_glue (R := 1) _ 0 n (by omega) (by omega)

set_option maxHeartbeats 1000000 in
theorem finish_t (n : Fin 43) (hY : YOk d c yb ys z.val lane n.val S D T) (hy : yb.IsWhole) (hl : 256 * lane + 256 ≤ C) (par : Fin 2) (s : Mxu F) {o}
    {K : Fin 2 → Col F} (hK : ∀ q p, K par q p = some (d.fin n.val q p)) :
    iprop(⌜Ms s o K⌝ ∗ Scale d c ∗ Bias d c ∗ BcB d c n.val ∗ Ag c yb S (D 0) T)
      ⊢ WP c (finish yb hy ys z lane hl par n s) (fun s => iprop(⌜Ms s o (popAll K par)⌝ ∗ Scale d c ∗ Bias d c ∗ BcB d c (n.val + 1) ∗ Ag c yb S (D 6) T)) := by
  have hn := n.isLt
  unfold finish
  iintro ⟨%h, HW, HB, HC, HY⟩
  obtain ⟨G, h⟩ := h
  rw [← popTo_zero K par] at h
  iapply (seq (xsWord_t d)) $$ HW
  iintro %xs ⟨%hxs, HW⟩
  subst hxs
  have h1 := h.pop (C' := popTo K par 1) par 0 3 (popTo_self _ _ _ _ 0 rfl) (popTo_ne _ _ _ _ 0 rfl)
  have e0 : s.read 0 (98 * par.val + 96) (fitsC par) = d.fin n.val 0 3 := (h.full par 0 3 _ (by rw [popTo_zero]; exact hK 0 3)).2
  have e1 := (h1.full par 1 3 _ (by rw [popTo_old _ _ _ _ _ (by decide)]; exact hK 1 3)).2
  have h2 := h1.pop (C' := popTo K par 2) par 1 3 (popTo_self _ _ _ _ 1 rfl) (popTo_ne _ _ _ _ 1 rfl)
  unfold Bias BcB
  iapply (seq (ld_ag _ _ (fun _ _ => Finset.mem_univ _) (fun _ _ => trivial))) $$ HB
  iintro %b ⟨%hb, HB⟩
  have hb : b = blk d.b 0 (256 * n.val) := hb.trans (emb_blk d.b _)
  have hbc : corrected b (s.read 0 (98 * par.val + 96) (fitsC par)) ((s.pop 0 (98 * par.val + 96) 8 (fitsC par)).read 1 (98 * par.val + 96) (fitsC par)) = d.bcb n.val := by
    subst hb; rw [e0]; exact congrArg (corrected _ _) e1
  iapply (seq (ld_any _ _ fun _ _ => Finset.mem_univ _)) $$ HC
  iintro %_ HC
  iapply (seq (st_ag (c := c) (m := bcv) (D' := fun i : S1x11008.Idx => (i 1).val < 256 * (n.val + 1)) _ _ _ (fun _ _ => Finset.mem_univ _) ?_ ?_)) $$ HC
  · rw [hbc]
    exact (blk_bc d hn).symm.trans (emb_blk d.bcT _).symm
  · intro x _ (hd : (x 1).val < _)
    by_cases h : (x 1).val < 256 * n.val
    · exact .inl h
    · have h0 : (x 0).val < 1 := (x 0).isLt
      exact .inr (mem_box.2 (all2.2 ⟨⟨by show 0 ≤ _; omega, by show _ < 0 + 1; omega⟩, ⟨by show 256 * n.val ≤ _; omega, by show _ < 256 * n.val + 256; omega⟩⟩))
  iintro %_ HC
  rw [hbc]
  iapply (last (up 0 (fun p s => iprop(⌜Mst s (Rs o) G (popTo K par (2 + 2 * p))⌝ ∗ Ag c yb S (D (2 * p)) T)) ?_ 3 0 _ (by omega) _)) $$ [HY]
  · intro p s _
    iintro ⟨%h, H⟩
    iapply (seq (finRows_t d hY hy hl par p 0 s hK)) $$ [H]
    · isplitr
      · ipureintro; exact h
      iexact H
    iintro %s' ⟨%h, H⟩
    iapply (last (finRows_t d hY hy hl par p 1 s' hK)) $$ [H]
    · isplitr
      · ipureintro; exact h
      iexact H
    iintro %s'' H
    iexact H
  · isplitr
    · ipureintro; exact h2
    iexact HY
  iintro %s' ⟨%h, HY⟩
  isplitr
  · ipureintro
    rw [← popTo_all]
    exact ⟨G, h⟩
  isplitl [HW]; · iexact HW
  isplitl [HB]; · iexact HB
  isplitl [HC] <;> iassumption

end

/-! ## The buffers of `y` -/

theorem all3 {off size x : Fin 3 → ℕ} : (∀ a, off a ≤ x a ∧ x a < off a + size a) ↔
    (off 0 ≤ x 0 ∧ x 0 < off 0 + size 0) ∧ (off 1 ≤ x 1 ∧ x 1 < off 1 + size 1) ∧ (off 2 ≤ x 2 ∧ x 2 < off 2 + size 2) :=
  ⟨fun h => ⟨h 0, h 1, h 2⟩, fun h a => match a with | 0 => h.1 | 1 => h.2.1 | 2 => h.2.2⟩

theorem mem_ySlot {z : Fin 2} {i : S2x768x512.Idx} : i ∈ (ySlot z).view.set ↔ (i 0).val = z.val := by
  refine (iff_of_eq (congrArg (fun S : Finset S2x768x512.Idx => i ∈ S) (Memref.set_view_squeeze _ _))).trans (Iff.intro (fun h => ?_) fun h => ?_)
  · have h : z.val ≤ _ ∧ _ < z.val + 1 := (all3.1 (mem_box.1 h)).1
    omega
  · have h1 : (i 1).val < 768 := (i 1).isLt
    have h2 : (i 2).val < 512 := (i 2).isLt
    exact mem_box.2 (all3.2 (by
      show (z.val ≤ _ ∧ _ < z.val + 1) ∧ (0 ≤ _ ∧ _ < 0 + 768) ∧ (0 ≤ _ ∧ _ < 0 + 512)
      omega))
theorem mem_y0Slot {z : Fin 3} {i : S3x768x256.Idx} : i ∈ (y0Slot z).view.set ↔ (i 0).val = z.val := by
  refine (iff_of_eq (congrArg (fun S : Finset S3x768x256.Idx => i ∈ S) (Memref.set_view_squeeze _ _))).trans (Iff.intro (fun h => ?_) fun h => ?_)
  · have h : z.val ≤ _ ∧ _ < z.val + 1 := (all3.1 (mem_box.1 h)).1
    omega
  · have h1 : (i 1).val < 768 := (i 1).isLt
    have h2 : (i 2).val < 256 := (i 2).isLt
    exact mem_box.2 (all3.2 (by
      show (z.val ≤ _ ∧ _ < z.val + 1) ∧ (0 ≤ _ ∧ _ < 0 + 768) ∧ (0 ≤ _ ∧ _ < 0 + 256)
      omega))

/-- The elements reached in lane `lane` after `j` blocks. -/
def Dy (lane j r k : ℕ) : Prop := k < 256 * lane ∨ k < 256 * lane + 256 ∧ 2 * (r % 384 / 128) + r / 384 < j

theorem Dy_next {lane p m r k : ℕ} (hr : r < 768) (hm : m < 2) (hp : p < 3) (h : Dy lane (2 * p + m + 1) r k) :
    Dy lane (2 * p + m) r k ∨ (384 * m + 128 * p ≤ r ∧ r < 384 * m + 128 * p + 128) ∧ (256 * lane ≤ k ∧ k < 256 * lane + 256) := by
  unfold Dy at h ⊢; omega

theorem yb_blk {m : Fin 2} {p : Fin 3} {n : ℕ} (hn : n < 43) (x : S128x256.Idx) :
    d.yT (at2 768 11008 (384 * m.val + 128 * p.val + (x 0).val) (256 * n + (x 1).val)) = d.yb n m p.val x := by
  have hm := m.isLt
  have hp := p.isLt
  have h := congrFun (blk_glue (A := 768) (B := 11008) (R := 128) (C := 256) (fun a n => d.yb n (Fin.ofNat 2 (a / 3)) (a % 3)) (3 * m.val + p.val) n (by omega) (by omega)) x
  have e0 : (Fin.ofNat 2 ((3 * m.val + p.val) / 3) : Fin 2) = m := Fin.ext (by show (3 * m.val + p.val) / 3 % 2 = _; omega)
  have e1 : (3 * m.val + p.val) % 3 = p.val := by omega
  rw [e0, e1] at h
  rw [← h]
  show d.yT _ = d.yT (at2 768 11008 (128 * (3 * m.val + p.val) + _) _)
  congr 2; omega

theorem y_val {m : Fin 2} {p : Fin 3} {n b lane : ℕ} (hn : n < 43) (hb : b + 256 * lane = 256 * n) (y : S1x128x256.Idx → ℕ × ℕ)
    (hy : ∀ x, y x = (384 * m.val + 128 * p.val + (x 1).val, 256 * lane + (x 2).val)) :
    (shapeCast S1x128x256 (d.yb n m p.val) shapeCasts_S128x256_S1x128x256 : Vec F S1x128x256 .bf16) = fun x => d.yT (at2 768 11008 (y x).1 (b + (y x).2)) := by
  funext x
  rw [eq_ix3 x]
  refine (shapeCast_ab_1ab_apply _ _ (x 0) (x 1) (x 2)).trans ?_
  refine Eq.trans ?_ (congrArg (fun t : ℕ × ℕ => d.yT (at2 768 11008 t.1 (b + t.2))) (hy _).symm)
  refine (yb_blk d hn (ix2 (n0 := 128) (n1 := 256) (x 1) (x 2))).symm.trans ?_
  show d.yT _ = d.yT (at2 768 11008 _ (b + (256 * lane + _)))
  rw [← Nat.add_assoc, hb]

theorem yOk_win (z : Fin 2) (lane n b : ℕ) (hl : 256 * lane + 256 ≤ 512) (hn : n < 43) (hb : b + 256 * lane = 256 * n) :
    YOk d c yv (ySlot z) z.val lane n (ySlot z).view.set (fun j (i : S2x768x512.Idx) => Dy lane j (i 1).val (i 2).val) (d.ysT b) where
  load j m p h := by
    have e : Ag c yv (ySlot z).view.set (fun (i : S2x768x512.Idx) => Dy lane j (i 1).val (i 2).val) (d.ysT b) = (Ag c (ySlot z) (ySlot z).view.set (fun (i : S2x768x512.Idx) => Dy lane j (i 1).val (i 2).val) (d.ysT b) : sProp 𝕄) := rfl
    rw [e]
    exact ld_any _ _ fun i hi => by
      obtain ⟨x, -, rfl⟩ := Finset.mem_map.mp hi
      exact View.emb_mem_set _ _
  sub m p h i hi := mem_ySlot.2 (by
    have := (all3.1 (mem_box.1 hi)).1
    have : z.val ≤ _ ∧ _ < z.val + 1 := this
    omega)
  val m p h := by
    refine (y_val d hn hb (fun x => (((yv.access (Rect.unit (s := S2x768x512) ![z.val, 384 * m.val + 128 * p.val, 256 * lane] ![1, 128, 256] h)).emb x 1).val, ((yv.access (Rect.unit (s := S2x768x512) ![z.val, 384 * m.val + 128 * p.val, 256 * lane] ![1, 128, 256] h)).emb x 2).val)) fun x => ?_).trans rfl
    refine Prod.ext ?_ ?_
    · show 384 * m.val + 128 * p.val + 1 * (x 1).val = _; omega
    · show 256 * lane + 1 * (x 2).val = _; omega
  next m p h i hi hd := by
    rcases Dy_next (i 1).isLt m.isLt p.isLt hd with hd | hd
    · exact .inl hd
    · have hi := mem_ySlot.1 hi
      exact .inr (mem_box.2 (all3.2 ⟨⟨by show z.val ≤ _; omega, by show _ < z.val + 1; omega⟩, hd⟩))

theorem yOk_tile (z : Fin 3) (n : ℕ) (hn : n < 43) :
    YOk d c y0v (y0Slot z) z.val 0 n (y0Slot z).view.set (fun j (i : S3x768x256.Idx) => Dy 0 j (i 1).val (i 2).val) (d.ytT (256 * n)) where
  load j m p h := by
    have e : Ag c y0v (y0Slot z).view.set (fun (i : S3x768x256.Idx) => Dy 0 j (i 1).val (i 2).val) (d.ytT (256 * n)) = (Ag c (y0Slot z) (y0Slot z).view.set (fun (i : S3x768x256.Idx) => Dy 0 j (i 1).val (i 2).val) (d.ytT (256 * n)) : sProp 𝕄) := rfl
    rw [e]
    exact ld_any _ _ fun i hi => by
      obtain ⟨x, -, rfl⟩ := Finset.mem_map.mp hi
      exact View.emb_mem_set _ _
  sub m p h i hi := mem_y0Slot.2 (by
    have := (all3.1 (mem_box.1 hi)).1
    have : z.val ≤ _ ∧ _ < z.val + 1 := this
    omega)
  val m p h := by
    refine (y_val d (lane := 0) hn rfl (fun x => (((y0v.access (Rect.unit (s := S3x768x256) ![z.val, 384 * m.val + 128 * p.val, 256 * 0] ![1, 128, 256] h)).emb x 1).val, ((y0v.access (Rect.unit (s := S3x768x256) ![z.val, 384 * m.val + 128 * p.val, 256 * 0] ![1, 128, 256] h)).emb x 2).val)) fun x => ?_).trans rfl
    refine Prod.ext ?_ ?_
    · show 384 * m.val + 128 * p.val + 1 * (x 1).val = _; omega
    · show 256 * 0 + 1 * (x 2).val = _; omega
  next m p h i hi hd := by
    rcases Dy_next (i 1).isLt m.isLt p.isLt hd with hd | hd
    · exact .inl hd
    · have hi := mem_y0Slot.1 hi
      exact .inr (mem_box.2 (all3.2 ⟨⟨by show z.val ≤ _; omega, by show _ < z.val + 1; omega⟩, hd⟩))

end OsPlus
end
-- ==== Proof.Copies.lean ====
module

public import proofs.«01_k».proof.Proof.Finish

/-! The kernel's copies: what each needs, holds in flight and gives back. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

variable {c : Dev nD} (d : Data F)

theorem carve {ℓ : Loc nD τ sig} {q : PosShare TreeShare} {f : Buf (Elt F) ℓ} (I : Finset (Idx ℓ)) :
    (ℓ ↦[Finset.univ]{q} f : sProp 𝕄) ⊢ iprop((ℓ ↦[I]{q} f) ∗ ℓ ↦[Finset.univ \ I]{q} f) := (pointsTo_split_subset (Finset.subset_univ I)).1
theorem mend {ℓ : Loc nD τ sig} {q : PosShare TreeShare} {f : Buf (Elt F) ℓ} (I : Finset (Idx ℓ)) :
    iprop((ℓ ↦[I]{q} f) ∗ ℓ ↦[Finset.univ \ I]{q} f) ⊢ (ℓ ↦[Finset.univ]{q} f : sProp 𝕄) := (pointsTo_split_subset (Finset.subset_univ I)).2

section
variable {sp sp' : Space} {s : Shape} {e : EltTy}

/-- A copy out of a whole array: not started, in flight, landed. -/
def C0 (c : Dev nD) (src : Memref sig .tc sp s e) (dst : Memref sig .tc sp' s e) (sem : DmaSem sig) (q : PosShare TreeShare)
    (f : Buf (Elt F) (src.view.loc (c : Thread nD τ))) (T : Buf (Elt F) (dst.view.loc (c : Thread nD τ))) : sProp 𝕄 :=
  iprop((src.view.loc (c : Thread nD τ) ↦[Finset.univ]{q} f) ∗ Ag c dst dst.view.set (fun _ => False) T ∗ semVal ((c : Thread nD τ), .dma sem) 0)
def C1 (c : Dev nD) (src : Memref sig .tc sp s e) (dst : Memref sig .tc sp' s e) (sem : DmaSem sig) (q : PosShare TreeShare)
    (f : Buf (Elt F) (src.view.loc (c : Thread nD τ))) (T : Buf (Elt F) (dst.view.loc (c : Thread nD τ))) : sProp 𝕄 :=
  iprop(Fl c src dst sem q f T ∗ (src.view.loc (c : Thread nD τ) ↦[Finset.univ \ src.view.set]{q} f))
def C2 (c : Dev nD) (src : Memref sig .tc sp s e) (dst : Memref sig .tc sp' s e) (sem : DmaSem sig) (q : PosShare TreeShare)
    (f : Buf (Elt F) (src.view.loc (c : Thread nD τ))) (T : Buf (Elt F) (dst.view.loc (c : Thread nD τ))) : sProp 𝕄 :=
  iprop((src.view.loc (c : Thread nD τ) ↦[Finset.univ]{q} f) ∗ (dst.view.loc (c : Thread nD τ) ↦[dst.view.set]{fullShare} T) ∗ semVal ((c : Thread nD τ), .dma sem) 0)

variable {src : Memref sig .tc sp s e} {dst : Memref sig .tc sp' s e} {sem : DmaSem sig} {q : PosShare TreeShare}
  {f : Buf (Elt F) (src.view.loc (c : Thread nD τ))} {T : Buf (Elt F) (dst.view.loc (c : Thread nD τ))}

theorem C0_start (hs) (hd) (ht) (h0 : 0 < s.numel) (hT : src.view.read (Elt F) f = dst.view.read (Elt F) T) :
    C0 c src dst sem q f T ⊢ WP c (Prog.lift (.enqueueDma src (.here dst) (.dma sem) hs hd ht)) (fun _ => C1 c src dst sem q f T) := by
  unfold C0 C1
  iintro ⟨Hs, Hd, Hv⟩
  ihave Hs := carve (ℓ := src.view.loc (c : Thread nD τ)) src.view.set $$ Hs
  icases Hs with ⟨Hs, Hr⟩
  iapply (last (copy_start hs hd ht h0 hT)) $$ [Hs Hd Hv]
  · isplitl [Hs]; · iexact Hs
    isplitl [Hd] <;> iassumption
  iintro %_ H
  isplitl [H] <;> iassumption

theorem C1_wait (hs) (hd) :
    iprop(C1 c src dst sem q f T ∗ Ow c) ⊢ WP c (Prog.lift (.waitDma2 sem src dst hs hd)) (fun _ => iprop(C2 c src dst sem q f T ∗ Ow c)) := by
  unfold C1 C2
  iintro ⟨⟨Hf, Hr⟩, Ho⟩
  iapply (last (copy_wait hs hd)) $$ [Hf Ho]
  · isplitl [Hf] <;> iassumption
  iintro %_ ⟨Hd, Hs, Hv, Ho⟩
  ihave Hs := mend (ℓ := src.view.loc (c : Thread nD τ)) src.view.set $$ [Hs Hr]
  · isplitl [Hs] <;> iassumption
  isplitl [Hs Hd Hv]
  · isplitl [Hs]; · iexact Hs
    isplitl [Hd] <;> iassumption
  iexact Ho

end

/-- Where an element of a squeezed slice lies. -/
theorem sqv_emb {Z A B A' B' i a k : ℕ} (h3) (hq) (x : (⟨2, ![A', B']⟩ : Shape).Idx) :
    let y := (Rect.unit (s := ⟨3, ![Z, A, B]⟩) ![i, a, k] ![1, A', B'] h3).emb (Shape.reshapeEquiv hq x)
    (y 0).val = i ∧ (y 1).val = a + (x 0).val ∧ (y 2).val = k + (x 1).val := by
  have e := Shape.reshapeEquiv_cons_one (n := 2) (d := ![A', B']) hq x
  refine ⟨?_, ?_, ?_⟩
  · show i + 1 * (Shape.reshapeEquiv hq _ 0).val = _
    rw [e]; show i + 1 * 0 = i; omega
  · show a + 1 * (Shape.reshapeEquiv hq _ 1).val = _
    rw [e]; show a + 1 * (x 0).val = _; omega
  · show k + 1 * (Shape.reshapeEquiv hq _ 2).val = _
    rw [e]; show k + 1 * (x 1).val = _; omega

theorem pos2 {a b : ℕ} (ha : 0 < a) (hb : 0 < b) : 0 < (⟨2, ![a, b]⟩ : Shape).numel := by
  simp [Shape.numel, Fin.prod_univ_succ, ha, hb]
theorem pos1 {a : ℕ} (ha : 0 < a) : 0 < (⟨1, ![a]⟩ : Shape).numel := by
  simp [Shape.numel, Fin.prod_univ_succ, ha]

/-! ## The blocks of `x` -/

abbrev xSm (k : Fin 16) : DmaSem sig := (semAt xSem k).sem
abbrev X0 (c : Dev nD) (k : Fin 16) : sProp 𝕄 := C0 c (blkX xH k) (blkX xv k) (xSm k) (Transfers.shareTok fullShare 16 k) d.x d.x
abbrev X1 (c : Dev nD) (k : Fin 16) : sProp 𝕄 := C1 c (blkX xH k) (blkX xv k) (xSm k) (Transfers.shareTok fullShare 16 k) d.x d.x
abbrev X2 (c : Dev nD) (k : Fin 16) : sProp 𝕄 := C2 c (blkX xH k) (blkX xv k) (xSm k) (Transfers.shareTok fullShare 16 k) d.x d.x

theorem startX_t (k : Fin 16) : X0 d c k ⊢ WP c (startX k) (fun _ => X1 d c k) := C0_start _ _ _ (pos2 (by decide) (by decide)) rfl
theorem waitX_t (k : Fin 16) : iprop(X1 d c k ∗ Ow c) ⊢ WP c (waitX k) (fun _ => iprop(X2 d c k ∗ Ow c)) := C1_wait _ _

/-! ## The head's weights -/

abbrev whSm (k : Fin 16) : DmaSem sig := (semAt whSem k).sem
abbrev H0 (c : Dev nD) (k : Fin 16) : sProp 𝕄 := C0 c (headH k) (headV k) (whSm k) (Transfers.shareTok fullShare 16 k) d.w (d.wT 0)
abbrev H1 (c : Dev nD) (k : Fin 16) : sProp 𝕄 := C1 c (headH k) (headV k) (whSm k) (Transfers.shareTok fullShare 16 k) d.w (d.wT 0)
abbrev H2 (c : Dev nD) (k : Fin 16) : sProp 𝕄 := C2 c (headH k) (headV k) (whSm k) (Transfers.shareTok fullShare 16 k) d.w (d.wT 0)

theorem startHead_t (k : Fin 16) : H0 d c k ⊢ WP c (startHead k) (fun _ => H1 d c k) := by
  refine C0_start _ _ _ (pos2 (by decide) (by decide)) ?_
  funext x
  obtain ⟨h0, h1, h2⟩ := sqv_emb (Z := 3) (A := 4096) (B := 512) (A' := 256) (B' := 512) (i := 2) (a := 256 * k.val) (k := 0) (inbWhv k) (sq_numel 256 512) x
  show d.w _ = d.w (at2 4096 11008 _ (0 + _))
  refine congrArg d.w (eq_at2 _ _ _ ?_ ?_)
  · exact Eq.trans (by show 256 * k.val + 1 * (x 0).val = _; omega) h1.symm
  · exact Eq.trans (by show 0 + 1 * (x 1).val = _; omega) (congrArg (0 + ·) h2).symm
theorem waitHead_t (k : Fin 16) : iprop(H1 d c k ∗ Ow c) ⊢ WP c (waitHead k) (fun _ => iprop(H2 d c k ∗ Ow c)) := C1_wait _ _

/-! ## The windows of weights -/

abbrev wSm (i : Fin 3) : DmaSem sig := (semAt wSem i).sem
abbrev wTok (i : Fin 3) : PosShare TreeShare := Transfers.shareTok (Transfers.shareDrop fullShare 16) 3 i
abbrev W1 (c : Dev nD) (i : Fin 3) (t : Fin 20) : sProp 𝕄 := C1 c (winH t) (slotV i) (wSm i) (wTok i) d.w (d.wT (512 * t.val + 512))
abbrev Wt1 (c : Dev nD) : sProp 𝕄 := C1 c tailH tailV (wSm 2) (wTok 2) d.w (d.wT 10752)
/-- Slot `i` free. -/
def W0 (c : Dev nD) (i : Fin 3) : sProp 𝕄 :=
  iprop((wH.view.loc (c : Thread nD τ) ↦[Finset.univ]{wTok i} d.w) ∗ Ag c wv (slotV i).view.set (fun _ => False) (d.wT 0) ∗ semVal ((c : Thread nD τ), .dma (wSm i)) 0)

theorem junk {sp : Space} {s : Shape} {e : EltTy} {m : Memref sig .tc sp s e} {S : Finset (Idx (m.view.loc (c : Thread nD τ)))} {D : Idx (m.view.loc (c : Thread nD τ)) → Prop}
    {T T' : Buf (Elt F) (m.view.loc (c : Thread nD τ))} : (Ag c m S D T : sProp 𝕄) ⊢ Ag c m S (fun _ => False) T' := by
  unfold Ag
  iintro ⟨%g, -, H⟩
  iexists g
  isplitr; · ipureintro; exact fun i _ h => h.elim
  iexact H

theorem startW_t (t : Fin 20) (i : Fin 3) : W0 d c i ⊢ WP c (startW t i) (fun _ => W1 d c i t) := by
  refine BIBase.Entails.trans ?_ (C0_start (src := winH t) (dst := slotV i) (sem := wSm i) (q := wTok i) (f := d.w) (T := d.wT (512 * t.val + 512)) _ _ _ (pos2 (by decide) (by decide)) ?_)
  · unfold W0 C0
    iintro ⟨H, Ha, Hv⟩
    isplitl [H]; · iexact H
    isplitl [Ha]
    · iapply (junk (m := wv)) $$ Ha
    iexact Hv
  funext x
  obtain ⟨h0, h1, h2⟩ := sqv_emb (Z := 3) (A := 4096) (B := 512) (A' := 4096) (B' := 512) (i := i.val) (a := 0) (k := 0)
    (inb₃ (d := ![3, 4096, 512]) (size := ![1, 4096, 512]) (by have := i.isLt; simp; omega) (by simp) (by simp)) (sq_numel 4096 512) x
  show d.w _ = d.w (at2 4096 11008 _ (512 * t.val + 512 + _))
  refine congrArg d.w (eq_at2 _ _ _ ?_ ?_)
  · exact Eq.trans (by show 0 + 1 * (x 0).val = _; omega) h1.symm
  · exact Eq.trans (by show 512 * t.val + 512 + 1 * (x 1).val = 512 * t.val + 512 + (0 + (x 1).val); omega) (congrArg (512 * t.val + 512 + ·) h2).symm

theorem waitW_t (t : Fin 20) (i : Fin 3) :
    iprop(W1 d c i t ∗ Ow c) ⊢ WP c (waitW t i) (fun _ => iprop(C2 c (winH t) (slotV i) (wSm i) (wTok i) d.w (d.wT (512 * t.val + 512)) ∗ Ow c)) := C1_wait _ _

theorem mem_slot {i : Fin 3} {j : S3x4096x512.Idx} : j ∈ (slotV i).view.set ↔ (j 0).val = i.val := by
  refine (iff_of_eq (congrArg (fun S : Finset S3x4096x512.Idx => j ∈ S) (Memref.set_view_squeeze _ _))).trans (Iff.intro (fun h => ?_) fun h => ?_)
  · have h : i.val ≤ _ ∧ _ < i.val + 1 := (all3.1 (mem_box.1 h)).1
    omega
  · have h1 : (j 1).val < 4096 := (j 1).isLt
    have h2 : (j 2).val < 512 := (j 2).isLt
    exact mem_box.2 (all3.2 (by
      show (i.val ≤ _ ∧ _ < i.val + 1) ∧ (0 ≤ _ ∧ _ < 0 + 4096) ∧ (0 ≤ _ ∧ _ < 0 + 512)
      omega))
theorem mem_headV {k : Fin 16} {j : S3x4096x512.Idx} : j ∈ (headV k).view.set ↔ (j 0).val = 2 ∧ 256 * k.val ≤ (j 1).val ∧ (j 1).val < 256 * k.val + 256 := by
  refine (iff_of_eq (congrArg (fun S : Finset S3x4096x512.Idx => j ∈ S) (Memref.set_view_squeeze _ _))).trans (Iff.intro (fun h => ?_) fun h => ?_)
  · have h : (2 ≤ _ ∧ _ < 2 + 1) ∧ (256 * k.val ≤ _ ∧ _ < 256 * k.val + 256) ∧ _ := all3.1 (mem_box.1 h)
    omega
  · have h2 : (j 2).val < 512 := (j 2).isLt
    exact mem_box.2 (all3.2 (by
      show (2 ≤ _ ∧ _ < 2 + 1) ∧ (256 * k.val ≤ _ ∧ _ < 256 * k.val + 256) ∧ (0 ≤ _ ∧ _ < 0 + 512)
      omega))
theorem mem_tailV {j : S3x4096x512.Idx} : j ∈ tailV.view.set ↔ (j 0).val = 2 ∧ (j 2).val < 256 := by
  refine (iff_of_eq (congrArg (fun S : Finset S3x4096x512.Idx => j ∈ S) (Memref.set_view_squeeze _ _))).trans (Iff.intro (fun h => ?_) fun h => ?_)
  · have h : (2 ≤ _ ∧ _ < 2 + 1) ∧ _ ∧ (0 ≤ _ ∧ _ < 0 + 256) := all3.1 (mem_box.1 h)
    omega
  · have h1 : (j 1).val < 4096 := (j 1).isLt
    exact mem_box.2 (all3.2 (by
      show (2 ≤ _ ∧ _ < 2 + 1) ∧ (0 ≤ _ ∧ _ < 0 + 4096) ∧ (0 ≤ _ ∧ _ < 0 + 256)
      omega))

/-- The rest of the tail's slot. -/
def Tr (c : Dev nD) : sProp 𝕄 := Ag c wv ((slotV 2).view.set \ tailV.view.set) (fun _ => False) (d.wT 0)

theorem tail_split : W0 d c 2 ⊢ iprop(C0 c tailH tailV (wSm 2) (wTok 2) d.w (d.wT 10752) ∗ Tr d c) := by
  unfold W0 C0 Tr Ag
  iintro ⟨H, ⟨%g, -, Ha⟩, Hv⟩
  ihave Ha := (pointsTo_split_subset (ℓ := wv.view.loc (c : Thread nD τ)) (I := tailV.view.set) (S := (slotV 2).view.set) (fun j hj => mem_slot.2 (mem_tailV.1 hj).1)).1 $$ Ha
  icases Ha with ⟨Ha, Hr⟩
  isplitl [H Ha Hv]
  · isplitl [H]; · iexact H
    isplitl [Ha]
    · iexists g
      isplitr; · ipureintro; exact fun i _ h => h.elim
      iexact Ha
    iexact Hv
  iexists g
  isplitr; · ipureintro; exact fun i _ h => h.elim
  iexact Hr

theorem startTail_t : W0 d c 2 ⊢ WP c startTail (fun _ => iprop(Wt1 d c ∗ Tr d c)) := by
  have key := C0_start (c := c) (src := tailH) (dst := tailV) (sem := wSm 2) (q := wTok 2) (f := d.w) (T := d.wT 10752) wordsTailH wordsTailV ⟨Or.inl rfl, trivial⟩ (pos2 (by decide) (by decide)) (by
    funext x
    obtain ⟨h0, h1, h2⟩ := sqv_emb (Z := 3) (A := 4096) (B := 512) (A' := 4096) (B' := 256) (i := 2) (a := 0) (k := 0) inb_S3x4096x512_S1x4096x256_2_0_0 (sq_numel 4096 256) x
    show d.w _ = d.w (at2 4096 11008 _ (10752 + _))
    refine congrArg d.w (eq_at2 _ _ _ ?_ ?_)
    · exact Eq.trans (by show 0 + 1 * (x 0).val = _; omega) h1.symm
    · exact Eq.trans (by show 10752 + 1 * (x 1).val = 10752 + (0 + (x 1).val); omega) (congrArg (10752 + ·) h2).symm)
  iintro H
  ihave H := tail_split d $$ H
  icases H with ⟨H, Hr⟩
  iapply (last key) $$ H
  iintro %_ H
  isplitl [H] <;> iassumption
theorem waitTail_t : iprop(Wt1 d c ∗ Ow c) ⊢ WP c waitTail (fun _ => iprop(C2 c tailH tailV (wSm 2) (wTok 2) d.w (d.wT 10752) ∗ Ow c)) := C1_wait _ _

/-! ## Windows of `y` -/

/-- The columns of `y` from `a` to `b`. -/
def cols (a b : ℕ) : Finset S768x11008.Idx := Finset.univ.filter fun i => a ≤ (i 1).val ∧ (i 1).val < b
theorem mem_cols {a b : ℕ} {i : S768x11008.Idx} : i ∈ cols a b ↔ a ≤ (i 1).val ∧ (i 1).val < b := by simp [cols]
theorem cols_union {a b e : ℕ} (h1 : a ≤ b) (h2 : b ≤ e) : cols a b ∪ cols b e = cols a e := by
  ext i; rw [Finset.mem_union, mem_cols, mem_cols, mem_cols]; omega
theorem cols_disjoint {a b e : ℕ} : Disjoint (cols a b) (cols b e) :=
  Finset.disjoint_left.2 fun i h h' => by rw [mem_cols] at h h'; omega
theorem yWin_set (t : Fin 20) : (yWin t).view.set = cols (512 * t.val + 256) (512 * t.val + 768) := by
  ext i
  refine Iff.intro (fun h => ?_) fun h => ?_
  · have h : _ ∧ (512 * t.val + 256 ≤ _ ∧ _ < 512 * t.val + 256 + 512) := all2.1 (mem_box.1 h)
    exact mem_cols.2 h.2
  · have h := mem_cols.1 h
    have h0 : (i 0).val < 768 := (i 0).isLt
    exact mem_box.2 (all2.2 (by
      show (0 ≤ _ ∧ _ < 0 + 768) ∧ (512 * t.val + 256 ≤ _ ∧ _ < 512 * t.val + 256 + 512)
      omega))
theorem yTile_set (i : Fin 3) : (yTile i).view.set = cols (256 * (tileNo i).val) (256 * (tileNo i).val + 256) := by
  ext j
  refine Iff.intro (fun h => ?_) fun h => ?_
  · have h : _ ∧ (256 * (tileNo i).val ≤ _ ∧ _ < 256 * (tileNo i).val + 256) := all2.1 (mem_box.1 h)
    exact mem_cols.2 h.2
  · have h := mem_cols.1 h
    have h0 : (j 0).val < 768 := (j 0).isLt
    exact mem_box.2 (all2.2 (by
      show (0 ≤ _ ∧ _ < 0 + 768) ∧ (256 * (tileNo i).val ≤ _ ∧ _ < 256 * (tileNo i).val + 256)
      omega))

/-- Columns of the result not yet written; written. -/
def Yr (c : Dev nD) (a b : ℕ) : sProp 𝕄 := Ag c yH (cols a b) (fun _ => False) d.yT
def Yd (c : Dev nD) (a b : ℕ) : sProp 𝕄 := (yH.view.loc (c : Thread nD τ) ↦[cols a b]{fullShare} d.yT)

theorem Yr_split {a b e : ℕ} (h1 : a ≤ b) (h2 : b ≤ e) : Yr d c a e ⊢ iprop(Yr d c a b ∗ Yr d c b e) := by
  unfold Yr Ag
  iintro ⟨%g, -, H⟩
  rw [← cols_union h1 h2]
  ihave H := (pointsTo_union (ℓ := yH.view.loc (c : Thread nD τ)) (I := cols a b) (J := cols b e) cols_disjoint).1 $$ H
  icases H with ⟨H1, H2⟩
  isplitl [H1]
  · iexists g
    isplitr; · ipureintro; exact fun i _ h => h.elim
    iexact H1
  iexists g
  isplitr; · ipureintro; exact fun i _ h => h.elim
  iexact H2
theorem Yd_join {a b e : ℕ} (h1 : a ≤ b) (h2 : b ≤ e) : iprop(Yd d c a b ∗ Yd d c b e) ⊢ Yd d c a e := by
  unfold Yd
  rw [← cols_union h1 h2]
  exact (pointsTo_union (ℓ := yH.view.loc (c : Thread nD τ)) (I := cols a b) (J := cols b e) cols_disjoint).2

abbrev ySm (i : Fin 2) : DmaSem sig := (semAt ySem i).sem
/-- Slot `i` of `y` free; holding window `t`; window `t` in flight. -/
def Y0 (c : Dev nD) (i : Fin 2) : sProp 𝕄 := iprop(Ag c yv (ySlot i).view.set (fun _ => False) (d.ysT 0) ∗ semVal ((c : Thread nD τ), .dma (ySm i)) 0)
def Y1 (c : Dev nD) (i : Fin 2) (t : ℕ) : sProp 𝕄 := iprop(Ag c yv (ySlot i).view.set (fun _ => True) (d.ysT (512 * t + 256)) ∗ semVal ((c : Thread nD τ), .dma (ySm i)) 0)
def Y2 (c : Dev nD) (i : Fin 2) (t : Fin 20) : sProp 𝕄 := Fl c (ySlot i) (yWin t) (ySm i) fullShare (d.ysT (512 * t.val + 256)) d.yT

theorem startY_t (t : Fin 20) (i : Fin 2) (e : ℕ) (he : 512 * t.val + 768 ≤ e) :
    iprop(Y1 d c i t.val ∗ Yr d c (512 * t.val + 256) e) ⊢ WP c (startY t i) (fun _ => iprop(Y2 d c i t ∗ Yr d c (512 * t.val + 768) e)) := by
  unfold Y1 Y2
  iintro ⟨⟨Hs, Hv⟩, Hr⟩
  ihave Hr := Yr_split d (b := 512 * t.val + 768) (by omega) he $$ Hr
  icases Hr with ⟨Hd, Hr⟩
  ihave Hs := Ag.exact (fun _ _ => trivial) $$ Hs
  unfold Yr
  rw [← yWin_set t]
  iapply (last (copy_start (src := ySlot i) (dst := yWin t) (fs := d.ysT (512 * t.val + 256)) (T := d.yT) (T' := d.yT) (D := fun _ => False) _ _ _ (pos2 (by decide) (by decide)) ?_)) $$ [Hs Hd Hv]
  · funext x
    obtain ⟨h0, h1, h2⟩ := sqv_emb (Z := 2) (A := 768) (B := 512) (A' := 768) (B' := 512) (i := i.val) (a := 0) (k := 0)
      (inb₃ (d := ![2, 768, 512]) (size := ![1, 768, 512]) (by have := i.isLt; simp; omega) (by simp) (by simp)) (sq_numel 768 512) x
    show d.yT (at2 768 11008 _ (512 * t.val + 256 + _)) = d.yT _
    refine congrArg d.yT (eq_at2 _ _ _ ?_ ?_).symm
    · exact Eq.trans (by show 0 + 1 * (x 0).val = _; omega) h1.symm
    · exact Eq.trans (by show 512 * t.val + 256 + 1 * (x 1).val = 512 * t.val + 256 + (0 + (x 1).val); omega) (congrArg (512 * t.val + 256 + ·) h2).symm
  · isplitl [Hs]; · iexact Hs
    isplitl [Hd]; · iexact Hd
    iexact Hv
  iintro %_ H
  isplitl [H]; · iexact H
  iexact Hr

theorem waitY_t (t : Fin 20) (i : Fin 2) :
    iprop(Y2 d c i t ∗ Yd d c 256 (512 * t.val + 256) ∗ Ow c) ⊢ WP c (waitY t i) (fun _ => iprop(Y0 d c i ∗ Yd d c 256 (512 * t.val + 768) ∗ Ow c)) := by
  unfold Y2
  iintro ⟨H, Hd, Ho⟩
  iapply (last (copy_wait _ _)) $$ [H Ho]
  · isplitl [H] <;> iassumption
  iintro %_ ⟨Hw, Hs, Hv, Ho⟩
  rw [yWin_set t]
  ihave Hd := Yd_join d (a := 256) (b := 512 * t.val + 256) (e := 512 * t.val + 768) (by omega) (by omega) $$ [Hd Hw]
  · isplitl [Hd]; · iexact Hd
    unfold Yd; iexact Hw
  unfold Y0
  isplitl [Hs Hv]
  · isplitl [Hs]
    · iapply (Ag.junk (m := yv)) $$ Hs
    iexact Hv
  isplitl [Hd] <;> iassumption

/-! ## Tiles of `y` -/

abbrev y0Sm (i : Fin 3) : DmaSem sig := (semAt y0Sem i).sem
abbrev tB (i : Fin 3) : ℕ := 256 * (tileNo i).val
def T0 (c : Dev nD) (i : Fin 3) : sProp 𝕄 := iprop(Ag c y0v (y0Slot i).view.set (fun _ => False) (d.ytT (tB i)) ∗ semVal ((c : Thread nD τ), .dma (y0Sm i)) 0)
def T1 (c : Dev nD) (i : Fin 3) : sProp 𝕄 := iprop(Ag c y0v (y0Slot i).view.set (fun _ => True) (d.ytT (tB i)) ∗ semVal ((c : Thread nD τ), .dma (y0Sm i)) 0)
def T2 (c : Dev nD) (i : Fin 3) : sProp 𝕄 := Fl c (y0Slot i) (yTile i) (y0Sm i) fullShare (d.ytT (tB i)) d.yT

theorem startY0_t (i : Fin 3) : iprop(T1 d c i ∗ Yr d c (tB i) (tB i + 256)) ⊢ WP c (startY0 i) (fun _ => T2 d c i) := by
  unfold T1 T2
  iintro ⟨⟨Hs, Hv⟩, Hd⟩
  ihave Hs := Ag.exact (fun _ _ => trivial) $$ Hs
  unfold Yr
  rw [← yTile_set i]
  iapply (last (copy_start (src := y0Slot i) (dst := yTile i) (fs := d.ytT (tB i)) (T := d.yT) (T' := d.yT) (D := fun _ => False) _ _ _ (pos2 (by decide) (by decide)) ?_)) $$ [Hs Hd Hv]
  · funext x
    obtain ⟨h0, h1, h2⟩ := sqv_emb (Z := 3) (A := 768) (B := 256) (A' := 768) (B' := 256) (i := i.val) (a := 0) (k := 0)
      (inb₃ (d := ![3, 768, 256]) (size := ![1, 768, 256]) (by have := i.isLt; simp; omega) (by simp) (by simp)) (sq_numel 768 256) x
    show d.yT (at2 768 11008 _ (tB i + _)) = d.yT _
    refine congrArg d.yT (eq_at2 _ _ _ ?_ ?_).symm
    · exact Eq.trans (by show 0 + 1 * (x 0).val = _; omega) h1.symm
    · exact Eq.trans (by show tB i + 1 * (x 1).val = tB i + (0 + (x 1).val); omega) (congrArg (tB i + ·) h2).symm
  · isplitl [Hs]; · iexact Hs
    isplitl [Hd]; · iexact Hd
    iexact Hv
  iintro %_ H
  iexact H

theorem waitY0_t (i : Fin 3) : iprop(T2 d c i ∗ Ow c) ⊢ WP c (waitY0 i) (fun _ => iprop(T0 d c i ∗ Yd d c (tB i) (tB i + 256) ∗ Ow c)) := by
  unfold T2
  iintro ⟨H, Ho⟩
  iapply (last (copy_wait _ _)) $$ [H Ho]
  · isplitl [H] <;> iassumption
  iintro %_ ⟨Hw, Hs, Hv, Ho⟩
  rw [yTile_set i]
  unfold T0 Yd
  isplitl [Hs Hv]
  · isplitl [Hs]
    · iapply (Ag.junk (m := y0v)) $$ Hs
    iexact Hv
  isplitl [Hw] <;> iassumption

/-! ## The blocks of the codes -/

abbrev qSm (k : Fin 16) : DmaSem sig := (semAt qSem k).sem
/-- Block `k` of the codes: ready to be made, in flight to the result, there. -/
def Q0 (c : Dev nD) (k : Fin 16) : sProp 𝕄 := iprop(QB d c k 0 ∗ Ag c qH (blkX qH k).view.set (fun _ => False) d.qT ∗ semVal ((c : Thread nD τ), .dma (qSm k)) 0)
def Q1 (c : Dev nD) (k : Fin 16) : sProp 𝕄 := Fl c (blkX qv k) (blkX qH k) (qSm k) fullShare d.qT d.qT
def Q2 (c : Dev nD) (k : Fin 16) : sProp 𝕄 := iprop((qv.view.loc (c : Thread nD τ) ↦[(blkX qv k).view.set]{fullShare} d.qT) ∗ (qH.view.loc (c : Thread nD τ) ↦[(blkX qH k).view.set]{fullShare} d.qT)
  ∗ semVal ((c : Thread nD τ), .dma (qSm k)) 0)

theorem startQ_t (k : Fin 16) : iprop(QB d c k 768 ∗ Ag c qH (blkX qH k).view.set (fun _ => False) d.qT ∗ semVal ((c : Thread nD τ), .dma (qSm k)) 0) ⊢ WP c (startQ k) (fun _ => Q1 d c k) := by
  unfold QB Q1
  iintro ⟨Hs, Hd, Hv⟩
  ihave Hs := Ag.exact (c := c) (m := qv) (S := (blkX qv k).view.set) (D := fun i : S768x4096.Idx => (i 0).val < 768) (T := d.qT) (fun (i : S768x4096.Idx) _ => Fin.isLt (i 0)) $$ Hs
  iapply (last (copy_start (src := blkX qv k) (dst := blkX qH k) (fs := d.qT) (T := d.qT) (T' := d.qT) (D := fun _ => False) _ _ _ (pos2 (by decide) (by decide)) rfl)) $$ [Hs Hd Hv]
  · isplitl [Hs]; · iexact Hs
    isplitl [Hd]; · iexact Hd
    iexact Hv
  iintro %_ H
  iexact H
theorem waitQ_t (k : Fin 16) : iprop(Q1 d c k ∗ Ow c) ⊢ WP c (waitQ k) (fun _ => iprop(Q2 d c k ∗ Ow c)) := by
  unfold Q1
  iintro ⟨H, Ho⟩
  iapply (last (copy_wait _ _)) $$ [H Ho]
  · isplitl [H] <;> iassumption
  iintro %_ ⟨Hw, Hs, Hv, Ho⟩
  unfold Q2
  isplitl [Hs Hw Hv]
  · isplitl [Hs]; · iexact Hs
    isplitl [Hw] <;> iassumption
  iexact Ho

end OsPlus
end
-- ==== Proof.Trip.lean ====
module

public import proofs.«01_k».proof.Proof.Copies

/-! One trip of the loop: its copies, its two column tiles. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

variable {c : Dev nD} (d : Data F)

/-! ## The cells of the two column tiles at work -/

def two (x y : Col F) : Fin 2 → Col F := fun par => if par = 0 then x else y

theorem two_ne0 {x y x' : Col F} (p : Fin 2) (h : p ≠ 0) : two x' y p = two x y p := by unfold two; rw [if_neg h, if_neg h]
theorem two_ne1 {x y y' : Col F} (p : Fin 2) (h : p ≠ 1) : two x y' p = two x y p := by
  have : p = 0 := by omega
  unfold two; rw [if_pos this, if_pos this]

theorem depAll_next {C C' : Fin 2 → Col F} {par : Fin 2} {n k : ℕ} (hC : C par = d.acc n k) (hC' : C' par = d.acc n (k + 1)) (ho : ∀ p, p ≠ par → C' p = C p) :
    depAll C par (d.prod n k) = C' := by
  funext p
  by_cases h : p = par
  · subst h
    funext q r
    unfold depAll
    rw [if_pos rfl, hC', hC]; rfl
  · rw [ho p h]
    funext q r
    unfold depAll
    rw [if_neg h]

theorem popAll_next {C C' : Fin 2 → Col F} {par : Fin 2} {n : ℕ} (hC' : C' par = d.acc n 0) (ho : ∀ p, p ≠ par → C' p = C p) : popAll C par = C' := by
  funext p
  unfold popAll
  by_cases h : p = par
  · subst h; rw [if_pos rfl, hC']; rfl
  · rw [if_neg h, ho p h]

/-! ## What the products need -/

def En (c : Dev nD) : sProp 𝕄 := iprop(Wsv d c ∗ Qb d c (fun _ => True) ∗ UB d c 16)

theorem accE_t (par : Fin 2) (k : Fin 16) (n : ℕ) (r : Fin 2) (s : Mxu F) (C C' : Fin 2 → Col F)
    (hC : C par = d.acc n k.val) (hC' : C' par = d.acc n (k.val + 1)) (ho : ∀ p, p ≠ par → C' p = C p) :
    iprop(⌜Ms s (some (r, d.tile n k.val)) C⌝ ∗ En d c) ⊢ WP c (accum par k r s) (fun s => iprop(⌜Ms s none C'⌝ ∗ En d c)) := by
  unfold En
  iintro ⟨%hs, Hw, Hq, Hu⟩
  iapply (last (accum_t d par k 16 k.isLt n r s C (P := fun _ => True) (fun _ _ _ => trivial))) $$ [Hq Hu]
  · isplitr; · ipureintro; exact hs
    isplitl [Hq] <;> iassumption
  iintro %s' ⟨%hs', Hq, Hu⟩
  rw [depAll_next d hC hC' ho] at hs'
  isplitr; · ipureintro; exact hs'
  isplitl [Hw]; · iexact Hw
  isplitl [Hq] <;> iassumption

theorem pushE_t {S : Finset S3x4096x512.Idx} {b : ℕ} (slot : Fin 3) (k : Fin 16) (lane : Fin 2) (n : Fin 43) (r : Fin 2) (s : Mxu F) (C : Fin 2 → Col F)
    (hS : InS S slot k lane) (hb : b + 256 * lane.val = 256 * n.val) :
    iprop(⌜Ms s none C⌝ ∗ Wv d c S b ∗ En d c) ⊢ WP c (push slot k lane n r s) (fun s => iprop(⌜Ms s (some (r, d.tile n.val k.val)) C⌝ ∗ Wv d c S b ∗ En d c)) := by
  unfold En
  iintro ⟨%hs, Hv, Hw, Hq, Hu⟩
  iapply (last (push_t d slot k lane n r s C hS hb)) $$ [Hv Hw]
  · isplitr; · ipureintro; exact hs
    isplitl [Hv] <;> iassumption
  iintro %s' ⟨%hs', Hv, Hw⟩
  isplitr; · ipureintro; exact hs'
  isplitl [Hv]; · iexact Hv
  isplitl [Hw]; · iexact Hw
  isplitl [Hq] <;> iassumption

theorem step_t {S : Finset S3x4096x512.Idx} {b : ℕ} (slot : Fin 3) (lane : Fin 2) (n : Fin 43) (par : Fin 2) (k : Fin 15) (s : Mxu F) (C C' : Fin 2 → Col F)
    (hS : ∀ k, InS S slot k lane) (hb : b + 256 * lane.val = 256 * n.val)
    (hC : C par = d.acc n.val k.val) (hC' : C' par = d.acc n.val (k.val + 1)) (ho : ∀ p, p ≠ par → C' p = C p) :
    iprop(⌜Ms s (some (odd k.val, d.tile n.val k.val)) C⌝ ∗ Wv d c S b ∗ En d c)
      ⊢ WP c (step slot lane n par k s) (fun s => iprop(⌜Ms s (some (odd (k.val + 1), d.tile n.val (k.val + 1))) C'⌝ ∗ Wv d c S b ∗ En d c)) := by
  unfold step
  iintro ⟨%hs, Hv, He⟩
  iapply (seq (accE_t d par ⟨k.val, _⟩ n.val (odd k.val) s C C' hC hC' ho)) $$ [He]
  · isplitr; · ipureintro; exact hs
    iexact He
  iintro %s' ⟨%hs', He⟩
  iapply (pushE_t d slot ⟨k.val + 1, _⟩ lane n (odd (k.val + 1)) s' C' (hS _) hb)
  isplitr; · ipureintro; exact hs'
  isplitl [Hv] <;> iassumption

/-- Cells `C` with those of `par` at `x`. -/
def setP (C : Fin 2 → Col F) (par : Fin 2) (x : Col F) : Fin 2 → Col F := fun p => if p = par then x else C p
theorem setP_self {C : Fin 2 → Col F} {par : Fin 2} {x : Col F} : setP C par x par = x := if_pos rfl
theorem setP_ne {C : Fin 2 → Col F} {par : Fin 2} {x : Col F} {p : Fin 2} (h : p ≠ par) : setP C par x p = C p := if_neg h

theorem steps_t {S : Finset S3x4096x512.Idx} {b : ℕ} (slot : Fin 3) (lane : Fin 2) (n : Fin 43) (par : Fin 2) (s : Mxu F) (C C' : Fin 2 → Col F)
    (hS : ∀ k, InS S slot k lane) (hb : b + 256 * lane.val = 256 * n.val)
    (hC : C par = d.acc n.val 1) (hC' : C' par = d.acc n.val 15) (ho : ∀ p, p ≠ par → C' p = C p) (h) :
    iprop(⌜Ms s (some (1, d.tile n.val 1)) C⌝ ∗ Wv d c S b ∗ En d c)
      ⊢ WP c (forUp (N := 15) (step slot lane n par) 14 1 h s) (fun s => iprop(⌜Ms s (some (1, d.tile n.val 15)) C'⌝ ∗ Wv d c S b ∗ En d c)) := by
  have e : C = setP C par (d.acc n.val 1) := by
    funext p
    by_cases h : p = par
    · subst h; rw [setP_self, hC]
    · rw [setP_ne h]
  have e' : C' = setP C par (d.acc n.val 15) := by
    funext p
    by_cases h : p = par
    · subst h; rw [setP_self, hC']
    · rw [setP_ne h, ho p h]
  have u := up (c := c) (f := step (F := F) slot lane n par) 1 (fun k s => iprop(⌜Ms s (some (odd k, d.tile n.val k)) (setP C par (d.acc n.val k))⌝ ∗ Wv d c S b ∗ En d c))
    (fun k s _ => step_t d slot lane n par k s _ _ hS hb setP_self setP_self (fun p h => by rw [setP_ne h, setP_ne h])) 14 1 h (le_refl 1) s
  iintro ⟨%hs, H⟩
  iapply (last u) $$ [H]
  · isplitr; · ipureintro; exact Eq.mp (congrArg (fun X => Ms s (some (1, d.tile n.val 1)) X) e) hs
    iexact H
  iintro %s' ⟨%hs', H⟩
  isplitr
  · ipureintro
    exact Eq.mp (congrArg (fun X => Ms s' (some (1, d.tile n.val 15)) X) e'.symm) hs'
  iexact H

/-! ## The finished columns -/

def Fb (c : Dev nD) (n : ℕ) : sProp 𝕄 := iprop(Scale d c ∗ Bias d c ∗ BcB d c n)

theorem finW_t (z : Fin 2) (lane : ℕ) (n : Fin 43) (b : ℕ) (hl : 256 * lane + 256 ≤ 512) (hb : b + 256 * lane = 256 * n.val) (hy) (par : Fin 2) (s : Mxu F) {o} (C C' : Fin 2 → Col F)
    (m : ℕ) (hC : C par = d.acc n.val 16) (hC' : C' par = d.acc m 0) (ho : ∀ p, p ≠ par → C' p = C p)
    (D D' : S2x768x512.Idx → Prop) (hD : ∀ i : S2x768x512.Idx, Dy lane 0 (i 1).val (i 2).val → D i) (hD' : ∀ i : S2x768x512.Idx, D' i → Dy lane 6 (i 1).val (i 2).val) :
    iprop(⌜Ms s o C⌝ ∗ Fb d c n.val ∗ Ag c yv (ySlot z).view.set D (d.ysT b))
      ⊢ WP c (finish yv hy (ySlot z) z lane hl par n s) (fun s => iprop(⌜Ms s o C'⌝ ∗ Fb d c (n.val + 1) ∗ Ag c yv (ySlot z).view.set D' (d.ysT b))) := by
  unfold Fb
  iintro ⟨%hs, ⟨H1, H2, H3⟩, H4⟩
  ihave H4 := Ag.weak (c := c) (m := yv) (S := (ySlot z).view.set) (D := D) (T := d.ysT b) (D' := fun (i : S2x768x512.Idx) => Dy lane 0 (i 1).val (i 2).val) (fun i _ h => hD i h) $$ H4
  iapply (last (finish_t d n (yOk_win d z lane n.val b hl n.isLt hb) hy hl par s (o := o) (K := C) (fun q p => by rw [hC, d.acc_fin]))) $$ [H1 H2 H3 H4]
  · isplitr; · ipureintro; exact hs
    isplitl [H1]; · iexact H1
    isplitl [H2]; · iexact H2
    isplitl [H3] <;> iassumption
  iintro %s' ⟨%hs', H1, H2, H3, H4⟩
  rw [popAll_next d hC' ho] at hs'
  isplitr; · ipureintro; exact hs'
  isplitl [H1 H2 H3]
  · isplitl [H1]; · iexact H1
    isplitl [H2] <;> iassumption
  iapply (Ag.weak (m := yv) (D' := D') (fun i _ h => hD' i h)) $$ H4

theorem finT_t (z : Fin 3) (n : Fin 43) (hy) (hl) (par : Fin 2) (s : Mxu F) {o} (C C' : Fin 2 → Col F)
    (m : ℕ) (hC : C par = d.acc n.val 16) (hC' : C' par = d.acc m 0) (ho : ∀ p, p ≠ par → C' p = C p) (hn : (tileNo z).val = n.val) :
    iprop(⌜Ms s o C⌝ ∗ Fb d c n.val ∗ T0 d c z)
      ⊢ WP c (finish y0v hy (y0Slot z) z 0 hl par n s) (fun s => iprop(⌜Ms s o C'⌝ ∗ Fb d c (n.val + 1) ∗ T1 d c z)) := by
  unfold Fb T0 T1 tB
  rw [hn]
  iintro ⟨%hs, ⟨H1, H2, H3⟩, H4, Hv⟩
  ihave H4 := Ag.weak (c := c) (m := y0v) (S := (y0Slot z).view.set) (D := fun _ => False) (T := d.ytT (256 * n.val)) (D' := fun (i : S3x768x256.Idx) => Dy 0 0 (i 1).val (i 2).val) (fun (i : S3x768x256.Idx) _ (h : Dy 0 0 (i 1).val (i 2).val) => by unfold Dy at h; omega) $$ H4
  iapply (last (finish_t d n (yOk_tile d z n.val n.isLt) hy hl par s (o := o) (K := C) (fun q p => by rw [hC, d.acc_fin]))) $$ [H1 H2 H3 H4]
  · isplitr; · ipureintro; exact hs
    isplitl [H1]; · iexact H1
    isplitl [H2]; · iexact H2
    isplitl [H3] <;> iassumption
  iintro %s' ⟨%hs', H1, H2, H3, H4⟩
  rw [popAll_next d hC' ho] at hs'
  isplitr; · ipureintro; exact hs'
  isplitl [H1 H2 H3]
  · isplitl [H1]; · iexact H1
    isplitl [H2] <;> iassumption
  isplitl [H4]
  · iapply (Ag.weak (m := y0v) (D' := fun _ => True) (fun (i : S3x768x256.Idx) _ _ => ?_)) $$ H4
    have h1 : (i 1).val < 768 := (i 1).isLt
    have h2 : (i 2).val < 256 := (i 2).isLt
    show Dy 0 6 (i 1).val (i 2).val
    unfold Dy; omega
  iexact Hv

/-! ## The weights around a trip -/

abbrev nSlot (t : ℕ) : Fin 3 := ⟨t % 3, Nat.mod_lt _ (by omega)⟩
def wS (t : ℕ) : Finset S3x4096x512.Idx := if t < 20 then (slotV (nSlot t)).view.set else tailV.view.set
/-- Window `t` landed in its slot. -/
def WR (c : Dev nD) (t : ℕ) : sProp 𝕄 :=
  iprop((wH.view.loc (c : Thread nD τ) ↦[Finset.univ]{wTok (nSlot t)} d.w) ∗ semVal ((c : Thread nD τ), .dma (wSm (nSlot t))) 0 ∗ (if t < 20 then emp else Tr d c))
def Wl (c : Dev nD) (t : ℕ) : sProp 𝕄 := iprop(Wv d c (wS t) (512 * t + 512) ∗ WR d c t)
/-- Window `t` in flight, where there is one. -/
def Wf (c : Dev nD) (t : ℕ) : sProp 𝕄 := if h : t < 20 then W1 d c (nSlot t) ⟨t, h⟩ else if t = 20 then iprop(Wt1 d c ∗ Tr d c) else W0 d c (nSlot t)
def WA (c : Dev nD) (t : ℕ) : sProp 𝕄 := iprop(Wl d c t ∗ Wf d c (t + 1) ∗ W0 d c (nSlot (t + 2)))
def WM (c : Dev nD) (t : ℕ) : sProp 𝕄 := iprop(Wl d c t ∗ Wl d c (t + 1) ∗ Wf d c (t + 2))

theorem Wl_of {t : ℕ} (h : t < 20) : C2 c (winH ⟨t, h⟩) (slotV (nSlot t)) (wSm (nSlot t)) (wTok (nSlot t)) d.w (d.wT (512 * t + 512)) ⊢ Wl d c t := by
  unfold C2 Wl WR Wv wS
  rw [if_pos h, if_pos h]
  iintro ⟨H1, H2, H3⟩
  isplitl [H2]
  · iapply (Ag.intro (m := wv)) $$ H2
  isplitl [H1]; · iexact H1
  isplitl [H3]; · iexact H3
  iempintro

theorem Wl_tail : iprop(C2 c tailH tailV (wSm 2) (wTok 2) d.w (d.wT 10752) ∗ Tr d c) ⊢ Wl d c 20 := by
  unfold C2 Wl WR Wv wS
  rw [if_neg (by omega), if_neg (by omega)]
  iintro ⟨⟨H1, H2, H3⟩, H4⟩
  isplitl [H2]
  · iapply (Ag.intro (m := wv)) $$ H2
  isplitl [H1]; · iexact H1
  isplitl [H3]; · iexact H3
  iexact H4

theorem Wl_free {t : ℕ} (h : t < 20) : Wl d c t ⊢ W0 d c (nSlot t) := by
  unfold W0 Wl WR Wv wS
  rw [if_pos h, if_pos h]
  iintro ⟨H2, H1, H3, -⟩
  isplitl [H1]; · iexact H1
  isplitl [H2]
  · iapply (junk (m := wv)) $$ H2
  iexact H3

theorem nSlot_add (t : ℕ) : nSlot (t + 3) = nSlot t := Fin.ext (Nat.add_mod_right t 3)

theorem WM_next {t : ℕ} (h : t < 20) : WM d c t ⊢ WA d c (t + 1) := by
  unfold WM WA
  rw [show t + 1 + 2 = t + 3 from rfl, nSlot_add]
  iintro ⟨H1, H2, H3⟩
  isplitl [H2]; · iexact H2
  isplitl [H3]; · iexact H3
  iapply (Wl_free d h) $$ H1

theorem inS_win {t : ℕ} (h : t < 20) (k : Fin 16) (lane : Fin 2) : InS (wS t) (nSlot t) k lane := by
  intro i h0 _ _ _ _
  unfold wS; rw [if_pos h]
  exact mem_slot.2 h0
theorem inS_0 {t : ℕ} (h : t < 21) (k : Fin 16) : InS (wS t) (nSlot t) k 0 := by
  by_cases ht : t < 20
  · exact inS_win ht k 0
  · obtain rfl : t = 20 := by omega
    intro i h0 _ _ _ h2
    unfold wS; rw [if_neg ht]
    exact mem_tailV.2 ⟨h0, h2⟩

/-! ## The columns of `y` around a trip -/

abbrev nY (t : ℕ) : Fin 2 := ⟨t % 2, Nat.mod_lt _ (by omega)⟩
def Yc (c : Dev nD) (t : ℕ) : sProp 𝕄 := if 1 ≤ t then Y1 d c (nY (t + 1)) (t - 1) else Y0 d c (nY (t + 1))
/-- The window before `t` in flight, where there is one. -/
def Yf (c : Dev nD) (t : ℕ) (i : Fin 2) : sProp 𝕄 := if h : 1 ≤ t ∧ t ≤ 20 then Y2 d c i ⟨t - 1, by omega⟩ else Y0 d c i
def YA (c : Dev nD) (t : ℕ) : sProp 𝕄 := iprop(Yc d c t ∗ Yf d c (t - 1) (nY t) ∗ Yr d c (512 * (t - 1) + 256) 10496 ∗ Yd d c 256 (512 * (t - 2) + 256))
def YM (c : Dev nD) (t : ℕ) : sProp 𝕄 := iprop(Y0 d c (nY t) ∗ Yf d c t (nY (t + 1)) ∗ Yr d c (512 * t + 256) 10496 ∗ Yd d c 256 (512 * (t - 1) + 256))

theorem YM_next {t : ℕ} (P : sProp 𝕄) (h : P ⊢ Y1 d c (nY t) t) :
    iprop(P ∗ Yf d c t (nY (t + 1)) ∗ Yr d c (512 * t + 256) 10496 ∗ Yd d c 256 (512 * (t - 1) + 256)) ⊢ YA d c (t + 1) := by
  unfold YA Yc
  rw [if_pos (by omega), show nY (t + 1 + 1) = nY t from Fin.ext (Nat.add_mod_right t 2), show t + 1 - 1 = t from rfl, show t + 1 - 2 = t - 1 from by omega]
  iintro ⟨H1, H2⟩
  isplitl [H1]
  · iapply h $$ H1
  iexact H2

/-! ## The copies of a trip -/

def cp1 (t : Fin 20) : Pg F PUnit := if h : t.val + 1 < 20 then waitW ⟨t.val + 1, h⟩ ⟨(t.val + 1) % 3, Nat.mod_lt _ (by omega)⟩ else pure ⟨⟩
def cp2 (t : Fin 20) : Pg F PUnit := if h : t.val + 2 < 20 then startW ⟨t.val + 2, h⟩ ⟨(t.val + 2) % 3, Nat.mod_lt _ (by omega)⟩ else pure ⟨⟩
def cp3 (t : Fin 20) : Pg F PUnit := if t.val = 18 then startTail else pure ⟨⟩
def cp4 (t : Fin 20) : Pg F PUnit := if t.val = 19 then waitTail else pure ⟨⟩
def cp5 (t : Fin 20) : Pg F PUnit := if h : 0 < t.val then startY ⟨t.val - 1, by omega⟩ ⟨1 - t.val % 2, by omega⟩ else pure ⟨⟩
def cp6 (t : Fin 20) : Pg F PUnit := if h : 1 < t.val then waitY ⟨t.val - 2, by omega⟩ ⟨t.val % 2, by omega⟩ else pure ⟨⟩

theorem copies_eq (t : Fin 20) : tripCopies (F := F) t = (cp1 t).bind fun _ => (cp2 t).bind fun _ => (cp3 t).bind fun _ => (cp4 t).bind fun _ => (cp5 t).bind fun _ => cp6 t := by
  unfold tripCopies cp1 cp2 cp3 cp4 cp5 cp6
  split_ifs <;> rfl

variable (t : Fin 20)

abbrev tT1 : Fin 43 := tTile t 1
abbrev tT2 : Fin 43 := tTile t 2
abbrev tT3 : Fin 43 := tTile t 3
abbrev tT4 : Fin 43 := tTile t 4

theorem pass_t {P : sProp 𝕄} : P ⊢ WP c (pure ⟨⟩ : Pg F PUnit) (fun _ => P) := done (Q := fun _ : PUnit => P)

theorem cp1_t : iprop(Wf d c (t.val + 1) ∗ Ow c) ⊢ WP c (cp1 t) (fun _ => iprop((if t.val + 1 < 20 then Wl d c (t.val + 1) else Wf d c (t.val + 1)) ∗ Ow c)) := by
  unfold cp1
  by_cases h : t.val + 1 < 20
  · rw [dif_pos h, if_pos h]
    unfold Wf
    rw [dif_pos h]
    iintro H
    iapply (last (C1_wait _ _)) $$ H
    iintro %_ ⟨H, Ho⟩
    isplitl [H]
    · iapply (Wl_of d h) $$ H
    iexact Ho
  · rw [dif_neg h, if_neg h]; exact pass_t

theorem cp2_t : W0 d c (nSlot (t.val + 2)) ⊢ WP c (cp2 t) (fun _ => if t.val + 2 < 20 then Wf d c (t.val + 2) else W0 d c (nSlot (t.val + 2))) := by
  unfold cp2
  by_cases h : t.val + 2 < 20
  · rw [dif_pos h, if_pos h]
    unfold Wf
    rw [dif_pos h]
    exact startW_t d ⟨t.val + 2, h⟩ (nSlot (t.val + 2))
  · rw [dif_neg h, if_neg h]; exact pass_t
theorem cp3_t : (if t.val + 2 < 20 then Wf d c (t.val + 2) else W0 d c (nSlot (t.val + 2)) : sProp 𝕄) ⊢ WP c (cp3 t) (fun _ => Wf d c (t.val + 2)) := by
  unfold cp3
  by_cases h : t.val + 2 < 20
  · rw [if_pos h, if_neg (by omega)]; exact pass_t
  · rw [if_neg h]
    unfold Wf
    rw [dif_neg h]
    by_cases h' : t.val = 18
    · rw [if_pos h', if_pos (by omega), show nSlot (t.val + 2) = 2 from Fin.ext (by show (t.val + 2) % 3 = 2; omega)]
      exact startTail_t d
    · rw [if_neg h', if_neg (by omega)]; exact pass_t

theorem cp4_t : iprop((if t.val + 1 < 20 then Wl d c (t.val + 1) else Wf d c (t.val + 1)) ∗ Ow c) ⊢ WP c (cp4 t) (fun _ => iprop(Wl d c (t.val + 1) ∗ Ow c)) := by
  unfold cp4
  by_cases h : t.val + 1 < 20
  · rw [if_pos h, if_neg (by omega)]; exact pass_t
  · rw [if_neg h, if_pos (by omega), show t.val + 1 = 20 from by omega]
    unfold Wf
    rw [dif_neg (by omega), if_pos rfl]
    iintro ⟨⟨H, Hr⟩, Ho⟩
    iapply (last (waitTail_t d)) $$ [H Ho]
    · isplitl [H] <;> iassumption
    iintro %_ ⟨H, Ho⟩
    isplitl [H Hr]
    · iapply (Wl_tail d)
      isplitl [H] <;> iassumption
    iexact Ho

theorem cp5_t : iprop(Yc d c t.val ∗ Yr d c (512 * (t.val - 1) + 256) 10496) ⊢ WP c (cp5 t) (fun _ => iprop(Yf d c t.val (nY (t.val + 1)) ∗ Yr d c (512 * t.val + 256) 10496)) := by
  unfold cp5 Yc Yf
  have ht := t.isLt
  by_cases h : 0 < t.val
  · rw [dif_pos h, if_pos (show 1 ≤ t.val from h), dif_pos ⟨h, by omega⟩]
    have e : nY (t.val + 1) = ⟨1 - t.val % 2, by omega⟩ := Fin.ext (by show (t.val + 1) % 2 = 1 - t.val % 2; omega)
    rw [e]
    have k := startY_t (c := c) d ⟨t.val - 1, by omega⟩ ⟨1 - t.val % 2, by omega⟩ 10496 (by show 512 * (t.val - 1) + 768 ≤ _; omega)
    rw [show 512 * (⟨t.val - 1, by omega⟩ : Fin 20).val + 768 = 512 * t.val + 256 from by show 512 * (t.val - 1) + 768 = _; omega] at k
    exact k
  · rw [dif_neg h, if_neg (show ¬ 1 ≤ t.val from h), dif_neg (fun hh => h hh.1), show 512 * (t.val - 1) + 256 = 512 * t.val + 256 from by omega]; exact pass_t

theorem cp6_t : iprop(Yf d c (t.val - 1) (nY t.val) ∗ Yd d c 256 (512 * (t.val - 2) + 256) ∗ Ow c) ⊢ WP c (cp6 t) (fun _ => iprop(Y0 d c (nY t.val) ∗ Yd d c 256 (512 * (t.val - 1) + 256) ∗ Ow c)) := by
  unfold cp6 Yf
  have ht := t.isLt
  by_cases h : 1 < t.val
  · rw [dif_pos h, dif_pos ⟨by omega, by omega⟩]
    have k := waitY_t (c := c) d ⟨t.val - 2, by omega⟩ (nY t.val)
    rw [show 512 * (⟨t.val - 2, by omega⟩ : Fin 20).val + 768 = 512 * (t.val - 1) + 256 from by show 512 * (t.val - 2) + 768 = _; omega] at k
    exact k
  · rw [dif_neg h, dif_neg (fun hh => h (by omega)), show 512 * (t.val - 2) + 256 = 512 * (t.val - 1) + 256 from by omega]; exact pass_t

theorem copies_t : iprop(WA d c t.val ∗ YA d c t.val ∗ Ow c) ⊢ WP c (tripCopies t) (fun _ => iprop(WM d c t.val ∗ YM d c t.val ∗ Ow c)) := by
  rw [copies_eq]
  unfold WA YA WM YM
  iintro ⟨⟨H1, H2, H3⟩, ⟨Y1, Y2, Y3, Y4⟩, Ho⟩
  iapply (seq (cp1_t d t)) $$ [H2 Ho]
  · isplitl [H2] <;> iassumption
  iintro %_ ⟨H2, Ho⟩
  iapply (seq (cp2_t d t)) $$ H3
  iintro %_ H3
  iapply (seq (cp3_t d t)) $$ H3
  iintro %_ H3
  iapply (seq (cp4_t d t)) $$ [H2 Ho]
  · isplitl [H2] <;> iassumption
  iintro %_ ⟨H2, Ho⟩
  iapply (seq (cp5_t d t)) $$ [Y1 Y3]
  · isplitl [Y1] <;> iassumption
  iintro %_ ⟨Y1, Y3⟩
  iapply (last (cp6_t d t)) $$ [Y2 Y4 Ho]
  · isplitl [Y2]; · iexact Y2
    isplitl [Y4] <;> iassumption
  iintro %_ ⟨Y2, Y4, Ho⟩
  isplitl [H1 H2 H3]
  · isplitl [H1]; · iexact H1
    isplitl [H2] <;> iassumption
  isplitl [Y1 Y2 Y3 Y4]
  · isplitl [Y2]; · iexact Y2
    isplitl [Y1]; · iexact Y1
    isplitl [Y3] <;> iassumption
  iexact Ho

/-- Before trip `t`. -/
def TA (c : Dev nD) (t : ℕ) (s : Mxu F) : sProp 𝕄 :=
  iprop(⌜Ms s (some (0, d.tile (2 * t + 2) 0)) (two (d.acc (2 * t + 2) 0) (d.acc (2 * t + 1) 16))⌝ ∗ WA d c t ∗ YA d c t ∗ En d c ∗ Fb d c (2 * t + 1) ∗ Ow c)

theorem trip_t (s : Mxu F) : TA d c t.val s ⊢ WP c (trip t s) (fun s => TA d c (t.val + 1) s) := by
  have ht := t.isLt
  unfold trip TA
  iintro ⟨%hs, Hw, Hy, He, Hf, Ho⟩
  iapply (seq (copies_t d t)) $$ [Hw Hy Ho]
  · isplitl [Hw]; · iexact Hw
    isplitl [Hy] <;> iassumption
  iintro %_ ⟨Hw, Hy, Ho⟩
  unfold WM YM Wl
  icases Hw with ⟨⟨Hv, Hr⟩, ⟨Hv', Hr'⟩, Hf'⟩
  icases Hy with ⟨Hy, Hyr⟩
  unfold Y0
  icases Hy with ⟨Hy, Hys⟩
  ihave Hy := junk (T' := d.ysT (512 * t.val + 256)) $$ Hy
  iapply (seq (step_t d (tSlot t) 0 (tT2 t) 0 0 s _ (two (d.acc (2 * t.val + 2) 1) (d.acc (2 * t.val + 1) 16)) (fun k => inS_win ht k 0) ?_ rfl rfl two_ne0)) $$ [Hv He]
  · show 512 * t.val + 512 + 256 * 0 = 256 * (2 * t.val + 2); omega
  · isplitr; · ipureintro; exact hs
    isplitl [Hv] <;> iassumption
  iintro %s1 ⟨%hs1, Hv, He⟩
  iapply (seq (finW_t d (tY t) 0 (tT1 t) (512 * t.val + 256) _ ?_ _ 1 s1 _ (two (d.acc (2 * t.val + 2) 1) (d.acc (2 * t.val + 3) 0)) (2 * t.val + 3) rfl rfl two_ne1
    (fun _ => False) (fun i => (i 2).val < 256) (fun i h => ?_) (fun i h => ?_))) $$ [Hf Hy]
  · show 512 * t.val + 256 + 256 * 0 = 256 * (2 * t.val + 1); omega
  · unfold Dy at h; omega
  · have h1 : (i 1).val < 768 := (i 1).isLt
    unfold Dy; omega
  · isplitr; · ipureintro; exact hs1
    isplitl [Hf] <;> iassumption
  iintro %s2 ⟨%hs2, Hf, Hy⟩
  iapply (seq (steps_t d (tSlot t) 0 (tT2 t) 0 s2 _ (two (d.acc (2 * t.val + 2) 15) (d.acc (2 * t.val + 3) 0)) (fun k => inS_win ht k 0) ?_ rfl rfl two_ne0 _)) $$ [Hv He]
  · show 512 * t.val + 512 + 256 * 0 = 256 * (2 * t.val + 2); omega
  · isplitr; · ipureintro; exact hs2
    isplitl [Hv] <;> iassumption
  iintro %s3 ⟨%hs3, Hv, He⟩
  iapply (seq (accE_t d 0 15 (2 * t.val + 2) 1 s3 _ (two (d.acc (2 * t.val + 2) 16) (d.acc (2 * t.val + 3) 0)) rfl rfl two_ne0)) $$ [He]
  · isplitr; · ipureintro; exact hs3
    iexact He
  iintro %s4 ⟨%hs4, He⟩
  iapply (seq (pushE_t d (tSlot t) 0 1 (tT3 t) 0 s4 _ (inS_win ht 0 1) ?_)) $$ [Hv He]
  · show 512 * t.val + 512 + 256 * 1 = 256 * (2 * t.val + 3); omega
  · isplitr; · ipureintro; exact hs4
    isplitl [Hv] <;> iassumption
  iintro %s5 ⟨%hs5, Hv, He⟩
  iapply (seq (step_t d (tSlot t) 1 (tT3 t) 1 0 s5 _ (two (d.acc (2 * t.val + 2) 16) (d.acc (2 * t.val + 3) 1)) (fun k => inS_win ht k 1) ?_ rfl rfl two_ne1)) $$ [Hv He]
  · show 512 * t.val + 512 + 256 * 1 = 256 * (2 * t.val + 3); omega
  · isplitr; · ipureintro; exact hs5
    isplitl [Hv] <;> iassumption
  iintro %s6 ⟨%hs6, Hv, He⟩
  iapply (seq (finW_t d (tY t) 1 (tT2 t) (512 * t.val + 256) _ ?_ _ 0 s6 _ (two (d.acc (2 * t.val + 4) 0) (d.acc (2 * t.val + 3) 1)) (2 * t.val + 4) rfl rfl two_ne0
    (fun i => (i 2).val < 256) (fun _ => True) (fun i h => ?_) (fun i h => ?_))) $$ [Hf Hy]
  · show 512 * t.val + 256 + 256 * 1 = 256 * (2 * t.val + 2); omega
  · unfold Dy at h; omega
  · have h1 : (i 1).val < 768 := (i 1).isLt
    have h2 : (i 2).val < 512 := (i 2).isLt
    unfold Dy; omega
  · isplitr; · ipureintro; exact hs6
    isplitl [Hf] <;> iassumption
  iintro %s7 ⟨%hs7, Hf, Hy⟩
  iapply (seq (steps_t d (tSlot t) 1 (tT3 t) 1 s7 _ (two (d.acc (2 * t.val + 4) 0) (d.acc (2 * t.val + 3) 15)) (fun k => inS_win ht k 1) ?_ rfl rfl two_ne1 _)) $$ [Hv He]
  · show 512 * t.val + 512 + 256 * 1 = 256 * (2 * t.val + 3); omega
  · isplitr; · ipureintro; exact hs7
    isplitl [Hv] <;> iassumption
  iintro %s8 ⟨%hs8, Hv, He⟩
  iapply (seq (accE_t d 1 15 (2 * t.val + 3) 1 s8 _ (two (d.acc (2 * t.val + 4) 0) (d.acc (2 * t.val + 3) 16)) rfl rfl two_ne1)) $$ [He]
  · isplitr; · ipureintro; exact hs8
    iexact He
  iintro %s9 ⟨%hs9, He⟩
  iapply (last (pushE_t d (tNext t) 0 0 (tT4 t) 0 s9 _ (inS_0 (t := t.val + 1) (by omega) 0) ?_)) $$ [Hv' He]
  · show 512 * (t.val + 1) + 512 + 256 * 0 = 256 * (2 * t.val + 4); omega
  · isplitr; · ipureintro; exact hs9
    isplitl [Hv'] <;> iassumption
  iintro %s10 ⟨%hs10, Hv', He⟩
  isplitr; · ipureintro; exact hs10
  isplitl [Hv Hr Hv' Hr' Hf']
  · iapply (WM_next d ht)
    unfold WM Wl
    isplitl [Hv Hr]
    · isplitl [Hv] <;> iassumption
    isplitl [Hv' Hr']
    · isplitl [Hv'] <;> iassumption
    iexact Hf'
  isplitl [Hy Hys Hyr]
  · iapply (YM_next d (t := t.val) (Y1 d c (nY t.val) t.val) .rfl)
    isplitl [Hy Hys]
    · unfold Y1
      isplitl [Hy] <;> iassumption
    iexact Hyr
  isplitl [He]; · iexact He
  isplitl [Hf] <;> iassumption

end OsPlus
end
-- ==== Proof.Head.lean ====
module

public import proofs.«01_k».proof.Proof.Trip

/-! The head: every copy in, the quantiser, the first two column tiles. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

variable {c : Dev nD} (d : Data F)

/-! ## Families of sixteen -/

def fam (Φ : Fin 16 → sProp 𝕄) (lo hi : ℕ) : sProp 𝕄 := bigSep (Ring.rangeSet 16 lo hi) Φ

theorem fam_out {Φ : Fin 16 → sProp 𝕄} (k : Fin 16) : fam Φ k.val 16 ⊢ iprop(Φ k ∗ fam Φ (k.val + 1) 16) := by
  unfold fam
  rw [Ring.bigSep_rangeSet_head (lo := k.val) (hi := 16) k.isLt k.isLt]
theorem fam_in {Φ : Fin 16 → sProp 𝕄} (k : Fin 16) : iprop(Φ k ∗ fam Φ 0 k.val) ⊢ fam Φ 0 (k.val + 1) := by
  unfold fam
  rw [Ring.bigSep_rangeSet_last (lo := 0) (hi := k.val + 1) (by omega) k.isLt]
  exact .rfl
theorem fam_out0 {Φ : Fin 16 → sProp 𝕄} : fam Φ 0 16 ⊢ iprop(Φ 0 ∗ fam Φ 1 16) := fam_out 0
theorem fam_emp {Φ : Fin 16 → sProp 𝕄} {lo hi : ℕ} (h : hi ≤ lo) : fam Φ lo hi = (iprop(emp) : sProp 𝕄) := Ring.bigSep_rangeSet_empty h
theorem fam_all {Φ : Fin 16 → sProp 𝕄} : fam Φ 0 16 = bigSep Finset.univ Φ := by
  unfold fam; rw [Ring.rangeSet_univ]

/-! ## Copies of whole arrays -/

abbrev smSm (i : Fin 4) : DmaSem sig := (semAt smallSem i).sem
abbrev oSm (i : Fin 3) : DmaSem sig := (semAt outSem i).sem
abbrev t2 (i : Fin 2) : PosShare TreeShare := Transfers.shareTok fullShare 2 i

section
variable {sp sp' : Space} {s : Shape} {e : EltTy}

/-- A copy not started, in flight, landed. -/
def Cp (n : Fin 3) (c : Dev nD) (src : Memref sig .tc sp s e) (dst : Memref sig .tc sp' s e) (sem : DmaSem sig) (q : PosShare TreeShare)
    (f : Buf (Elt F) (src.view.loc (c : Thread nD τ))) (T : Buf (Elt F) (dst.view.loc (c : Thread nD τ))) : sProp 𝕄 :=
  match n with
  | 0 => C0 c src dst sem q f T
  | 1 => C1 c src dst sem q f T
  | 2 => C2 c src dst sem q f T

end

theorem ag_whole {b : Ref sig .tc} {D : Idx ((Memref.whole b).view.loc (c : Thread nD τ)) → Prop} {T : Buf (Elt F) ((Memref.whole b).view.loc (c : Thread nD τ))} :
    (Ag c (Memref.whole b) (Memref.whole b).view.set D T : sProp 𝕄) = Ag c (Memref.whole b) Finset.univ D T :=
  congrArg (fun S => (Ag c (Memref.whole b) S D T : sProp 𝕄)) (View.set_whole b)
theorem pt_whole {b : Ref sig .tc} {q : PosShare TreeShare} {T : Buf (Elt F) ((Memref.whole b).view.loc (c : Thread nD τ))} :
    ((Memref.whole b).view.loc (c : Thread nD τ) ↦[(Memref.whole b).view.set]{q} T : sProp 𝕄) = ((Memref.whole b).view.loc (c : Thread nD τ) ↦[Finset.univ]{q} T) :=
  congrArg (fun S => ((Memref.whole b).view.loc (c : Thread nD τ) ↦[S]{q} T : sProp 𝕄)) (View.set_whole b)

abbrev cXs (n : Fin 3) (c : Dev nD) : sProp 𝕄 := Cp n c xsH xss (smSm 0) (t2 0) d.xs d.xs
abbrev cS (n : Fin 3) (c : Dev nD) : sProp 𝕄 := Cp n c sH sv (smSm 1) fullShare d.s d.s
abbrev cWs (n : Fin 3) (c : Dev nD) : sProp 𝕄 := Cp n c wsH wsv (smSm 2) fullShare d.ws d.ws
abbrev cB (n : Fin 3) (c : Dev nD) : sProp 𝕄 := Cp n c biasH biasv (smSm 3) fullShare d.b d.b
abbrev cXo (n : Fin 3) (c : Dev nD) : sProp 𝕄 := Cp n c xsH xsoH (oSm 0) (t2 1) d.xs d.xs
abbrev cZ (n : Fin 3) (c : Dev nD) : sProp 𝕄 := Cp n c zv zH (oSm 1) fullShare d.zT d.zT
abbrev cBc (n : Fin 3) (c : Dev nD) : sProp 𝕄 := Cp n c bcv bcH (oSm 2) fullShare d.bcT d.bcT

/-- The source and the semaphore of a landed copy. -/
def Left {sp : Space} {s : Shape} {e : EltTy} (c : Dev nD) (src : Memref sig .tc sp s e) (sem : DmaSem sig) (q : PosShare TreeShare)
    (f : Buf (Elt F) (src.view.loc (c : Thread nD τ))) : sProp 𝕄 :=
  iprop((src.view.loc (c : Thread nD τ) ↦[Finset.univ]{q} f) ∗ semVal ((c : Thread nD τ), .dma sem) 0)

theorem xs_landed : cXs d 2 c ⊢ iprop(Scale d c ∗ Left c xsH (smSm 0) (t2 0) d.xs) := by
  unfold cXs Scale Left Cp C2
  dsimp only
  rw [pt_whole]
  iintro ⟨H1, H2, H3⟩
  isplitl [H2]; · iexact H2
  isplitl [H1] <;> iassumption
theorem s_landed : cS d 2 c ⊢ iprop(SB d c ∗ Left c sH (smSm 1) fullShare d.s) := by
  unfold cS SB Left Cp C2
  dsimp only
  rw [pt_whole]
  iintro ⟨H1, H2, H3⟩
  isplitl [H2]; · iapply (Ag.intro (m := sv)) $$ H2
  isplitl [H1] <;> iassumption
theorem ws_landed : cWs d 2 c ⊢ iprop(Wsv d c ∗ Left c wsH (smSm 2) fullShare d.ws) := by
  unfold cWs Wsv Left Cp C2
  dsimp only
  rw [pt_whole]
  iintro ⟨H1, H2, H3⟩
  isplitl [H2]; · iapply (Ag.intro (m := wsv)) $$ H2
  isplitl [H1] <;> iassumption
theorem b_landed : cB d 2 c ⊢ iprop(Bias d c ∗ Left c biasH (smSm 3) fullShare d.b) := by
  unfold cB Bias Left Cp C2
  dsimp only
  rw [pt_whole]
  iintro ⟨H1, H2, H3⟩
  isplitl [H2]; · iapply (Ag.intro (m := biasv)) $$ H2
  isplitl [H1] <;> iassumption

/-! ## The copies in -/

/-- All copies in, not started. -/
def P0 (c : Dev nD) : sProp 𝕄 :=
  iprop(cXs d 0 c ∗ cS d 0 c ∗ cWs d 0 c ∗ cB d 0 c ∗ cXo d 0 c ∗ fam (X0 d c) 0 16 ∗ fam (H0 d c) 0 16 ∗ W0 d c 0 ∗ W0 d c 1 ∗ Ow c)
/-- Started, and the scales landed. -/
def P1 (c : Dev nD) : sProp 𝕄 :=
  iprop(cXs d 2 c ∗ cS d 2 c ∗ cWs d 1 c ∗ cB d 1 c ∗ cXo d 1 c ∗ fam (X1 d c) 0 16 ∗ fam (H1 d c) 0 16 ∗ W1 d c 0 0 ∗ W1 d c 1 1 ∗ Ow c)

def SL (c : Dev nD) (k : ℕ) : sProp 𝕄 := iprop(fam (X1 d c) 0 k ∗ fam (X0 d c) k 16 ∗ fam (H1 d c) 0 k ∗ fam (H0 d c) k 16)

theorem SL_next (k : Fin 16) : iprop(fam (X1 d c) 0 k.val ∗ fam (X0 d c) (k.val + 1) 16 ∗ fam (H1 d c) 0 k.val ∗ fam (H0 d c) (k.val + 1) 16 ∗ X1 d c k ∗ H1 d c k) ⊢ SL d c (k.val + 1) := by
  unfold SL
  iintro ⟨A1, A0, B1, B0, A, B⟩
  isplitl [A A1]
  · iapply (fam_in k)
    isplitl [A] <;> iassumption
  isplitl [A0]; · iexact A0
  isplitl [B B1]
  · iapply (fam_in k)
    isplitl [B] <;> iassumption
  iexact B0

theorem startBoth_t (k : Fin 16) : SL d c k.val ⊢ WP c ((startX k).bind fun _ => startHead k) (fun _ => SL d c (k.val + 1)) := by
  rw [show SL d c k.val = iprop(fam (X1 d c) 0 k.val ∗ fam (X0 d c) k.val 16 ∗ fam (H1 d c) 0 k.val ∗ fam (H0 d c) k.val 16) from rfl]
  iintro ⟨A1, A0, B1, B0⟩
  ihave A0 := (fam_out k) $$ A0
  icases A0 with ⟨A, A0⟩
  ihave B0 := (fam_out k) $$ B0
  icases B0 with ⟨B, B0⟩
  iapply (seq (startX_t d k)) $$ A
  iintro %_ A
  iapply (last (startHead_t d k)) $$ B
  iintro %_ B
  iapply (SL_next d k)
  isplitl [A1]; · iexact A1
  isplitl [A0]; · iexact A0
  isplitl [B1]; · iexact B1
  isplitl [B0]; · iexact B0
  isplitl [A] <;> iassumption

section
variable {sp sp' : Space} {s : Shape} {e : EltTy} {src : Memref sig .tc sp s e} {dst : Memref sig .tc sp' s e} {sem : DmaSems sig S_} {q : PosShare TreeShare}
  {f : Buf (Elt F) (src.view.loc (c : Thread nD τ))} {T : Buf (Elt F) (dst.view.loc (c : Thread nD τ))}

theorem small_start (hs) (hd) (ht) (h0 : 0 < s.numel) (hT : src.view.read (Elt F) f = dst.view.read (Elt F) T) :
    Cp 0 c src dst sem.sem q f T ⊢ WP c (smallCopy src dst sem hs hd ht) (fun _ => Cp 1 c src dst sem.sem q f T) := C0_start hs hd ht h0 hT
theorem small_wait (hs) (hd) :
    iprop(Cp 1 c src dst sem.sem q f T ∗ Ow c) ⊢ WP c (smallWait src dst sem hs hd) (fun _ => iprop(Cp 2 c src dst sem.sem q f T ∗ Ow c)) := C1_wait hs hd

end

theorem starts_t : P0 d c ⊢ WP c starts (fun _ => P1 d c) := by
  unfold starts P0
  iintro ⟨Hxs, Hs, Hws, Hb, Hxo, HX, HH, W0, W1, Ho⟩
  ihave HX := fam_out0 $$ HX
  icases HX with ⟨A, A0⟩
  ihave HH := fam_out0 $$ HH
  icases HH with ⟨B, B0⟩
  iapply (seq (small_start (f := d.xs) (T := d.xs) _ _ _ (pos1 (by decide)) rfl)) $$ Hxs
  iintro %_ Hxs
  iapply (seq (small_start (f := d.s) (T := d.s) _ _ _ (pos2 (by decide) (by decide)) rfl)) $$ Hs
  iintro %_ Hs
  iapply (seq (startX_t d 0)) $$ A
  iintro %_ A
  iapply (seq (small_start (f := d.ws) (T := d.ws) _ _ _ (pos2 (by decide) (by decide)) rfl)) $$ Hws
  iintro %_ Hws
  iapply (seq (startHead_t d 0)) $$ B
  iintro %_ B
  iapply (seq (up (c := c) (f := fun (k : Fin 16) (_ : PUnit) => (startX (F := F) k).bind fun _ => startHead k) 0 (fun k _ => SL d c k) (fun k _ _ => startBoth_t d k) 15 1 _ (Nat.zero_le 1) ⟨⟩)) $$ [A A0 B B0]
  · iapply (SL_next d 0)
    isplitr
    · rw [show fam (X1 d c) 0 (0 : Fin 16).val = (iprop(emp) : sProp 𝕄) from fam_emp (le_refl 0)]; iempintro
    isplitl [A0]; · iexact A0
    isplitr
    · rw [show fam (H1 d c) 0 (0 : Fin 16).val = (iprop(emp) : sProp 𝕄) from fam_emp (le_refl 0)]; iempintro
    isplitl [B0]; · iexact B0
    isplitl [A] <;> iassumption
  iintro %_ HL
  iapply (seq (small_start (f := d.b) (T := d.b) _ _ _ (pos2 (by decide) (by decide)) rfl)) $$ Hb
  iintro %_ Hb
  iapply (seq (small_start (f := d.xs) (T := d.xs) _ _ _ (pos1 (by decide)) rfl)) $$ Hxo
  iintro %_ Hxo
  iapply (seq (startW_t d 0 0)) $$ W0
  iintro %_ W0
  iapply (seq (startW_t d 1 1)) $$ W1
  iintro %_ W1
  iapply (seq (small_wait _ _)) $$ [Hxs Ho]
  · isplitl [Hxs] <;> iassumption
  iintro %_ ⟨Hxs, Ho⟩
  iapply (last (small_wait _ _)) $$ [Hs Ho]
  · isplitl [Hs] <;> iassumption
  iintro %_ ⟨Hs, Ho⟩
  unfold P1 SL
  icases HL with ⟨A, -, B, -⟩
  isplitl [Hxs]; · iexact Hxs
  isplitl [Hs]; · iexact Hs
  isplitl [Hws]; · iexact Hws
  isplitl [Hb]; · iexact Hb
  isplitl [Hxo]; · iexact Hxo
  isplitl [A]; · iexact A
  isplitl [B]; · iexact B
  isplitl [W0]; · iexact W0
  isplitl [W1] <;> iassumption

/-! ## One block of the head -/

/-- What the quantiser holds before block `k`. -/
def Qn (c : Dev nD) (k : ℕ) : sProp 𝕄 := iprop(Qb d c (QbP k 0) ∗ ZB d c k ∗ UB d c k ∗ SB d c ∗ Scale d c)

theorem headRest_t (k : Fin 16) (s : Mxu F) :
    iprop(⌜Ms s none (two (d.acc 0 k.val) (d.acc 1 k.val))⌝ ∗ X2 d c k ∗ H2 d c k ∗ Q0 d c k ∗ Qn d c k.val ∗ Wsv d c)
      ⊢ WP c (headRest k s) (fun s => iprop(⌜Ms s none (two (d.acc 0 (k.val + 1)) (d.acc 1 (k.val + 1)))⌝ ∗ X2 d c k ∗ H2 d c k ∗ Q1 d c k ∗ Qn d c (k.val + 1) ∗ Wsv d c)) := by
  have hk := k.isLt
  unfold headRest X2 H2 C2 Q0 Qn
  iintro ⟨%hs, ⟨X1, X2, X3⟩, ⟨H1, H2, H3⟩, ⟨Q1, Q2, Q3⟩, ⟨Hb, Hz, Hu, Hsb, Hsc⟩, Hws⟩
  ihave X2 := (Ag.intro (m := xv) (D := fun _ => True)) $$ X2
  ihave H2 := (Ag.intro (m := wv) (D := fun _ => True)) $$ H2
  iapply (seq (quantise_t d k)) $$ [X2 Q1 Hb Hz Hu Hsb Hsc]
  · isplitl [X2]; · unfold XB; iexact X2
    isplitl [Q1]; · iexact Q1
    isplitl [Hb]; · iexact Hb
    isplitl [Hz]; · iexact Hz
    isplitl [Hu]; · iexact Hu
    isplitl [Hsb] <;> iassumption
  iintro %_ ⟨X2, Q1, Hb, Hz, Hu, Hsb, Hsc⟩
  have hS : ∀ lane, InS (headV k).view.set 2 k lane := fun lane i h0 h1 h1' _ _ => mem_headV.2 ⟨h0, h1, h1'⟩
  have hP : ∀ i : S768x4096.Idx, 256 * k.val ≤ (i 1).val → (i 1).val < 256 * k.val + 256 → QbP (k.val + 1) 0 i := fun i _ h => Or.inl (by omega)
  iapply (seq (push_t d (b := 0) 2 k 0 0 0 s _ (hS 0) rfl)) $$ [H2 Hws]
  · isplitr; · ipureintro; exact hs
    isplitl [H2]; · unfold Wv; iexact H2
    iexact Hws
  iintro %s1 ⟨%hs1, H2, Hws⟩
  iapply (seq (accum_t d 0 k (k.val + 1) (by omega) 0 0 s1 _ hP)) $$ [Hb Hu]
  · isplitr; · ipureintro; exact hs1
    isplitl [Hb] <;> iassumption
  iintro %s2 ⟨%hs2, Hb, Hu⟩
  rw [depAll_next d (C' := two (d.acc 0 (k.val + 1)) (d.acc 1 k.val)) rfl rfl two_ne0] at hs2
  iapply (seq (push_t d (b := 0) 2 k 1 1 1 s2 _ (hS 1) rfl)) $$ [H2 Hws]
  · isplitr; · ipureintro; exact hs2
    isplitl [H2] <;> iassumption
  iintro %s3 ⟨%hs3, H2, Hws⟩
  iapply (seq (accum_t d 1 k (k.val + 1) (by omega) 1 1 s3 _ hP)) $$ [Hb Hu]
  · isplitr; · ipureintro; exact hs3
    isplitl [Hb] <;> iassumption
  iintro %s4 ⟨%hs4, Hb, Hu⟩
  rw [depAll_next d (C' := two (d.acc 0 (k.val + 1)) (d.acc 1 (k.val + 1))) rfl rfl two_ne1] at hs4
  iapply (seq (startQ_t d k)) $$ [Q1 Q2 Q3]
  · isplitl [Q1]; · iexact Q1
    isplitl [Q2] <;> iassumption
  iintro %_ Q1
  iapply done
  unfold XB Wv
  isplitr; · ipureintro; exact hs4
  isplitl [X1 X2 X3]
  · isplitl [X1]; · iexact X1
    isplitl [X2]; · iapply (Ag.exact (m := xv) (fun _ _ => trivial)) $$ X2
    iexact X3
  isplitl [H1 H2 H3]
  · isplitl [H1]; · iexact H1
    isplitl [H2]; · iapply (Ag.exact (m := wv) (fun _ _ => trivial)) $$ H2
    iexact H3
  isplitl [Q1]; · iexact Q1
  isplitl [Hb Hz Hu Hsb Hsc]
  · isplitl [Hb]; · iexact Hb
    isplitl [Hz]; · iexact Hz
    isplitl [Hu]; · iexact Hu
    isplitl [Hsb] <;> iassumption
  iexact Hws

/-- After `k` blocks of the head. -/
def HL (c : Dev nD) (k : ℕ) (s : Mxu F) : sProp 𝕄 :=
  iprop(⌜Ms s none (two (d.acc 0 k) (d.acc 1 k))⌝ ∗ (fam (X2 d c) 0 k ∗ fam (X1 d c) k 16) ∗ (fam (H2 d c) 0 k ∗ fam (H1 d c) k 16) ∗ (fam (Q1 d c) 0 k ∗ fam (Q0 d c) k 16)
    ∗ Qn d c k ∗ Wsv d c ∗ Ow c)

theorem headStep_t (k : Fin 16) (s : Mxu F) : HL d c k.val s ⊢ WP c (headStep k s) (HL d c (k.val + 1)) := by
  unfold HL headStep
  iintro ⟨%hs, ⟨A1, A0⟩, ⟨B1, B0⟩, ⟨D1, D0⟩, Hq, Hws, Ho⟩
  ihave A0 := (fam_out k) $$ A0
  icases A0 with ⟨A, A0⟩
  ihave B0 := (fam_out k) $$ B0
  icases B0 with ⟨B, B0⟩
  ihave D0 := (fam_out k) $$ D0
  icases D0 with ⟨D, D0⟩
  iapply (seq (waitX_t d k)) $$ [A Ho]
  · isplitl [A] <;> iassumption
  iintro %_ ⟨A, Ho⟩
  iapply (seq (waitHead_t d k)) $$ [B Ho]
  · isplitl [B] <;> iassumption
  iintro %_ ⟨B, Ho⟩
  iapply (last (headRest_t d k s)) $$ [A B D Hq Hws]
  · isplitr; · ipureintro; exact hs
    isplitl [A]; · iexact A
    isplitl [B]; · iexact B
    isplitl [D]; · iexact D
    isplitl [Hq] <;> iassumption
  iintro %s' ⟨%hs', A, B, D, Hq, Hws⟩
  isplitr; · ipureintro; exact hs'
  isplitl [A A1 A0]
  · isplitl [A A1]
    · iapply (fam_in k)
      isplitl [A] <;> iassumption
    iexact A0
  isplitl [B B1 B0]
  · isplitl [B B1]
    · iapply (fam_in k)
      isplitl [B] <;> iassumption
    iexact B0
  isplitl [D D1 D0]
  · isplitl [D D1]
    · iapply (fam_in k)
      isplitl [D] <;> iassumption
    iexact D0
  isplitl [Hq]; · iexact Hq
  isplitl [Hws] <;> iassumption

theorem headStep0_t (s : Mxu F) :
    iprop(⌜Ms s none (two (d.acc 0 0) (d.acc 1 0))⌝ ∗ fam (X1 d c) 0 16 ∗ fam (H1 d c) 0 16 ∗ fam (Q0 d c) 0 16 ∗ Qn d c 0 ∗ cWs d 1 c ∗ Ow c)
      ⊢ WP c (headStep0 s) (fun s => iprop(HL d c 1 s ∗ Left c wsH (smSm 2) fullShare d.ws)) := by
  unfold headStep0
  iintro ⟨%hs, A0, B0, D0, Hq, Hws, Ho⟩
  ihave A0 := fam_out0 $$ A0
  icases A0 with ⟨A, A0⟩
  ihave B0 := fam_out0 $$ B0
  icases B0 with ⟨B, B0⟩
  ihave D0 := fam_out0 $$ D0
  icases D0 with ⟨D, D0⟩
  iapply (seq (waitX_t d 0)) $$ [A Ho]
  · isplitl [A] <;> iassumption
  iintro %_ ⟨A, Ho⟩
  iapply (seq (waitHead_t d 0)) $$ [B Ho]
  · isplitl [B] <;> iassumption
  iintro %_ ⟨B, Ho⟩
  iapply (seq (small_wait _ _)) $$ [Hws Ho]
  · isplitl [Hws] <;> iassumption
  iintro %_ ⟨Hws, Ho⟩
  ihave Hws := (ws_landed d) $$ Hws
  icases Hws with ⟨Hws, Hl⟩
  iapply (last (headRest_t d 0 s)) $$ [A B D Hq Hws]
  · isplitr; · ipureintro; exact hs
    isplitl [A]; · iexact A
    isplitl [B]; · iexact B
    isplitl [D]; · iexact D
    isplitl [Hq]; · iexact Hq
    iexact Hws
  iintro %s' ⟨%hs', A, B, D, Hq, Hws⟩
  have e : ∀ Φ : Fin 16 → sProp 𝕄, Φ 0 ⊢ fam Φ 0 1 := fun Φ => by
    have k := fam_in (Φ := Φ) 0
    rw [show fam Φ 0 (0 : Fin 16).val = (iprop(emp) : sProp 𝕄) from fam_emp (le_refl 0)] at k
    exact (Laws.sep_emp (P := Φ 0)).2.trans k
  unfold HL
  isplitr [Hl]
  · isplitr; · ipureintro; exact hs'
    isplitl [A A0]
    · isplitl [A]; · iapply e $$ A
      iexact A0
    isplitl [B B0]
    · isplitl [B]; · iapply e $$ B
      iexact B0
    isplitl [D D0]
    · isplitl [D]; · iapply e $$ D
      iexact D0
    isplitl [Hq]; · iexact Hq
    isplitl [Hws] <;> iassumption
  iexact Hl

/-! ## Between the head and the loop -/

/-- The head's weights given back, without their slot. -/
def HR (c : Dev nD) : sProp 𝕄 :=
  bigSep Finset.univ fun k : Fin 16 => iprop((wH.view.loc (c : Thread nD τ) ↦[Finset.univ]{Transfers.shareTok fullShare 16 k} d.w) ∗ semVal ((c : Thread nD τ), .dma (whSm k)) 0)

theorem in_head (j : S3x4096x512.Idx) : (j 0).val = 2 ↔ ∃ k : Fin 16, (j 0).val = 2 ∧ 256 * k.val ≤ (j 1).val ∧ (j 1).val < 256 * k.val + 256 := by
  have h1 : (j 1).val < 4096 := (j 1).isLt
  refine Iff.intro (fun h => ⟨⟨(j 1).val / 256, by omega⟩, h, ?_⟩) fun ⟨_, h⟩ => h.1
  show 256 * ((j 1).val / 256) ≤ (j 1).val ∧ (j 1).val < 256 * ((j 1).val / 256) + 256
  omega
theorem slot2_union : (slotV 2).view.set = Finset.univ.biUnion fun k : Fin 16 => (headV k).view.set := by
  ext j
  rw [Finset.mem_biUnion]
  exact mem_slot.trans ((in_head j).trans ⟨fun ⟨k, h⟩ => ⟨k, Finset.mem_univ _, mem_headV.2 h⟩, fun ⟨k, _, h⟩ => ⟨k, mem_headV.1 h⟩⟩)
theorem headV_disjoint (k : Fin 16) (_ : k ∈ Finset.univ) (k' : Fin 16) (_ : k' ∈ Finset.univ) (h : k ≠ k') : Disjoint (headV k).view.set (headV k').view.set :=
  Finset.disjoint_left.2 fun j hj hj' => h (Fin.ext (by
    have a := (mem_headV.1 hj).2
    have b := (mem_headV.1 hj').2
    omega))

theorem head_parts (k : Fin 16) : H2 d c k ⊢ iprop((wv.view.loc (c : Thread nD τ) ↦[(headV k).view.set]{fullShare} d.wT 0)
    ∗ ((wH.view.loc (c : Thread nD τ) ↦[Finset.univ]{Transfers.shareTok fullShare 16 k} d.w) ∗ semVal ((c : Thread nD τ), .dma (whSm k)) 0)) := by
  unfold H2 C2
  iintro ⟨A, B, C⟩
  isplitl [B]; · iexact B
  isplitl [A] <;> iassumption

theorem slot2_back : iprop(fam (H2 d c) 0 16 ∗ (wH.view.loc (c : Thread nD τ) ↦[Finset.univ]{wTok 2} d.w) ∗ semVal ((c : Thread nD τ), .dma (wSm 2)) 0)
    ⊢ iprop(HR d c ∗ W0 d c 2) := by
  have e : (fam (H2 d c) 0 16 : sProp 𝕄) ⊢ iprop((wv.view.loc (c : Thread nD τ) ↦[(slotV 2).view.set]{fullShare} d.wT 0) ∗ HR d c) := by
    have u := pointsTo_biUnion (Ix := Unit) (Name := ℕ) (U := Pipeline.UD sig nD τ) (Lvl := ℕ) (ℓ := wv.view.loc (c : Thread nD τ)) (q := fullShare) (f := d.wT 0)
      (Finset.univ : Finset (Fin 16)) (fun k : Fin 16 => (headV k).view.set) headV_disjoint
    rw [fam_all, slot2_union, u]
    unfold HR
    rw [← bigSep_sep']
    exact bigSep_mono fun k _ => head_parts d k
  iintro ⟨H, Hw, Hv⟩
  ihave H := e $$ H
  icases H with ⟨Hs, Hr⟩
  unfold W0
  isplitl [Hr]; · iexact Hr
  isplitl [Hw]; · iexact Hw
  isplitl [Hs]
  · iapply (Ag.intro (m := wv)) $$ Hs
  iexact Hv

/-- What the loop does not touch. -/
def Kp (c : Dev nD) : sProp 𝕄 :=
  iprop((Left c xsH (smSm 0) (t2 0) d.xs ∗ Left c sH (smSm 1) fullShare d.s ∗ Left c wsH (smSm 2) fullShare d.ws ∗ Left c biasH (smSm 3) fullShare d.b)
    ∗ SB d c ∗ fam (X2 d c) 0 16 ∗ HR d c ∗ fam (Q1 d c) 0 16 ∗ cZ d 1 c ∗ cXo d 1 c
    ∗ (Ag c bcH bcH.view.set (fun _ => False) d.bcT ∗ semVal ((c : Thread nD τ), .dma (oSm 2)) 0)
    ∗ T2 d c 0 ∗ T0 d c 1 ∗ T0 d c 2 ∗ Yr d c 10496 11008)

/-- What the head starts from, besides the copies in. -/
def In0 (c : Dev nD) : sProp 𝕄 :=
  iprop((Ag c zH zH.view.set (fun _ => False) d.zT ∗ semVal ((c : Thread nD τ), .dma (oSm 1)) 0)
    ∗ (Ag c bcH bcH.view.set (fun _ => False) d.bcT ∗ semVal ((c : Thread nD τ), .dma (oSm 2)) 0)
    ∗ BcB d c 0 ∗ ((wH.view.loc (c : Thread nD τ) ↦[Finset.univ]{wTok 2} d.w) ∗ semVal ((c : Thread nD τ), .dma (wSm 2)) 0)
    ∗ (T0 d c 0 ∗ T0 d c 1 ∗ T0 d c 2) ∗ (Y0 d c 0 ∗ Y0 d c 1) ∗ Yr d c 0 11008)

theorem Yd_none {a : ℕ} : Yr d c a a ⊢ Yd d c a a := by
  unfold Yr Yd
  refine Ag.exact (m := yH) fun i hi => ?_
  have := mem_cols.1 hi
  omega

theorem wl0 : C2 c (winH 0) (slotV 0) (wSm 0) (wTok 0) d.w (d.wT (512 * (0 : Fin 20).val + 512)) ⊢ Wl d c 0 := Wl_of d (t := 0) (by omega)

theorem between_t (s : Mxu F) :
    iprop(HL d c 16 s ∗ In0 d c ∗ W1 d c 0 0 ∗ W1 d c 1 1 ∗ cB d 1 c ∗ cXo d 1 c ∗ Left c xsH (smSm 0) (t2 0) d.xs ∗ Left c sH (smSm 1) fullShare d.s ∗ Left c wsH (smSm 2) fullShare d.ws)
      ⊢ WP c (between s) (fun s => iprop(TA d c 0 s ∗ Kp d c)) := by
  unfold between HL In0 Qn ZB Qb
  iintro ⟨⟨%hs, ⟨HX, -⟩, ⟨HH, -⟩, ⟨HQ, -⟩, ⟨Hqb, Hz, Hu, Hsb, Hsc⟩, Hws, Ho⟩, ⟨⟨Hzo, Hzs⟩, Hbo, Hbc, Hw2, ⟨T0, Ht1, Ht2⟩, ⟨Y0, Y1⟩, Hyr⟩, W0, W1, Hb, Hxo, Hl0, Hl1, Hl2⟩
  ihave Hz := (Ag.exact (c := c) (m := zv) (S := Finset.univ) (D := fun i : S1x4096.Idx => (i 1).val < 256 * 16) (T := d.zT) (fun (i : S1x4096.Idx) _ => Fin.isLt (i 1))) $$ Hz
  iapply (seq (small_start (c := c) (f := d.zT) (T := d.zT) (q := fullShare) _ _ _ (pos2 (by decide) (by decide)) rfl)) $$ [Hz Hzo Hzs]
  · unfold Cp C0
    dsimp only
    isplitl [Hz]; · iexact Hz
    isplitl [Hzo] <;> iassumption
  iintro %_ Hz
  iapply (seq (small_wait _ _)) $$ [Hb Ho]
  · isplitl [Hb] <;> iassumption
  iintro %_ ⟨Hb, Ho⟩
  ihave Hb := (b_landed d) $$ Hb
  icases Hb with ⟨Hb, Hl3⟩
  iapply (seq (C1_wait _ _)) $$ [W0 Ho]
  · isplitl [W0] <;> iassumption
  iintro %_ ⟨W0, Ho⟩
  ihave W0 := (wl0 d) $$ W0
  ihave Hqb := (Ag.weak (c := c) (m := qbv) (S := Finset.univ) (D := QbP 16 0) (D' := fun _ => True) (T := d.qbT) (fun (i : S768x4096.Idx) _ _ => Or.inl (Fin.isLt (i 1)))) $$ Hqb
  unfold Wl
  icases W0 with ⟨W0, Wr0⟩
  iapply (seq (pushE_t d (b := 512 * 0 + 512) (S := wS 0) 0 0 0 2 0 s _ (inS_0 (t := 0) (by omega) 0) rfl)) $$ [W0 Hws Hqb Hu]
  · isplitr; · ipureintro; exact hs
    isplitl [W0]; · iexact W0
    unfold En Qb
    isplitl [Hws]; · iexact Hws
    isplitl [Hqb] <;> iassumption
  iintro %s1 ⟨%hs1, W0, He⟩
  iapply (seq (finT_t d 0 0 _ _ 0 s1 _ (two (d.acc 2 0) (d.acc 1 16)) 2 rfl rfl two_ne0 rfl)) $$ [Hsc Hb Hbc T0]
  · isplitr; · ipureintro; exact hs1
    isplitl [Hsc Hb Hbc]
    · unfold Fb
      isplitl [Hsc]; · iexact Hsc
      isplitl [Hb]; · iexact Hb
      iexact Hbc
    iexact T0
  iintro %s2 ⟨%hs2, Hf, T0⟩
  ihave Hyr := (Yr_split d (a := 0) (b := 256) (e := 11008) (by omega) (by omega)) $$ Hyr
  icases Hyr with ⟨Hy0, Hyr⟩
  ihave Hyr := (Yr_split d (a := 256) (b := 10496) (e := 11008) (by omega) (by omega)) $$ Hyr
  icases Hyr with ⟨Hyr, Hy3⟩
  ihave Hyr := (Yr_split d (a := 256) (b := 256) (e := 10496) (by omega) (by omega)) $$ Hyr
  icases Hyr with ⟨Hyd, Hyr⟩
  ihave Hyd := (Yd_none d) $$ Hyd
  iapply (seq (startY0_t d 0)) $$ [T0 Hy0]
  · isplitl [T0]; · iexact T0
    iexact Hy0
  iintro %_ T0
  iapply done
  ihave Hw := (slot2_back d) $$ [HH Hw2]
  · isplitl [HH] <;> iassumption
  icases Hw with ⟨HR, W2⟩
  isplitr [T0 Ht1 Ht2 Hy3 HR HX HQ Hz Hxo Hl0 Hl1 Hl2 Hl3 Hbo Hsb]
  · unfold TA WA YA Wl Wf Yc Yf
    rw [dif_pos (by omega), if_neg (by omega), dif_neg (by omega)]
    isplitr; · ipureintro; exact hs2
    isplitl [W0 Wr0 W1 W2]
    · isplitl [W0 Wr0]
      · isplitl [W0] <;> iassumption
      isplitl [W1]; · iexact W1
      iexact W2
    isplitl [Y0 Y1 Hyr Hyd]
    · isplitl [Y1]; · iexact Y1
      isplitl [Y0]; · iexact Y0
      isplitl [Hyr]; · iexact Hyr
      iexact Hyd
    isplitl [He]; · iexact He
    isplitl [Hf]; · iexact Hf
    iexact Ho
  unfold Kp
  isplitl [Hl0 Hl1 Hl2 Hl3]
  · isplitl [Hl0]; · iexact Hl0
    isplitl [Hl1]; · iexact Hl1
    isplitl [Hl2] <;> iassumption
  isplitl [Hsb]; · iexact Hsb
  isplitl [HX]; · iexact HX
  isplitl [HR]; · iexact HR
  isplitl [HQ]; · iexact HQ
  isplitl [Hz]; · iexact Hz
  isplitl [Hxo]; · iexact Hxo
  isplitl [Hbo]; · iexact Hbo
  isplitl [T0]; · iexact T0
  isplitl [Ht1]; · iexact Ht1
  isplitl [Ht2] <;> iassumption

/-- What the body starts from. -/
def Init (c : Dev nD) : sProp 𝕄 := iprop(P0 d c ∗ fam (Q0 d c) 0 16 ∗ (Qb d c (QbP 0 0) ∗ ZB d c 0 ∗ UB d c 0) ∗ In0 d c)

theorem head_t : Init d c ⊢ WP c head (fun s => iprop(TA d c 0 s ∗ Kp d c)) := by
  unfold Init head
  iintro ⟨Hp, HQ, ⟨Hqb, Hz, Hu⟩, Hi⟩
  iapply (seq (starts_t d)) $$ Hp
  iintro %_ Hp
  unfold P1
  icases Hp with ⟨Hxs, Hs, Hws, Hb, Hxo, HX, HH, W0, W1, Ho⟩
  ihave Hxs := (xs_landed d) $$ Hxs
  icases Hxs with ⟨Hsc, Hl0⟩
  ihave Hs := (s_landed d) $$ Hs
  icases Hs with ⟨Hsb, Hl1⟩
  iapply (seq (headStep0_t d Mxu.init)) $$ [HX HH HQ Hqb Hz Hu Hsc Hsb Hws Ho]
  · isplitr
    · ipureintro
      refine ⟨fun _ => none, ?_⟩
      have e : two (d.acc 0 0) (d.acc 1 0) = fun _ _ _ => none := by
        funext par q p; unfold two; split <;> rfl
      rw [e]
      exact Mst.init
    isplitl [HX]; · iexact HX
    isplitl [HH]; · iexact HH
    isplitl [HQ]; · iexact HQ
    isplitl [Hqb Hz Hu Hsc Hsb]
    · unfold Qn
      isplitl [Hqb]; · iexact Hqb
      isplitl [Hz]; · iexact Hz
      isplitl [Hu]; · iexact Hu
      isplitl [Hsb] <;> iassumption
    isplitl [Hws] <;> iassumption
  iintro %s1 ⟨H, Hl2⟩
  iapply (seq (up (c := c) (f := headStep (F := F)) 0 (HL d c) (fun k s _ => headStep_t d k s) 15 1 _ (Nat.zero_le 1) s1)) $$ H
  iintro %s2 H
  iapply (between_t d s2)
  isplitl [H]; · iexact H
  isplitl [Hi]; · iexact Hi
  isplitl [W0]; · iexact W0
  isplitl [W1]; · iexact W1
  isplitl [Hb]; · iexact Hb
  isplitl [Hxo]; · iexact Hxo
  isplitl [Hl0]; · iexact Hl0
  isplitl [Hl1] <;> iassumption

end OsPlus
end
-- ==== Proof.Same.lean ====
module

public import proofs.«01_k».proof.Proof.Struct
public import proofs.«01_k».proof.Proof.Gen.Kernel.Skeleton

/-! The printed body is the body of `Struct`. -/

@[expose] public section

noncomputable section

namespace OsPlus

open Cert.Kernel Cert.Kernel.Gen Idealize.ShloMosaic Idealize.ShloMosaic.TcCoe Idealize.ShloMosaic.Tactic Idealize.SL.Sem

variable {F : FTy → Type} [FloatOps F]

/-- The printed loop's trip. -/
abbrev pTrip : Fin k0_t1_loop.trips → BitVec 32 × Mxu F → Pg F (BitVec 32 × Mxu F) :=
  k0_t1_body (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20 Mxu.init (broadcast S128x256 (Scalar.ofBits .bf16 0#16))

/-- The printed body. -/
abbrev pBody : Pg F PUnit := cc0_osplus_linear (Memref.whole main_v0) (Memref.isWhole_whole _) (Memref.whole main_v1) (Memref.isWhole_whole _) (Memref.whole main_arg2) (Memref.isWhole_whole _) (Memref.whole main_arg3) (Memref.isWhole_whole _) (Memref.whole main_arg4) (Memref.isWhole_whole _) (Memref.whole main_v2) (Memref.isWhole_whole _) (Memref.whole main_v3_0) (Memref.isWhole_whole _) (Memref.whole main_v3_1) (Memref.isWhole_whole _) (Memref.whole main_v3_2) (Memref.isWhole_whole _) (Memref.whole main_v3_3) (Memref.isWhole_whole _) (Memref.whole main_v3_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17 cc0_scratch18 cc0_scratch19 cc0_scratch20

theorem body_eq : pBody (F := F) = head.bind fun s => (((Scf.Loop.for k0_t1_loop k0_t1_ok (0#32, s) pTrip).bind fun r => lastA r.2).bind lastB).bind lastC := by
  sl_kernel_rfl

theorem trip_eq (t : Fin k0_t1_loop.trips) (a : BitVec 32) (s : Mxu F) : pTrip t (a, s) = (trip (t.cast rfl) s).bind fun s => .ret (0#32, s) := by
  match t with
  | ⟨0, _⟩ | ⟨1, _⟩ | ⟨2, _⟩ | ⟨3, _⟩ | ⟨4, _⟩ | ⟨5, _⟩ | ⟨6, _⟩ | ⟨7, _⟩ | ⟨8, _⟩ | ⟨9, _⟩
  | ⟨10, _⟩ | ⟨11, _⟩ | ⟨12, _⟩ | ⟨13, _⟩ | ⟨14, _⟩ | ⟨15, _⟩ | ⟨16, _⟩ | ⟨17, _⟩ | ⟨18, _⟩ | ⟨19, _⟩ => sl_kernel_rfl
  | ⟨n + 20, h⟩ => exact absurd (show n + 20 < 20 from h) (by omega)

end OsPlus
end
-- ==== Proof.Last.lean ====
module

public import proofs.«01_k».proof.Proof.Head
public import proofs.«01_k».proof.Proof.Same

/-! The last column tiles, the copies out, and the whole body. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

variable {c : Dev nD} (d : Data F)

/-! ## The weights given back -/

theorem rejoin {ℓ : Loc nD τ sig} {I S : Finset (Idx ℓ)} (h : I ⊆ S) (f g : Buf (Elt F) ℓ) :
    iprop((ℓ ↦[I]{fullShare} f) ∗ (ℓ ↦[S \ I]{fullShare} g)) ⊢ (iprop(∃ k, ℓ ↦[S]{fullShare} k) : sProp 𝕄) := by
  have k := pointsTo_join (Ix := Unit) (Name := ℕ) (U := Pipeline.UD sig nD τ) (Lvl := ℕ) (ℓ := ℓ) (q := fullShare) (f := f) (g := g) (I := I) (J := S \ I) Finset.disjoint_sdiff
  rw [Finset.union_sdiff_of_subset h] at k
  iintro H
  ihave H := k $$ H
  iexists _
  iexact H

theorem Ag.rejoin {sp : Space} {s : Shape} {e : EltTy} {m : Memref sig .tc sp s e} {I S : Finset (Idx (m.view.loc (c : Thread nD τ)))} (h : I ⊆ S)
    {D D' : Idx (m.view.loc (c : Thread nD τ)) → Prop} {T T' T'' : Buf (Elt F) (m.view.loc (c : Thread nD τ))} :
    iprop(Ag c m I D T ∗ Ag c m (S \ I) D' T') ⊢ (Ag c m S (fun _ => False) T'' : sProp 𝕄) := by
  unfold Ag
  iintro ⟨⟨%f, -, H1⟩, ⟨%g, -, H2⟩⟩
  ihave H := OsPlus.rejoin h f g $$ [H1 H2]
  · isplitl [H1] <;> iassumption
  icases H with ⟨%k, H⟩
  iexists k
  isplitr; · ipureintro; exact fun i _ h => h.elim
  iexact H

theorem tail_sub : tailV.view.set ⊆ (slotV 2).view.set := fun _ hj => mem_slot.2 (mem_tailV.1 hj).1

theorem tail_back : Wl d c 20 ⊢ W0 d c 2 := by
  unfold Wl WR Wv wS Tr W0
  rw [if_neg (by omega), if_neg (by omega)]
  iintro ⟨H2, H1, H3, H4⟩
  isplitl [H1]; · iexact H1
  isplitl [H2 H4]
  · iapply (Ag.rejoin (m := wv) tail_sub)
    isplitl [H2]; · iexact H2
    iexact H4
  iexact H3

theorem bindA {α β γ : Type} (p : Pg F α) (f : α → Pg F β) (g : β → Pg F γ) : (p.bind f).bind g = p.bind fun x => (f x).bind g := Prog.bind_assoc p f g
theorem bindR {α β : Type} (a : α) (f : α → Pg F β) : (Prog.ret a : Pg F α).bind f = f a := rfl

/-! ## The last trip -/

def LA (c : Dev nD) (s : Mxu F) : sProp 𝕄 :=
  iprop(⌜Mst s (Rs none) (fun _ => some (d.tile 42 0)) (depQ (two (d.acc 42 0) (d.acc 41 16)) 0 (d.prod 42 0))⌝
    ∗ (Wv d c (wS 20) 10752 ∗ WR d c 20 ∗ W0 d c 0 ∗ W0 d c 1) ∗ (Y2 d c 1 19 ∗ Y2 d c 0 18 ∗ Yd d c 256 9472) ∗ En d c ∗ Fb d c 41 ∗ Ow c)

theorem lastA_t (s : Mxu F) : TA d c 20 s ⊢ WP c (lastA s) (LA d c) := by
  unfold TA lastA WA YA Wl Wf Yc Yf En
  rw [dif_neg (by omega), if_neg (by omega), if_pos (by omega), dif_pos (by omega)]
  iintro ⟨%hs, ⟨⟨Hv, Hr⟩, W0, W1⟩, ⟨Y1, Y2, Yr, Yd⟩, ⟨Hws, Hqb, Hu⟩, Hf, Ho⟩
  iapply (seq (startY_t d 19 1 10496 (by show 512 * 19 + 768 ≤ 10496; omega))) $$ [Y1 Yr]
  · isplitl [Y1]; · iexact Y1
    iexact Yr
  iintro %_ ⟨Y1, -⟩
  iapply (last (accumQ_t d (P := fun _ => True) 0 0 42 0 s _ (fun _ _ _ => trivial))) $$ [Hqb]
  · isplitr; · ipureintro; exact hs
    iexact Hqb
  iintro %s' ⟨%hs', Hqb⟩
  unfold LA En
  isplitr; · ipureintro; exact hs'
  isplitl [Hv Hr W0 W1]
  · isplitl [Hv]; · iexact Hv
    isplitl [Hr]; · iexact Hr
    isplitl [W0]; · iexact W0
    iexact W1
  isplitl [Y1 Y2 Yd]
  · isplitl [Y1]; · iexact Y1
    isplitl [Y2]; · iexact Y2
    iexact Yd
  isplitl [Hws Hqb Hu]
  · isplitl [Hws]; · iexact Hws
    isplitl [Hqb] <;> iassumption
  isplitl [Hf]; · iexact Hf
  iexact Ho

/-- The products of the last column tile, and the finish of the two last. -/
def lastB1 (s : Mxu F) : Pg F (Mxu F) := do
  let s ← accumU 0 0 s
  let s ← push 2 1 0 42 1 s
  let s ← finish y0v (Memref.isWhole_whole _) (y0Slot 1) 1 0 (by omega) 1 41 s
  let s ← forUp (N := 15) (step 2 0 42 0) 14 1 (by omega) s
  let s ← accum 0 15 1 s
  startY0 1
  let s ← finish y0v (Memref.isWhole_whole _) (y0Slot 2) 2 0 (by omega) 0 42 s
  startY0 2
  .ret s

/-- The copies out. -/
def lastB2 (s : Mxu F) : Pg F (Mxu F) := do
  smallCopy bcv bcH (semAt outSem 2) wh wh ⟨Or.inl rfl, trivial⟩
  let _ ← forN 16 (fun k _ => waitQ k) ⟨⟩
  smallWait zv zH (semAt outSem 1) wh wh
  smallWait xsH xsoH (semAt outSem 0) wh wh
  waitY 18 0
  waitY 19 1
  waitY0 0
  waitY0 1
  .ret s

theorem lastB_eq (s : Mxu F) : lastB s = (lastB1 s).bind lastB2 := by
  unfold lastB lastB1 lastB2
  simp only [bind, bindA, bindR]

/-- The columns still to be written. -/
theorem last_cols : Yr d c 10496 11008 ⊢ iprop(Yr d c 10496 10752 ∗ Yr d c 10752 11008) := Yr_split d (by omega) (by omega)

theorem lastB1_t (s : Mxu F) :
    iprop(⌜Mst s (Rs none) (fun _ => some (d.tile 42 0)) (depQ (two (d.acc 42 0) (d.acc 41 16)) 0 (d.prod 42 0))⌝ ∗ Wv d c (wS 20) 10752 ∗ En d c ∗ Fb d c 41 ∗ T0 d c 1 ∗ T0 d c 2 ∗ Yr d c 10496 11008)
      ⊢ WP c (lastB1 s) (fun s => iprop(⌜Ms s none (fun _ _ _ => none)⌝ ∗ Wv d c (wS 20) 10752 ∗ En d c ∗ Fb d c 43 ∗ T2 d c 1 ∗ T2 d c 2)) := by
  unfold lastB1 En
  iintro ⟨%hs, Hv, ⟨Hws, Hqb, Hu⟩, Hf, T1, T2, Hy⟩
  ihave Hy := (last_cols d) $$ Hy
  icases Hy with ⟨Hy1, Hy2⟩
  iapply (seq (accumU_t d 0 0 16 (by show 0 < 16; omega) 42 s _)) $$ [Hu]
  · isplitr; · ipureintro; exact hs
    iexact Hu
  iintro %s1 ⟨%hs1, Hu⟩
  have hs1 : Ms s1 none (two (d.acc 42 1) (d.acc 41 16)) := by
    have e := depAll_next d (C := two (d.acc 42 0) (d.acc 41 16)) (C' := two (d.acc 42 1) (d.acc 41 16)) (par := 0) (n := 42) (k := 0) rfl rfl two_ne0
    exact Eq.mp (congrArg (Ms s1 none) e) hs1
  iapply (seq (pushE_t d (S := wS 20) (b := 10752) 2 1 0 42 1 s1 _ (inS_0 (t := 20) (by omega) 1) rfl)) $$ [Hv Hws Hqb Hu]
  · isplitr; · ipureintro; exact hs1
    isplitl [Hv]; · iexact Hv
    unfold En
    isplitl [Hws]; · iexact Hws
    isplitl [Hqb] <;> iassumption
  iintro %s2 ⟨%hs2, Hv, He⟩
  iapply (seq (finT_t d 1 41 _ _ 1 s2 _ (two (d.acc 42 1) (d.acc 0 0)) 0 rfl rfl two_ne1 rfl)) $$ [Hf T1]
  · isplitr; · ipureintro; exact hs2
    isplitl [Hf]; · iexact Hf
    iexact T1
  iintro %s3 ⟨%hs3, Hf, T1⟩
  iapply (seq (steps_t d (S := wS 20) (b := 10752) 2 0 42 0 s3 _ (two (d.acc 42 15) (d.acc 0 0)) (fun k => inS_0 (t := 20) (by omega) k) rfl rfl rfl two_ne0 _)) $$ [Hv He]
  · isplitr; · ipureintro; exact hs3
    isplitl [Hv] <;> iassumption
  iintro %s4 ⟨%hs4, Hv, He⟩
  iapply (seq (accE_t d 0 15 42 1 s4 _ (two (d.acc 42 16) (d.acc 0 0)) rfl rfl two_ne0)) $$ [He]
  · isplitr; · ipureintro; exact hs4
    iexact He
  iintro %s5 ⟨%hs5, He⟩
  iapply (seq (startY0_t d 1)) $$ [T1 Hy1]
  · isplitl [T1]; · iexact T1
    iexact Hy1
  iintro %_ T1
  iapply (seq (finT_t d 2 42 _ _ 0 s5 (two (d.acc 42 16) (d.acc 0 0)) (fun _ _ _ => none) 0 rfl rfl ?_ rfl)) $$ [Hf T2]
  · intro p hp
    obtain rfl : p = 1 := by omega
    rfl
  · isplitr; · ipureintro; exact hs5
    isplitl [Hf]; · iexact Hf
    iexact T2
  iintro %s6 ⟨%hs6, Hf, T2⟩
  iapply (seq (startY0_t d 2)) $$ [T2 Hy2]
  · isplitl [T2]; · iexact T2
    iexact Hy2
  iintro %_ T2
  iapply done
  isplitr; · ipureintro; exact hs6
  isplitl [Hv]; · iexact Hv
  isplitl [He]; · unfold En; iexact He
  isplitl [Hf]; · iexact Hf
  isplitl [T1] <;> iassumption

theorem waitQs_t : iprop(fam (Q1 d c) 0 16 ∗ Ow c) ⊢ WP c (forN 16 (fun k (_ : PUnit) => waitQ (F := F) k) ⟨⟩) (fun _ => iprop(fam (Q2 d c) 0 16 ∗ Ow c)) := by
  have u := up (c := c) (f := fun (k : Fin 16) (_ : PUnit) => waitQ (F := F) k) 0 (fun k _ => iprop(fam (Q2 d c) 0 k ∗ fam (Q1 d c) k 16 ∗ Ow c)) (fun k _ _ => by
    iintro ⟨A, B, Ho⟩
    ihave B := (fam_out k) $$ B
    icases B with ⟨B, B'⟩
    iapply (last (waitQ_t d k)) $$ [B Ho]
    · isplitl [B] <;> iassumption
    iintro %_ ⟨B, Ho⟩
    isplitl [A B]
    · iapply (fam_in k)
      isplitl [B] <;> iassumption
    isplitl [B'] <;> iassumption) 16 0 (by omega) (le_refl 0) ⟨⟩
  iintro ⟨H, Ho⟩
  iapply (last u) $$ [H Ho]
  · isplitr
    · rw [show fam (Q2 d c) 0 0 = (iprop(emp) : sProp 𝕄) from fam_emp (le_refl 0)]; iempintro
    isplitl [H] <;> iassumption
  iintro %_ ⟨H, -, Ho⟩
  isplitl [H] <;> iassumption

theorem bc_ready : iprop(BcB d c 43 ∗ Ag c bcH bcH.view.set (fun _ => False) d.bcT ∗ semVal ((c : Thread nD τ), .dma (oSm 2)) 0) ⊢ cBc d 0 c := by
  unfold cBc Cp C0 BcB
  dsimp only
  iintro ⟨H, H'⟩
  isplitl [H]
  · iapply (Ag.exact (c := c) (m := bcv) (S := Finset.univ) (D := fun i : S1x11008.Idx => (i 1).val < 256 * 43) (T := d.bcT) (fun (i : S1x11008.Idx) _ => Fin.isLt (i 1))) $$ H
  iexact H'

/-- What is left in the kernel's own memory, and its results, at the copies' end. -/
def Gone (c : Dev nD) : sProp 𝕄 := iprop(fam (Q2 d c) 0 16 ∗ cZ d 2 c ∗ cXo d 2 c ∗ (Y0 d c 0 ∗ Y0 d c 1) ∗ T0 d c 0 ∗ T0 d c 1 ∗ Yd d c 0 10752)

theorem lastB2_t (s : Mxu F) :
    iprop(cBc d 0 c ∗ fam (Q1 d c) 0 16 ∗ cZ d 1 c ∗ cXo d 1 c ∗ (Y2 d c 1 19 ∗ Y2 d c 0 18 ∗ Yd d c 256 9472) ∗ T2 d c 0 ∗ T2 d c 1 ∗ Ow c)
      ⊢ WP c (lastB2 s) (fun s' => iprop(⌜s' = s⌝ ∗ cBc d 1 c ∗ Gone d c ∗ Ow c)) := by
  unfold lastB2
  iintro ⟨Hbc, HQ, Hz, Hxo, ⟨Y1, Y0, Hy⟩, T0, T1, Ho⟩
  iapply (seq (small_start (f := d.bcT) (T := d.bcT) _ _ _ (pos2 (by decide) (by decide)) rfl)) $$ Hbc
  iintro %_ Hbc
  iapply (seq (waitQs_t d)) $$ [HQ Ho]
  · isplitl [HQ] <;> iassumption
  iintro %_ ⟨HQ, Ho⟩
  iapply (seq (small_wait _ _)) $$ [Hz Ho]
  · isplitl [Hz] <;> iassumption
  iintro %_ ⟨Hz, Ho⟩
  iapply (seq (small_wait _ _)) $$ [Hxo Ho]
  · isplitl [Hxo] <;> iassumption
  iintro %_ ⟨Hxo, Ho⟩
  iapply (seq (waitY_t d 18 0)) $$ [Y0 Hy Ho]
  · isplitl [Y0]; · iexact Y0
    isplitl [Hy]; · iexact Hy
    iexact Ho
  iintro %_ ⟨Y0, Hy, Ho⟩
  iapply (seq (waitY_t d 19 1)) $$ [Y1 Hy Ho]
  · isplitl [Y1]; · iexact Y1
    isplitl [Hy]; · iexact Hy
    iexact Ho
  iintro %_ ⟨Y1, Hy, Ho⟩
  iapply (seq (waitY0_t d 0)) $$ [T0 Ho]
  · isplitl [T0] <;> iassumption
  iintro %_ ⟨T0, Hy0, Ho⟩
  iapply (seq (waitY0_t d 1)) $$ [T1 Ho]
  · isplitl [T1] <;> iassumption
  iintro %_ ⟨T1, Hy1, Ho⟩
  iapply done
  ihave Hy := (Yd_join d (a := 0) (b := 256) (e := 10496) (by omega) (by omega)) $$ [Hy0 Hy]
  · isplitl [Hy0]; · iexact Hy0
    iexact Hy
  ihave Hy := (Yd_join d (a := 0) (b := 10496) (e := 10752) (by omega) (by omega)) $$ [Hy1 Hy]
  · isplitl [Hy]; · iexact Hy
    iexact Hy1
  isplitr; · ipureintro; rfl
  isplitl [Hbc]; · iexact Hbc
  unfold Gone
  isplitr [Ho]
  · isplitl [HQ]; · iexact HQ
    isplitl [Hz]; · iexact Hz
    isplitl [Hxo]; · iexact Hxo
    isplitl [Y0 Y1]
    · isplitl [Y0] <;> iassumption
    isplitl [T0]; · iexact T0
    isplitl [T1]; · iexact T1
    iexact Hy
  iexact Ho

theorem drained_of {s : Mxu F} (h : Ms s none (fun _ _ _ => none)) : s.Drained := by
  obtain ⟨G, h⟩ := h
  have e : (Rs none : (q r : Fin 2) → Option (Tile F)) = fun _ _ => none := by funext q r; rfl
  rw [e] at h
  exact h.drained
theorem exit_t {s : Mxu F} (h : s.Drained) {Q : PUnit → sProp 𝕄} : Q ⟨⟩ ⊢ WP (F := F) c (Mxu.exit s) Q := by
  unfold Mxu.exit
  exact (le_wp_ret _ _ _ _ Q).trans (wp_assume (defs := defs₀ (F := F)) (Q := Q) (k := fun _ => .ret ⟨⟩) Variants.none (c : Thread nD τ) none Set.univ h)

/-- What the body ends with. -/
def Out (c : Dev nD) : sProp 𝕄 :=
  iprop((Left c xsH (smSm 0) (t2 0) d.xs ∗ Left c sH (smSm 1) fullShare d.s ∗ Left c wsH (smSm 2) fullShare d.ws ∗ Left c biasH (smSm 3) fullShare d.b)
    ∗ (SB d c ∗ Scale d c ∗ Bias d c ∗ En d c) ∗ (fam (X2 d c) 0 16 ∗ HR d c ∗ fam (Q2 d c) 0 16) ∗ (cZ d 2 c ∗ cXo d 2 c ∗ cBc d 2 c)
    ∗ (W0 d c 0 ∗ W0 d c 1 ∗ W0 d c 2) ∗ (Y0 d c 0 ∗ Y0 d c 1) ∗ (T0 d c 0 ∗ T0 d c 1 ∗ T0 d c 2) ∗ Yd d c 0 11008 ∗ Ow c)

theorem lasts_t (s : Mxu F) : iprop(LA d c s ∗ Kp d c) ⊢ WP c ((lastB s).bind lastC) (fun _ => Out d c) := by
  rw [lastB_eq]
  unfold LA Kp
  iintro ⟨⟨%hs, ⟨Hv, Hr, W0, W1⟩, Hy, He, Hf, Ho⟩, Hl, Hsb, HX, HR, HQ, Hz, Hxo, Hbo, T0, T1, T2, Hyr⟩
  have e1 : ((lastB1 s).bind lastB2).bind lastC = (lastB1 s).bind fun s => (lastB2 s).bind lastC := bindA ..
  rw [e1]
  iapply (seq (lastB1_t d s)) $$ [Hv He Hf T1 T2 Hyr]
  · isplitr; · ipureintro; exact hs
    isplitl [Hv]; · iexact Hv
    isplitl [He]; · iexact He
    isplitl [Hf]; · iexact Hf
    isplitl [T1]; · iexact T1
    isplitl [T2] <;> iassumption
  iintro %s1 ⟨%hs1, Hv, He, Hf, T1, T2⟩
  unfold Fb
  icases Hf with ⟨Hsc, Hb, Hbc⟩
  iapply (seq (lastB2_t d s1)) $$ [Hbc Hbo HQ Hz Hxo Hy T0 T1 Ho]
  · isplitl [Hbc Hbo]
    · iapply (bc_ready d)
      isplitl [Hbc] <;> iassumption
    isplitl [HQ]; · iexact HQ
    isplitl [Hz]; · iexact Hz
    isplitl [Hxo]; · iexact Hxo
    isplitl [Hy]; · iexact Hy
    isplitl [T0]; · iexact T0
    isplitl [T1] <;> iassumption
  iintro %s2 ⟨%hs2, Hbc, Hg, Ho⟩
  subst hs2
  unfold lastC Gone
  icases Hg with ⟨HQ, Hz, Hxo, HY, T0, T1, Hyd⟩
  iapply (seq (waitY0_t d 2)) $$ [T2 Ho]
  · isplitl [T2] <;> iassumption
  iintro %_ ⟨T2, Hy2, Ho⟩
  iapply (seq (small_wait _ _)) $$ [Hbc Ho]
  · isplitl [Hbc] <;> iassumption
  iintro %_ ⟨Hbc, Ho⟩
  iapply (exit_t (drained_of hs1))
  ihave Hyd := (Yd_join d (a := 0) (b := 10752) (e := 11008) (by omega) (by omega)) $$ [Hyd Hy2]
  · isplitl [Hyd]; · iexact Hyd
    iexact Hy2
  ihave W2 := (tail_back d) $$ [Hv Hr]
  · unfold Wl
    isplitl [Hv]; · iexact Hv
    iexact Hr
  unfold Out
  isplitl [Hl]; · iexact Hl
  isplitl [Hsb Hsc Hb He]
  · isplitl [Hsb]; · iexact Hsb
    isplitl [Hsc]; · iexact Hsc
    isplitl [Hb] <;> iassumption
  isplitl [HX HR HQ]
  · isplitl [HX]; · iexact HX
    isplitl [HR] <;> iassumption
  isplitl [Hz Hxo Hbc]
  · isplitl [Hz]; · iexact Hz
    isplitl [Hxo] <;> iassumption
  isplitl [W0 W1 W2]
  · isplitl [W0]; · iexact W0
    isplitl [W1] <;> iassumption
  isplitl [HY]; · iexact HY
  isplitl [T0 T1 T2]
  · isplitl [T0]; · iexact T0
    isplitl [T1] <;> iassumption
  isplitl [Hyd]; · iexact Hyd
  iexact Ho

/-! ## The body -/

theorem loop_t (s : Mxu F) : TA d c 0 s ⊢ WP c (Scf.Loop.for k0_t1_loop k0_t1_ok (0#32, s) pTrip) (fun r => TA d c 20 r.2) := by
  have k := Scf.wp_for frame (wpE (defs₀ (F := F)) Variants.none (c : Thread nD τ) none) Set.univ _ _ _ k0_t1_ok (0#32, s) pTrip (fun k r => TA d c k r.2) (fun t a => by
    obtain ⟨a, s⟩ := a
    rw [trip_eq]
    have k := trip_t (c := c) d (t.cast rfl) s
    iintro H
    iapply (seq k) $$ [H]
    · iexact H
    iintro %s' H
    iapply done
    iexact H) (Q := fun r => TA d c 20 r.2)
  iintro H
  iapply k
  isplitl [H]; · iexact H
  iintro %a H
  iexact H

theorem body_t : Init d c ⊢ WP c pBody (fun _ => Out d c) := by
  rw [body_eq]
  iintro H
  iapply (seq (head_t d)) $$ H
  iintro %s ⟨H, Hk⟩
  have e1 : (((Scf.Loop.for k0_t1_loop k0_t1_ok (0#32, s) (pTrip (F := F))).bind fun r => lastA r.2).bind lastB).bind lastC
      = (Scf.Loop.for k0_t1_loop k0_t1_ok (0#32, s) pTrip).bind fun r => (lastA r.2).bind fun s => (lastB s).bind lastC := by
    rw [bindA, bindA]
  rw [e1]
  iapply (seq (loop_t d s)) $$ H
  iintro %r H
  iapply (seq (lastA_t d r.2)) $$ H
  iintro %s' H
  iapply (lasts_t d s')
  isplitl [H] <;> iassumption

end OsPlus
end
-- ==== Proof.Parts.lean ====
module

public import proofs.«01_k».proof.Proof.Last

/-! Whole buffers cut into the parts the body takes, and put together again. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

variable {c : Dev nD} (d : Data F)

/-! ## Cutting and gluing -/

/-- A family of sets that cuts `S` up. -/
def Cuts {α : Type} [DecidableEq α] {n : ℕ} (S : Finset α) (K : Fin n → Finset α) : Prop :=
  (∀ k k', k ≠ k' → Disjoint (K k) (K k')) ∧ S = Finset.univ.biUnion K

theorem cuts_of {α : Type} [DecidableEq α] {n : ℕ} {S : Finset α} {K : Fin n → Finset α} (p : Fin n → α → Prop) (h : ∀ k j, j ∈ K k ↔ p k j)
    (h1 : ∀ k k' j, p k j → p k' j → k = k') (h2 : ∀ j, j ∈ S ↔ ∃ k, p k j) : Cuts S K :=
  ⟨fun k k' hn => Finset.disjoint_left.2 fun j hj hj' => hn (h1 k k' j ((h k j).1 hj) ((h k' j).1 hj')), by
    ext j
    rw [Finset.mem_biUnion]
    exact (h2 j).trans ⟨fun ⟨k, hk⟩ => ⟨k, Finset.mem_univ _, (h k j).2 hk⟩, fun ⟨k, _, hk⟩ => ⟨k, (h k j).1 hk⟩⟩⟩

theorem cut_eq {ℓ : Loc nD τ sig} {n : ℕ} {S : Finset (Idx ℓ)} {K : Fin n → Finset (Idx ℓ)} (h : Cuts S K) (f : Buf (Elt F) ℓ) :
    (ℓ ↦[S]{fullShare} f : sProp 𝕄) = bigSep Finset.univ fun k => ℓ ↦[K k]{fullShare} f := by
  rw [h.2]
  exact pointsTo_biUnion (Ix := Unit) (Name := ℕ) (U := Pipeline.UD sig nD τ) (Lvl := ℕ) (ℓ := ℓ) (q := fullShare) (f := f) Finset.univ K fun k _ k' _ hn => h.1 k k' hn

section Mem
variable {sp : Space} {s : Shape} {e : EltTy} {m : Memref sig .tc sp s e} {n : ℕ} {S : Finset (Idx (m.view.loc (c : Thread nD τ)))} {K : Fin n → Finset (Idx (m.view.loc (c : Thread nD τ)))}

theorem Ag.any {D : Idx (m.view.loc (c : Thread nD τ)) → Prop} {T T' : Buf (Elt F) (m.view.loc (c : Thread nD τ))} (h : ∀ i ∈ S, ¬ D i) :
    (m.view.loc (c : Thread nD τ) ↦[S]{fullShare} T') ⊢ (Ag c m S D T : sProp 𝕄) := by
  unfold Ag
  iintro H
  iexists T'
  isplitr; · ipureintro; exact fun i hi hd => (h i hi hd).elim
  iexact H

theorem cut {D : Fin n → Idx (m.view.loc (c : Thread nD τ)) → Prop} {T : Fin n → Buf (Elt F) (m.view.loc (c : Thread nD τ))} (h : Cuts S K) (hD : ∀ k i, ¬ D k i) :
    iprop(∃ f, m.view.loc (c : Thread nD τ) ↦[S]{fullShare} f) ⊢ (bigSep Finset.univ fun k => Ag c m (K k) (D k) (T k) : sProp 𝕄) := by
  have k (f : Buf (Elt F) (m.view.loc (c : Thread nD τ))) : (m.view.loc (c : Thread nD τ) ↦[S]{fullShare} f : sProp 𝕄) ⊢ bigSep Finset.univ fun k => Ag c m (K k) (D k) (T k) :=
    (Entails.of_eq (cut_eq h f)).trans (bigSep_mono fun k _ => Ag.any fun i _ => hD k i)
  iintro ⟨%f, H⟩
  iapply (k f) $$ H

theorem glue_ex (h : Cuts S K) (fs : Fin n → Buf (Elt F) (m.view.loc (c : Thread nD τ))) (f₀ : Buf (Elt F) (m.view.loc (c : Thread nD τ))) :
    (bigSep Finset.univ fun k => (m.view.loc (c : Thread nD τ) ↦[K k]{fullShare} fs k : sProp 𝕄)) ⊢ iprop(∃ f, m.view.loc (c : Thread nD τ) ↦[S]{fullShare} f) := by
  rw [h.2]
  iintro H
  ihave H := (pointsTo_biUnion_join (Ix := Unit) (Name := ℕ) (U := Pipeline.UD sig nD τ) (Lvl := ℕ) (q := fullShare) Finset.univ K fs f₀ fun k _ k' _ hn => h.1 k k' hn) $$ H
  icases H with ⟨%g, -, H⟩
  iexists g
  iexact H

theorem Ag.some {D : Idx (m.view.loc (c : Thread nD τ)) → Prop} {T : Buf (Elt F) (m.view.loc (c : Thread nD τ))} :
    (Ag c m S D T : sProp 𝕄) ⊢ iprop(∃ f, m.view.loc (c : Thread nD τ) ↦[S]{fullShare} f) := by
  unfold Ag
  iintro ⟨%g, -, H⟩
  iexists g
  iexact H
end Mem

theorem sep3 {Φ : Fin 3 → sProp 𝕄} : bigSep Finset.univ Φ = iprop(Φ 0 ∗ Φ 1 ∗ Φ 2) := by
  rw [bigSep_univ_eq_bigSepL [0, 1, 2] (by decide) (by decide)]; rfl
theorem sep2 {Φ : Fin 2 → sProp 𝕄} : bigSep Finset.univ Φ = iprop(Φ 0 ∗ Φ 1) := by
  rw [bigSep_univ_eq_bigSepL [0, 1] (by decide) (by decide)]; rfl
theorem sep4 {Φ : Fin 4 → sProp 𝕄} : bigSep Finset.univ Φ = iprop(Φ 0 ∗ Φ 1 ∗ Φ 2 ∗ Φ 3) := by
  rw [bigSep_univ_eq_bigSepL [0, 1, 2, 3] (by decide) (by decide)]; rfl

/-! ## The cuts -/

theorem cuts_X (K : Fin 16 → Finset S768x4096.Idx) (h : ∀ k j, j ∈ K k ↔ 256 * k.val ≤ (j 1).val ∧ (j 1).val < 256 * k.val + 256) : Cuts Finset.univ K := by
  refine cuts_of _ h (fun k k' j h h' => Fin.ext (by omega)) fun j => ⟨fun _ => ?_, fun _ => Finset.mem_univ _⟩
  have hj : (j 1).val < 4096 := (j 1).isLt
  exact ⟨⟨(j 1).val / 256, by omega⟩, by constructor <;> dsimp only <;> omega⟩

theorem box_X {k : Fin 16} {j : S768x4096.Idx} :
    (∀ a, (![0, 256 * k.val] : Fin 2 → ℕ) a ≤ (j a).val ∧ (j a).val < (![0, 256 * k.val] : Fin 2 → ℕ) a + (![768, 256] : Fin 2 → ℕ) a)
      ↔ 256 * k.val ≤ (j 1).val ∧ (j 1).val < 256 * k.val + 256 := by
  have h0 : (j 0).val < 768 := (j 0).isLt
  refine (all2 (x := fun a => (j a).val)).trans ⟨fun h => h.2, fun h => ⟨⟨Nat.zero_le _, by show (j 0).val < 0 + 768; omega⟩, h⟩⟩

theorem cuts_xv : Cuts (Finset.univ : Finset S768x4096.Idx) fun k : Fin 16 => (blkX xv k).view.set := cuts_X _ fun k j => mem_box.trans box_X
theorem cuts_qv : Cuts (Finset.univ : Finset S768x4096.Idx) fun k : Fin 16 => (blkX qv k).view.set := cuts_X _ fun k j => mem_box.trans box_X
theorem cuts_qH : Cuts (Finset.univ : Finset S768x4096.Idx) fun k : Fin 16 => (blkX qH k).view.set := cuts_X _ fun k j => mem_box.trans box_X

theorem cuts_slots : Cuts (Finset.univ : Finset S3x4096x512.Idx) fun i : Fin 3 => (slotV i).view.set :=
  cuts_of _ (fun _ _ => mem_slot) (fun _ _ _ h h' => Fin.ext (h.symm.trans h')) fun j => ⟨fun _ => ⟨j 0, rfl⟩, fun _ => Finset.mem_univ _⟩
theorem cuts_ys : Cuts (Finset.univ : Finset S2x768x512.Idx) fun i : Fin 2 => (ySlot i).view.set :=
  cuts_of _ (fun _ _ => mem_ySlot) (fun _ _ _ h h' => Fin.ext (h.symm.trans h')) fun j => ⟨fun _ => ⟨j 0, rfl⟩, fun _ => Finset.mem_univ _⟩
theorem cuts_y0s : Cuts (Finset.univ : Finset S3x768x256.Idx) fun i : Fin 3 => (y0Slot i).view.set :=
  cuts_of _ (fun _ _ => mem_y0Slot) (fun _ _ _ h h' => Fin.ext (h.symm.trans h')) fun j => ⟨fun _ => ⟨j 0, rfl⟩, fun _ => Finset.mem_univ _⟩
theorem cuts_head : Cuts (slotV 2).view.set fun k : Fin 16 => (headV k).view.set :=
  ⟨fun k k' hn => headV_disjoint k (Finset.mem_univ _) k' (Finset.mem_univ _) hn, slot2_union⟩
theorem cols_all : cols 0 11008 = Finset.univ := by
  ext i; rw [mem_cols]; exact ⟨fun _ => Finset.mem_univ _, fun _ => ⟨Nat.zero_le _, (i 1).isLt⟩⟩

/-! ## What each part of the body takes -/

/-- A buffer, whole, at some contents. -/
abbrev Any (c : Dev nD) {sp : Space} {s : Shape} {e : EltTy} (m : Memref sig .tc sp s e) : sProp 𝕄 :=
  iprop(∃ f, m.view.loc (c : Thread nD τ) ↦[Finset.univ]{fullShare} f)
/-- A buffer, whole, at contents `f` and share `q`. -/
abbrev Is (c : Dev nD) {sp : Space} {s : Shape} {e : EltTy} (m : Memref sig .tc sp s e) (q : PosShare TreeShare) (f : Buf (Elt F) (m.view.loc (c : Thread nD τ))) : sProp 𝕄 :=
  iprop(m.view.loc (c : Thread nD τ) ↦[Finset.univ]{q} f)
/-- A semaphore at rest. -/
abbrev Rest (c : Dev nD) (i : DmaSem sig) : sProp 𝕄 := semVal ((c : Thread nD τ), .dma i) 0
abbrev Rests (c : Dev nD) {n : ℕ} (f : Fin n → DmaSem sig) : sProp 𝕄 := bigSep Finset.univ fun i => Rest c (f i)

theorem inX : iprop(Any c xv ∗ Is c xH fullShare d.x ∗ Rests c xSm) ⊢ iprop(fam (X0 d c) 0 16 ∗ Is c xH (Transfers.shareDrop fullShare 16) d.x) := by
  iintro ⟨Hv, Hx, Hs⟩
  ihave Hv := (cut (c := c) (m := xv) (D := fun _ _ => False) (T := fun _ => d.x) cuts_xv fun _ _ h => h) $$ Hv
  ihave Hx := (Transfers.pointsTo_toks_split (Ix := Unit) (Name := ℕ) (U := Pipeline.UD sig nD τ) (Lvl := ℕ) (S := Finset.univ) (ℓ := xH.view.loc (c : Thread nD τ)) (f := d.x) fullShare 16) $$ Hx
  icases Hx with ⟨Hr, Hx⟩
  isplitr [Hr]
  · rw [fam_all]
    unfold X0 C0
    rw [bigSep_sep', bigSep_sep']
    isplitl [Hx]; · iexact Hx
    isplitl [Hv]; · iexact Hv
    iexact Hs
  iexact Hr

theorem outX : iprop(fam (X2 d c) 0 16 ∗ Is c xH (Transfers.shareDrop fullShare 16) d.x) ⊢ iprop(Any c xv ∗ Is c xH fullShare d.x ∗ Rests c xSm) := by
  rw [fam_all]
  unfold X2 C2
  rw [bigSep_sep', bigSep_sep']
  iintro ⟨⟨Hx, Hv, Hs⟩, Hr⟩
  isplitl [Hv]
  · iapply (glue_ex (c := c) (m := xv) cuts_xv (fun _ => d.x) d.x) $$ Hv
  isplitr [Hs]
  · iapply (Transfers.pointsTo_toks_join (Ix := Unit) (Name := ℕ) (U := Pipeline.UD sig nD τ) (Lvl := ℕ) (S := Finset.univ) (ℓ := xH.view.loc (c : Thread nD τ)) (f := d.x) fullShare 16)
    isplitl [Hr]; · iexact Hr
    iexact Hx
  iexact Hs

theorem inQ : iprop(Any c qv ∗ Any c qH ∗ Rests c qSm) ⊢ fam (Q0 d c) 0 16 := by
  iintro ⟨Hv, Hx, Hs⟩
  ihave Hv := (cut (c := c) (m := qv) (D := fun _ (i : S768x4096.Idx) => (i 0).val < 0) (T := fun _ => d.qT) cuts_qv fun _ _ h => Nat.not_lt_zero _ h) $$ Hv
  ihave Hx := (cut (c := c) (m := qH) (D := fun _ _ => False) (T := fun _ => d.qT) cuts_qH fun _ _ h => h) $$ Hx
  rw [fam_all]
  unfold Q0 QB
  rw [bigSep_sep', bigSep_sep']
  isplitl [Hv]; · iexact Hv
  isplitl [Hx]; · iexact Hx
  iexact Hs

theorem outQ : fam (Q2 d c) 0 16 ⊢ iprop(Any c qv ∗ Is c qH fullShare d.qT ∗ Rests c qSm) := by
  rw [fam_all]
  unfold Q2
  rw [bigSep_sep', bigSep_sep']
  iintro ⟨Hv, Hx, Hs⟩
  isplitl [Hv]
  · iapply (glue_ex (c := c) (m := qv) cuts_qv (fun _ => d.qT) d.qT) $$ Hv
  isplitr [Hs]
  · iapply (Entails.of_eq (cut_eq (ℓ := qH.view.loc (c : Thread nD τ)) cuts_qH d.qT).symm) $$ Hx
  iexact Hs

/-- The shares of the weights nothing takes. -/
abbrev wRest : PosShare TreeShare := Transfers.shareDrop (Transfers.shareDrop fullShare 16) 3

theorem inW : iprop(Any c wv ∗ Is c wH fullShare d.w ∗ Rests c whSm ∗ Rests c wSm)
    ⊢ iprop(fam (H0 d c) 0 16 ∗ W0 d c 0 ∗ W0 d c 1 ∗ (Is c wH (wTok 2) d.w ∗ Rest c (wSm 2)) ∗ Is c wH wRest d.w) := by
  iintro ⟨Hv, Hx, Hh, Hs⟩
  ihave Hv := (cut (c := c) (m := wv) (D := fun _ _ => False) (T := fun _ => d.wT 0) cuts_slots fun _ _ h => h) $$ Hv
  ihave Hx := (Transfers.pointsTo_toks_split (Ix := Unit) (Name := ℕ) (U := Pipeline.UD sig nD τ) (Lvl := ℕ) (S := Finset.univ) (ℓ := wH.view.loc (c : Thread nD τ)) (f := d.w) fullShare 16) $$ Hx
  icases Hx with ⟨Hr, Hx⟩
  ihave Hr := (Transfers.pointsTo_toks_split (Ix := Unit) (Name := ℕ) (U := Pipeline.UD sig nD τ) (Lvl := ℕ) (S := Finset.univ) (ℓ := wH.view.loc (c : Thread nD τ)) (f := d.w) (Transfers.shareDrop fullShare 16) 3) $$ Hr
  icases Hr with ⟨Hr, Ht⟩
  ihave Hv := (Entails.of_eq (sep3 (F := F))) $$ Hv
  ihave Ht := (Entails.of_eq (sep3 (F := F))) $$ Ht
  ihave Hs := (Entails.of_eq (sep3 (F := F))) $$ Hs
  icases Hv with ⟨V0, V1, V2⟩
  icases Ht with ⟨T0, T1, T2⟩
  icases Hs with ⟨S0, S1, S2⟩
  ihave V2 := (Ag.some (c := c) (m := wv) (S := (slotV 2).view.set)) $$ V2
  ihave V2 := (cut (c := c) (m := wv) (D := fun _ _ => False) (T := fun _ => d.wT 0) cuts_head fun _ _ h => h) $$ V2
  isplitl [V2 Hx Hh]
  · rw [fam_all]
    unfold H0 C0
    rw [bigSep_sep', bigSep_sep']
    isplitl [Hx]; · iexact Hx
    isplitl [V2]; · iexact V2
    iexact Hh
  unfold W0
  isplitl [V0 T0 S0]
  · isplitl [T0]; · iexact T0
    isplitl [V0]; · iexact V0
    iexact S0
  isplitl [V1 T1 S1]
  · isplitl [T1]; · iexact T1
    isplitl [V1]; · iexact V1
    iexact S1
  isplitl [T2 S2]
  · isplitl [T2]; · iexact T2
    iexact S2
  iexact Hr

theorem outSlots : iprop(Ag c wv (slotV 0).view.set (fun _ => False) (d.wT 0) ∗ Ag c wv (slotV 1).view.set (fun _ => False) (d.wT 0) ∗ Ag c wv (slotV 2).view.set (fun _ => False) (d.wT 0))
    ⊢ Any (F := F) c wv := by
  unfold Ag
  iintro ⟨⟨%f, -, V0⟩, ⟨%g, -, V1⟩, ⟨%h, -, V2⟩⟩
  iapply (glue_ex (c := c) (m := wv) cuts_slots (![f, g, h] : Fin 3 → Buf (Elt F) (wv.view.loc (c : Thread nD τ))) f)
  rw [sep3]
  isplitl [V0]; · iexact V0
  isplitl [V1]; · iexact V1
  iexact V2

theorem outW : iprop(HR d c ∗ (W0 d c 0 ∗ W0 d c 1 ∗ W0 d c 2) ∗ Is c wH wRest d.w)
    ⊢ iprop(Any c wv ∗ Is c wH fullShare d.w ∗ Rests c whSm ∗ Rests c wSm) := by
  unfold HR W0
  rw [bigSep_sep']
  iintro ⟨⟨Hx, Hh⟩, ⟨⟨T0, V0, S0⟩, ⟨T1, V1, S1⟩, ⟨T2, V2, S2⟩⟩, Hr⟩
  isplitl [V0 V1 V2]
  · iapply (outSlots d)
    isplitl [V0]; · iexact V0
    isplitl [V1] <;> iassumption
  isplitl [Hx T0 T1 T2 Hr]
  · iapply (Transfers.pointsTo_toks_join (Ix := Unit) (Name := ℕ) (U := Pipeline.UD sig nD τ) (Lvl := ℕ) (S := Finset.univ) (ℓ := wH.view.loc (c : Thread nD τ)) (f := d.w) fullShare 16)
    isplitr [Hx]
    · iapply (Transfers.pointsTo_toks_join (Ix := Unit) (Name := ℕ) (U := Pipeline.UD sig nD τ) (Lvl := ℕ) (S := Finset.univ) (ℓ := wH.view.loc (c : Thread nD τ)) (f := d.w) (Transfers.shareDrop fullShare 16) 3)
      isplitl [Hr]; · iexact Hr
      rw [sep3]
      isplitl [T0]; · iexact T0
      isplitl [T1]; · iexact T1
      iexact T2
    iexact Hx
  isplitl [Hh]; · iexact Hh
  unfold Rests
  rw [sep3]
  isplitl [S0]; · iexact S0
  isplitl [S1]; · iexact S1
  iexact S2

theorem inY : iprop(Any c yv ∗ Rests c ySm) ⊢ iprop(Y0 d c 0 ∗ Y0 d c 1) := by
  iintro ⟨Hv, Hs⟩
  ihave Hv := (cut (c := c) (m := yv) (D := fun _ _ => False) (T := fun _ => d.ysT 0) cuts_ys fun _ _ h => h) $$ Hv
  ihave Hv := (Entails.of_eq (sep2 (F := F))) $$ Hv
  ihave Hs := (Entails.of_eq (sep2 (F := F))) $$ Hs
  icases Hv with ⟨V0, V1⟩
  icases Hs with ⟨S0, S1⟩
  unfold Y0
  isplitl [V0 S0]
  · isplitl [V0]; · iexact V0
    iexact S0
  isplitl [V1]; · iexact V1
  iexact S1

theorem outY : iprop(Y0 d c 0 ∗ Y0 d c 1) ⊢ iprop(Any c yv ∗ Rests c ySm) := by
  unfold Y0 Ag
  iintro ⟨⟨⟨%f, -, V0⟩, S0⟩, ⟨⟨%g, -, V1⟩, S1⟩⟩
  isplitl [V0 V1]
  · iapply (glue_ex (c := c) (m := yv) cuts_ys (![f, g] : Fin 2 → Buf (Elt F) (yv.view.loc (c : Thread nD τ))) f)
    rw [sep2]
    isplitl [V0]; · iexact V0
    iexact V1
  unfold Rests
  rw [sep2]
  isplitl [S0]; · iexact S0
  iexact S1

theorem inT : iprop(Any c y0v ∗ Rests c y0Sm) ⊢ iprop(T0 d c 0 ∗ T0 d c 1 ∗ T0 d c 2) := by
  iintro ⟨Hv, Hs⟩
  ihave Hv := (cut (c := c) (m := y0v) (D := fun _ _ => False) (T := fun i => d.ytT (tB i)) cuts_y0s fun _ _ h => h) $$ Hv
  ihave Hv := (Entails.of_eq (sep3 (F := F))) $$ Hv
  ihave Hs := (Entails.of_eq (sep3 (F := F))) $$ Hs
  icases Hv with ⟨V0, V1, V2⟩
  icases Hs with ⟨S0, S1, S2⟩
  unfold T0
  isplitl [V0 S0]
  · isplitl [V0]; · iexact V0
    iexact S0
  isplitl [V1 S1]
  · isplitl [V1]; · iexact V1
    iexact S1
  isplitl [V2]; · iexact V2
  iexact S2

theorem outT : iprop(T0 d c 0 ∗ T0 d c 1 ∗ T0 d c 2) ⊢ iprop(Any c y0v ∗ Rests c y0Sm) := by
  unfold T0 Ag
  iintro ⟨⟨⟨%f, -, V0⟩, S0⟩, ⟨⟨%g, -, V1⟩, S1⟩, ⟨⟨%h, -, V2⟩, S2⟩⟩
  isplitl [V0 V1 V2]
  · iapply (glue_ex (c := c) (m := y0v) cuts_y0s (![f, g, h] : Fin 3 → Buf (Elt F) (y0v.view.loc (c : Thread nD τ))) f)
    rw [sep3]
    isplitl [V0]; · iexact V0
    isplitl [V1]; · iexact V1
    iexact V2
  unfold Rests
  rw [sep3]
  isplitl [S0]; · iexact S0
  isplitl [S1]; · iexact S1
  iexact S2

end OsPlus
end
-- ==== Proof.Whole.lean ====
module

public import proofs.«01_k».proof.Proof.Parts

/-! The body from whole buffers to whole buffers. -/

@[expose] public section

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (Pipeline.UD sig nD τ) ℕ

variable {c : Dev nD} (d : Data F)

/-- The scratch buffers. -/
def Scr (c : Dev nD) : sProp 𝕄 :=
  iprop(Any c xv ∗ Any c qbv ∗ Any c qv ∗ Any c wv ∗ Any c wsv ∗ Any c sv ∗ Any c biasv ∗ Any c zv ∗ Any c uv ∗ Any c bcv ∗ Any c yv ∗ Any c y0v ∗ Any c xss)
/-- The semaphores. -/
def Sems (c : Dev nD) : sProp 𝕄 :=
  iprop(Rests c xSm ∗ Rests c whSm ∗ Rests c wSm ∗ Rests c smSm ∗ Rests c qSm ∗ Rests c ySm ∗ Rests c y0Sm ∗ Rests c oSm)
/-- The operands. -/
def Ops (c : Dev nD) : sProp 𝕄 :=
  iprop(Is c xH fullShare d.x ∗ Is c sH fullShare d.s ∗ Is c xsH fullShare d.xs ∗ Is c wH fullShare d.w ∗ Is c wsH fullShare d.ws ∗ Is c biasH fullShare d.b)
/-- The results before and after. -/
def Res0 (c : Dev nD) : sProp 𝕄 := iprop(Any c yH ∗ Any c bcH ∗ Any c zH ∗ Any c qH ∗ Any c xsoH)
def Res1 (c : Dev nD) : sProp 𝕄 :=
  iprop(Is c yH fullShare d.yT ∗ Is c bcH fullShare d.bcT ∗ Is c zH fullShare d.zT ∗ Is c qH fullShare d.qT ∗ Is c xsoH fullShare d.xs)

theorem any_ag {b : Ref sig .tc} {T : Buf (Elt F) ((Memref.whole b).view.loc (c : Thread nD τ))} :
    Any c (Memref.whole b) ⊢ (Ag c (Memref.whole b) (Memref.whole b).view.set (fun _ => False) T : sProp 𝕄) := by
  rw [ag_whole]
  iintro ⟨%f, H⟩
  iapply (Ag.any (m := Memref.whole b) (S := Finset.univ) fun _ _ h => h) $$ H

/-- What the body does not take. -/
def Spare (c : Dev nD) : sProp 𝕄 :=
  iprop(Is c xH (Transfers.shareDrop fullShare 16) d.x ∗ Is c wH wRest d.w ∗ Is c xsH (Transfers.shareDrop fullShare 2) d.xs)

theorem any_view {b : Ref sig .tc} {T : Buf (Elt F) ((Memref.whole b).view.loc (c : Thread nD τ))} :
    ((Memref.whole b).view.loc (c : Thread nD τ) ↦[(Memref.whole b).view.set]{fullShare} T : sProp 𝕄) ⊢ Is c (Memref.whole b) fullShare T := by
  rw [pt_whole]

theorem in_xs : iprop(Is c xsH (t2 0) d.xs ∗ Any c xss ∗ Rest c (smSm 0)) ⊢ cXs d 0 c := by
  unfold cXs Cp C0
  dsimp only
  iintro ⟨H, Hd, Hs⟩
  isplitl [H]; · iexact H
  isplitl [Hd]; · iapply any_ag $$ Hd
  iexact Hs
theorem in_s : iprop(Is c sH fullShare d.s ∗ Any c sv ∗ Rest c (smSm 1)) ⊢ cS d 0 c := by
  unfold cS Cp C0
  dsimp only
  iintro ⟨H, Hd, Hs⟩
  isplitl [H]; · iexact H
  isplitl [Hd]; · iapply any_ag $$ Hd
  iexact Hs
theorem in_ws : iprop(Is c wsH fullShare d.ws ∗ Any c wsv ∗ Rest c (smSm 2)) ⊢ cWs d 0 c := by
  unfold cWs Cp C0
  dsimp only
  iintro ⟨H, Hd, Hs⟩
  isplitl [H]; · iexact H
  isplitl [Hd]; · iapply any_ag $$ Hd
  iexact Hs
theorem in_b : iprop(Is c biasH fullShare d.b ∗ Any c biasv ∗ Rest c (smSm 3)) ⊢ cB d 0 c := by
  unfold cB Cp C0
  dsimp only
  iintro ⟨H, Hd, Hs⟩
  isplitl [H]; · iexact H
  isplitl [Hd]; · iapply any_ag $$ Hd
  iexact Hs
theorem in_xo : iprop(Is c xsH (t2 1) d.xs ∗ Any c xsoH ∗ Rest c (oSm 0)) ⊢ cXo d 0 c := by
  unfold cXo Cp C0
  dsimp only
  iintro ⟨H, Hd, Hs⟩
  isplitl [H]; · iexact H
  isplitl [Hd]; · iapply any_ag $$ Hd
  iexact Hs
theorem out_xo : cXo d 2 c ⊢ iprop(Is c xsH (t2 1) d.xs ∗ Is c xsoH fullShare d.xs ∗ Rest c (oSm 0)) := by
  unfold cXo Cp C2
  dsimp only
  iintro ⟨H, Hd, Hs⟩
  isplitl [H]; · iexact H
  isplitl [Hd]; · iapply any_view $$ Hd
  iexact Hs
theorem out_z : cZ d 2 c ⊢ iprop(Is c zv fullShare d.zT ∗ Is c zH fullShare d.zT ∗ Rest c (oSm 1)) := by
  unfold cZ Cp C2
  dsimp only
  iintro ⟨H, Hd, Hs⟩
  isplitl [H]; · iexact H
  isplitl [Hd]; · iapply any_view $$ Hd
  iexact Hs
theorem out_bc : cBc d 2 c ⊢ iprop(Is c bcv fullShare d.bcT ∗ Is c bcH fullShare d.bcT ∗ Rest c (oSm 2)) := by
  unfold cBc Cp C2
  dsimp only
  iintro ⟨H, Hd, Hs⟩
  isplitl [H]; · iexact H
  isplitl [Hd]; · iapply any_view $$ Hd
  iexact Hs

/-- What of the head's start no copy in takes. -/
theorem init0_t : iprop(Any c qbv ∗ Any c zv ∗ Any c uv ∗ Any c bcv ∗ Any c yH) ⊢ iprop((Qb d c (QbP 0 0) ∗ ZB d c 0 ∗ UB d c 0) ∗ BcB d c 0 ∗ Yr d c 0 11008) := by
  unfold Qb ZB UB BcB Yr
  rw [cols_all]
  iintro ⟨⟨%f1, Hqb⟩, ⟨%f2, Hz⟩, ⟨%f3, Hu⟩, ⟨%f4, Hbc⟩, ⟨%f5, Hy⟩⟩
  isplitl [Hqb Hz Hu]
  · isplitl [Hqb]
    · iapply (Ag.any (c := c) (m := qbv) (S := Finset.univ) (D := QbP 0 0) (T := d.qbT) (fun (i : S768x4096.Idx) _ h => by unfold QbP at h; omega)) $$ Hqb
    isplitl [Hz]
    · iapply (Ag.any (c := c) (m := zv) (S := Finset.univ) (D := fun i : S1x4096.Idx => (i 1).val < 256 * 0) (T := d.zT) (fun (i : S1x4096.Idx) _ h => Nat.not_lt_zero _ h)) $$ Hz
    iapply (Ag.any (c := c) (m := uv) (S := Finset.univ) (D := fun i : S8x4096.Idx => (i 1).val < 256 * 0) (T := d.uT) (fun (i : S8x4096.Idx) _ h => Nat.not_lt_zero _ h)) $$ Hu
  isplitl [Hbc]
  · iapply (Ag.any (c := c) (m := bcv) (S := Finset.univ) (D := fun i : S1x11008.Idx => (i 1).val < 256 * 0) (T := d.bcT) (fun (i : S1x11008.Idx) _ h => Nat.not_lt_zero _ h)) $$ Hbc
  iapply (Ag.any (c := c) (m := yH) (S := Finset.univ) (D := fun _ => False) (T := d.yT) fun _ _ h => h) $$ Hy

set_option maxHeartbeats 1000000 in
theorem init_t : iprop(Scr c ∗ Sems c ∗ Ops d c ∗ Res0 c ∗ Ow c) ⊢ iprop(Init d c ∗ Spare d c) := by
  unfold Scr Sems Ops Res0 Spare
  iintro ⟨⟨Hx, Hqb, Hq, Hw, Hws, Hs, Hb, Hz, Hu, Hbc, Hy, Hy0, Hxs⟩, ⟨Sx, Sh, Sw, Ss, Sq, Sy, Sy0, So⟩, ⟨Ix, Is, Ixs, Iw, Iws, Ib⟩, ⟨Ry, Rbc, Rz, Rq, Rxs⟩, Ho⟩
  ihave HX := (inX d) $$ [Hx Ix Sx]
  · isplitl [Hx]; · iexact Hx
    isplitl [Ix] <;> iassumption
  icases HX with ⟨HX, Px⟩
  ihave HQ := (inQ d) $$ [Hq Rq Sq]
  · isplitl [Hq]; · iexact Hq
    isplitl [Rq] <;> iassumption
  ihave HW := (inW d) $$ [Hw Iw Sh Sw]
  · isplitl [Hw]; · iexact Hw
    isplitl [Iw]; · iexact Iw
    isplitl [Sh] <;> iassumption
  icases HW with ⟨HH, W0, W1, W2, Pw⟩
  ihave HY := (inY d) $$ [Hy Sy]
  · isplitl [Hy] <;> iassumption
  ihave HT := (inT d) $$ [Hy0 Sy0]
  · isplitl [Hy0] <;> iassumption
  ihave Ixs := (Transfers.pointsTo_toks_split (Ix := Unit) (Name := ℕ) (U := Pipeline.UD sig nD τ) (Lvl := ℕ) (S := Finset.univ) (ℓ := xsH.view.loc (c : Thread nD τ)) (f := d.xs) fullShare 2) $$ Ixs
  icases Ixs with ⟨Pxs, Ixs⟩
  ihave Ixs := (Entails.of_eq (sep2 (F := F))) $$ Ixs
  icases Ixs with ⟨I0, I1⟩
  ihave Ss := (Entails.of_eq (sep4 (F := F))) $$ Ss
  icases Ss with ⟨S0, S1, S2, S3⟩
  ihave So := (Entails.of_eq (sep3 (F := F))) $$ So
  icases So with ⟨O0, O1, O2⟩
  ihave HI := (init0_t d) $$ [Hqb Hz Hu Hbc Ry]
  · isplitl [Hqb]; · iexact Hqb
    isplitl [Hz]; · iexact Hz
    isplitl [Hu]; · iexact Hu
    isplitl [Hbc] <;> iassumption
  icases HI with ⟨HI, Hbc, Hy⟩
  isplitr [Px Pw Pxs]
  · unfold Init P0 In0
    isplitl [I0 Hxs S0 Is Hs S1 Iws Hws S2 Ib Hb S3 I1 Rxs O0 HX HH W0 W1 Ho]
    · isplitl [I0 Hxs S0]
      · iapply (in_xs d)
        isplitl [I0]; · iexact I0
        isplitl [Hxs] <;> iassumption
      isplitl [Is Hs S1]
      · iapply (in_s d)
        isplitl [Is]; · iexact Is
        isplitl [Hs] <;> iassumption
      isplitl [Iws Hws S2]
      · iapply (in_ws d)
        isplitl [Iws]; · iexact Iws
        isplitl [Hws] <;> iassumption
      isplitl [Ib Hb S3]
      · iapply (in_b d)
        isplitl [Ib]; · iexact Ib
        isplitl [Hb] <;> iassumption
      isplitl [I1 Rxs O0]
      · iapply (in_xo d)
        isplitl [I1]; · iexact I1
        isplitl [Rxs] <;> iassumption
      isplitl [HX]; · iexact HX
      isplitl [HH]; · iexact HH
      isplitl [W0]; · iexact W0
      isplitl [W1] <;> iassumption
    isplitl [HQ]; · iexact HQ
    isplitl [HI]; · iexact HI
    isplitl [Rz O1]
    · isplitl [Rz]
      · iapply any_ag $$ Rz
      iexact O1
    isplitl [Rbc O2]
    · isplitl [Rbc]
      · iapply any_ag $$ Rbc
      iexact O2
    isplitl [Hbc]; · iexact Hbc
    isplitl [W2]; · iexact W2
    isplitl [HT]; · iexact HT
    isplitl [HY]; · iexact HY
    iexact Hy
  isplitl [Px]; · iexact Px
  isplitl [Pw] <;> iassumption

set_option maxHeartbeats 1000000 in
theorem out_t : iprop(Out d c ∗ Spare d c) ⊢ iprop(Scr c ∗ Sems c ∗ Ops d c ∗ Res1 d c ∗ Ow c) := by
  unfold Out Spare Left
  iintro ⟨⟨⟨⟨I0, S0⟩, ⟨Is, S1⟩, ⟨Iws, S2⟩, ⟨Ib, S3⟩⟩, ⟨Hs, Hxs, Hb, He⟩, ⟨HX, HR, HQ⟩, ⟨Hz, Hxo, Hbc⟩, HW, HY, HT, Hy, Ho⟩, Px, Pw, Pxs⟩
  unfold En
  icases He with ⟨Hws, Hqb, Hu⟩
  ihave HX := (outX d) $$ [HX Px]
  · isplitl [HX] <;> iassumption
  icases HX with ⟨Hx, Ix, Sx⟩
  ihave HQ := (outQ d) $$ HQ
  icases HQ with ⟨Hq, Rq, Sq⟩
  ihave HW := (outW d) $$ [HR HW Pw]
  · isplitl [HR]; · iexact HR
    isplitl [HW] <;> iassumption
  icases HW with ⟨Hw, Iw, Sh, Sw⟩
  ihave HY := (outY d) $$ HY
  icases HY with ⟨Hyv, Sy⟩
  ihave HT := (outT d) $$ HT
  icases HT with ⟨Hy0, Sy0⟩
  ihave Hz := (out_z d) $$ Hz
  icases Hz with ⟨Hz, Rz, O1⟩
  ihave Hxo := (out_xo d) $$ Hxo
  icases Hxo with ⟨I1, Rxs, O0⟩
  ihave Hbc := (out_bc d) $$ Hbc
  icases Hbc with ⟨Hbc, Rbc, O2⟩
  unfold Scr Sems Ops Res1 SB Scale Bias Wsv Qb UB
  isplitl [Hx Hqb Hq Hw Hws Hs Hb Hz Hu Hbc Hyv Hy0 Hxs]
  · isplitl [Hx]; · iexact Hx
    isplitl [Hqb]; · iapply (Ag.some (c := c) (m := qbv)) $$ Hqb
    isplitl [Hq]; · iexact Hq
    isplitl [Hw]; · iexact Hw
    isplitl [Hws]; · iapply (Ag.some (c := c) (m := wsv)) $$ Hws
    isplitl [Hs]; · iapply (Ag.some (c := c) (m := sv)) $$ Hs
    isplitl [Hb]; · iapply (Ag.some (c := c) (m := biasv)) $$ Hb
    isplitl [Hz]; · iexists d.zT; iexact Hz
    isplitl [Hu]; · iapply (Ag.some (c := c) (m := uv)) $$ Hu
    isplitl [Hbc]; · iexists d.bcT; iexact Hbc
    isplitl [Hyv]; · iexact Hyv
    isplitl [Hy0]; · iexact Hy0
    iexists d.xs
    iexact Hxs
  isplitl [Sx Sh Sw S0 S1 S2 S3 Sq Sy Sy0 O0 O1 O2]
  · isplitl [Sx]; · iexact Sx
    isplitl [Sh]; · iexact Sh
    isplitl [Sw]; · iexact Sw
    isplitl [S0 S1 S2 S3]
    · iapply (Entails.of_eq (sep4 (F := F) (Φ := fun i => Rest c (smSm i))).symm)
      isplitl [S0]; · iexact S0
      isplitl [S1]; · iexact S1
      isplitl [S2] <;> iassumption
    isplitl [Sq]; · iexact Sq
    isplitl [Sy]; · iexact Sy
    isplitl [Sy0]; · iexact Sy0
    iapply (Entails.of_eq (sep3 (F := F) (Φ := fun i => Rest c (oSm i))).symm)
    isplitl [O0]; · iexact O0
    isplitl [O1] <;> iassumption
  isplitl [Ix Is I0 I1 Pxs Iw Iws Ib]
  · isplitl [Ix]; · iexact Ix
    isplitl [Is]; · iexact Is
    isplitl [I0 I1 Pxs]
    · iapply (Transfers.pointsTo_toks_join (Ix := Unit) (Name := ℕ) (U := Pipeline.UD sig nD τ) (Lvl := ℕ) (S := Finset.univ) (ℓ := xsH.view.loc (c : Thread nD τ)) (f := d.xs) fullShare 2)
      isplitl [Pxs]; · iexact Pxs
      rw [sep2]
      isplitl [I0]; · iexact I0
      iexact I1
    isplitl [Iw]; · iexact Iw
    isplitl [Iws] <;> iassumption
  isplitl [Hy Rbc Rz Rq Rxs]
  · isplitl [Hy]
    · unfold Yd
      rw [cols_all]
      iexact Hy
    isplitl [Rbc]; · iexact Rbc
    isplitl [Rz]; · iexact Rz
    isplitl [Rq] <;> iassumption
  iexact Ho

theorem whole_t : iprop(Scr c ∗ Sems c ∗ Ops d c ∗ Res0 c ∗ Ow c) ⊢ WP c pBody (fun _ => iprop(Scr c ∗ Sems c ∗ Ops d c ∗ Res1 d c ∗ Ow c)) := by
  iintro H
  ihave H := (init_t d) $$ H
  icases H with ⟨H, Hs⟩
  iapply (last (body_t d)) $$ H
  iintro %_ H
  iapply (out_t d)
  isplitl [H] <;> iassumption

end OsPlus
end
-- ==== Proof.Run.lean ====
module

public import proofs.«01_k».proof.Proof.Whole
public import proofs.«01_k».proof.Proof.Gen.Kernel.Frame
public import Idealize.ShloMosaic.Lib.Pipeline.FrameSuffixV

/-! The launch: the body between whole buffers, the run of `main`, and what it leaves in memory. -/

@[expose] public section

set_option maxRecDepth 16384

noncomputable section

namespace OsPlus

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The semaphores -/

abbrev osem : Fin 63 → SemLoc sig := fun j => .dma ⟨j.val, j.isLt⟩
theorem ownSemFacts : Pipeline.OwnSemFacts cfg0.spec osem :=
  ⟨by decide, fun i j h => Fin.ext (congrArg Fin.val (SemLoc.dma.inj h)), fun _ w => w.elim0⟩

theorem sep_add {a b : ℕ} {Φ : Fin (a + b) → sProp 𝕄} :
    bigSep Finset.univ Φ = iprop((bigSep Finset.univ fun i : Fin a => Φ (Fin.castAdd b i)) ∗ bigSep Finset.univ fun i : Fin b => Φ (Fin.natAdd a i)) := by
  have e : (Finset.univ : Finset (Fin (a + b))) = Finset.univ.map (Fin.castAddEmb b) ∪ Finset.univ.map (Fin.natAddEmb a) := by
    ext j
    rw [Finset.mem_union, Finset.mem_map, Finset.mem_map]
    refine ⟨fun _ => ?_, fun _ => Finset.mem_univ _⟩
    refine Fin.addCases (fun i => .inl ⟨i, Finset.mem_univ _, rfl⟩) (fun i => .inr ⟨i, Finset.mem_univ _, rfl⟩) j
  have dj : Disjoint (Finset.univ.map (Fin.castAddEmb b)) (Finset.univ.map (Fin.natAddEmb a : Fin b ↪ Fin (a + b))) := by
    rw [Finset.disjoint_left]
    intro j h h'
    obtain ⟨i, _, rfl⟩ := Finset.mem_map.1 h
    obtain ⟨i', _, h⟩ := Finset.mem_map.1 h'
    have := congrArg Fin.val h
    have h1 : a + i'.val = i.val := this
    omega
  rw [e, bigSep_union dj, bigSep_map, bigSep_map]
  rfl

theorem rests {n : ℕ} {c : Dev nD} {f g : Fin n → DmaSem sig} (h : ∀ i, f i = g i) : (Rests c f : sProp 𝕄) = Rests c g := by rw [funext h]

theorem own_eq (c : Dev nD) :
    (Pipeline.ownSems0 (Ix := Unit) (Name := ℕ) (U := Pipeline.UD sig nD τ) (Lvl := ℕ) (Val := Elt F) (τ := τ) osem c : sProp 𝕄) = Sems c := by
  have e : (Pipeline.ownSems0 (Ix := Unit) (Name := ℕ) (U := Pipeline.UD sig nD τ) (Lvl := ℕ) (Val := Elt F) (τ := τ) osem c : sProp 𝕄)
      = bigSep (Finset.univ : Finset (Fin (16 + (16 + (3 + (4 + (16 + (2 + (3 + 3))))))))) fun j => Rest c ⟨j.val, j.isLt⟩ := rfl
  rw [e, sep_add, sep_add, sep_add, sep_add, sep_add, sep_add, sep_add]
  unfold Sems
  rw [rests (F := F) (c := c) (f := xSm) (g := fun i => ⟨i.val, by have := i.isLt; show _ < 63; omega⟩) (by decide),
    rests (F := F) (c := c) (f := whSm) (g := fun i => ⟨16 + i.val, by have := i.isLt; show _ < 63; omega⟩) (by decide),
    rests (F := F) (c := c) (f := wSm) (g := fun i => ⟨16 + (16 + i.val), by have := i.isLt; show _ < 63; omega⟩) (by decide),
    rests (F := F) (c := c) (f := smSm) (g := fun i => ⟨16 + (16 + (3 + i.val)), by have := i.isLt; show _ < 63; omega⟩) (by decide),
    rests (F := F) (c := c) (f := qSm) (g := fun i => ⟨16 + (16 + (3 + (4 + i.val))), by have := i.isLt; show _ < 63; omega⟩) (by decide),
    rests (F := F) (c := c) (f := ySm) (g := fun i => ⟨16 + (16 + (3 + (4 + (16 + i.val)))), by have := i.isLt; show _ < 63; omega⟩) (by decide),
    rests (F := F) (c := c) (f := y0Sm) (g := fun i => ⟨16 + (16 + (3 + (4 + (16 + (2 + i.val))))), by have := i.isLt; show _ < 63; omega⟩) (by decide),
    rests (F := F) (c := c) (f := oSm) (g := fun i => ⟨16 + (16 + (3 + (4 + (16 + (2 + (3 + i.val)))))), by have := i.isLt; show _ < 63; omega⟩) (by decide)]
  rfl

/-! ## The operands and results -/

/-- The operands as the body finds them. -/
def data (c : Dev nD) : Data F := ⟨V m c main_v0, V m c main_v1, V m c main_arg2, V m c main_arg3, V m c main_arg4, V m c main_v2⟩
/-- The memory after the body. -/
def G (c : Dev nD) : (b : Ref sig .tc) → Buf (Elt F) ((c.tc : Thread nD τ).loc b) :=
  Function.update (Function.update (Function.update (Function.update (Function.update (V m c) main_v3_0 (data m c).yT) main_v3_1 (data m c).bcT) main_v3_2 (data m c).zT) main_v3_3 (data m c).qT) main_v3_4 (data m c).xs

theorem G0 (c : Dev nD) : G m c main_v3_0 = (data m c).yT := by
  unfold G
  rw [Function.update_of_ne (by decide), Function.update_of_ne (by decide), Function.update_of_ne (by decide), Function.update_of_ne (by decide), Function.update_self]
theorem G1 (c : Dev nD) : G m c main_v3_1 = (data m c).bcT := by
  unfold G
  rw [Function.update_of_ne (by decide), Function.update_of_ne (by decide), Function.update_of_ne (by decide), Function.update_self]
theorem G2 (c : Dev nD) : G m c main_v3_2 = (data m c).zT := by
  unfold G
  rw [Function.update_of_ne (by decide), Function.update_of_ne (by decide), Function.update_self]
theorem G3 (c : Dev nD) : G m c main_v3_3 = (data m c).qT := by
  unfold G
  rw [Function.update_of_ne (by decide), Function.update_self]
theorem G4 (c : Dev nD) : G m c main_v3_4 = (data m c).xs := by
  unfold G
  rw [Function.update_self]

def HB : Finset (Ref sig .tc) := {main_v0, main_v1, main_arg2, main_arg3, main_arg4, main_v2}
def RB : Finset (Ref sig .tc) := {main_v3_0, main_v3_1, main_v3_2, main_v3_3, main_v3_4}
theorem HB_sub : HB ⊆ Pipeline.restRefs sig cfg0.spec := by decide
theorem RB_sub : RB ⊆ Pipeline.restRefs sig cfg0.spec \ HB := by decide

theorem ops_eq (c : Dev nD) : (bigSep HB (fun b => ((c.tc : Thread nD τ).loc b) ↦{fullShare} V m c b) : sProp 𝕄) = Ops (data m c) c := by
  rw [BI.bigSep_eq_bigSepL_of_eq [main_v0, main_v1, main_arg2, main_arg3, main_arg4, main_v2] (by decide) (by decide)]; rfl
theorem res_eq (c : Dev nD) (g : (b : Ref sig .tc) → Buf (Elt F) ((c.tc : Thread nD τ).loc b)) : (bigSep RB (fun b => ((c.tc : Thread nD τ).loc b) ↦{fullShare} g b) : sProp 𝕄)
    = iprop(Is c yH fullShare (g main_v3_0) ∗ Is c bcH fullShare (g main_v3_1) ∗ Is c zH fullShare (g main_v3_2) ∗ Is c qH fullShare (g main_v3_3) ∗ Is c xsoH fullShare (g main_v3_4)) := by
  rw [BI.bigSep_eq_bigSepL_of_eq [main_v3_0, main_v3_1, main_v3_2, main_v3_3, main_v3_4] (by decide) (by decide)]; rfl
theorem scr_eq (c : Dev nD) : (Pipeline.scopedRest (Ix := Unit) (Name := ℕ) (U := Pipeline.UD sig nD τ) (Lvl := ℕ) (Val := Elt F) (cfg0.spec) c : sProp 𝕄) = Scr c := by
  rw [scopedRest0_eq]; rfl

abbrev Phi (c : Dev nD) (g : (c : Dev nD) → (b : Ref sig .tc) → Buf (Elt F) ((c.tc : Thread nD τ).loc b)) : sProp 𝕄 :=
  Pipeline.ΦDRV osem cfg0.spec HB RB (V m) g c

theorem in_t (c : Dev nD) : Phi m c (V m) ⊢ iprop(Scr c ∗ Sems c ∗ Ops (data m c) c ∗ Res0 c) := by
  unfold Phi Pipeline.ΦDRV Res0
  rw [scr_eq, own_eq, ops_eq, res_eq]
  iintro ⟨H1, H2, H3, H4, H5, H6, H7, H8⟩
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iexists _; iexact H8

theorem after_t (c : Dev nD) : iprop(Scr c ∗ Sems c ∗ Ops (data m c) c ∗ Res1 (data m c) c) ⊢ Phi m c (G m) := by
  unfold Phi Pipeline.ΦDRV Res1
  rw [scr_eq, own_eq, ops_eq, res_eq, G0, G1, G2, G3, G4]

/-! ## The body -/

def dats (_ : Fin 1) (c : Dev nD) : Dat τ (Elt F) Unit ℕ (Pipeline.UD sig nD τ) ℕ cfg0 c where
  A w := w.elim0
  after w _ := w.elim0
  Φ t := if t.val = 0 then Phi m c (V m) else Phi m c (G m)
  q _ := fullShare
  owed _ := 0

theorem Phi_first (c : Dev nD) (t : Fin cfg0.N) : (dats m 0 c).Φ t.castSucc = Phi m c (V m) := by
  have : t.val = 0 := by have := t.isLt; have h : cfg0.N = 1 := N_0; omega
  exact if_pos this
theorem Phi_last (c : Dev nD) (t : Fin cfg0.N) : (dats m 0 c).Φ t.succ = Phi m c (G m) := by
  show (if t.val + 1 = 0 then Phi m c (V m) else Phi m c (G m)) = _
  exact if_neg (Nat.succ_ne_zero _)

def bodyPre (c : Dev nD) (t : Fin cfg0.N) : sProp 𝕄 := iprop((dats m 0 c).Φ t.castSucc ∗ (dats m 0 c).owesAt () t.castSucc ∗ emp)
def bodyPost (c : Dev nD) (t : Fin cfg0.N) : sProp 𝕄 := iprop((dats m 0 c).Φ t.succ ∗ (dats m 0 c).owesAt () t.succ ∗ emp)

theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [Phi_first, Phi_last]
  unfold Dat.owesAt Pipeline.owesWithin
  rw [show (dats m 0 c).owed t.castSucc = 0 from rfl, show (dats m 0 c).owed t.succ = 0 from rfl]
  iintro ⟨H, ⟨%W, -, HW⟩, -⟩
  ihave H := (in_t m c) $$ H
  icases H with ⟨H1, H2, H3, H4⟩
  iapply (last (whole_t (data m c))) $$ [H1 H2 H3 H4 HW]
  · isplitl [H1]; · iexact H1
    isplitl [H2]; · iexact H2
    isplitl [H3]; · iexact H3
    isplitl [H4]; · iexact H4
    unfold Ow
    iexists W
    iexact HW
  unfold Ow
  iintro %_ ⟨H1, H2, H3, H4, ⟨%W', HW⟩⟩
  isplitl [H1 H2 H3 H4]
  · iapply (after_t m c)
    isplitl [H1]; · iexact H1
    isplitl [H2]; · iexact H2
    isplitl [H3] <;> iassumption
  isplitl [HW]
  · iexists W'; isplitr; · ipureintro; exact fun _ _ => Or.inl trivial
    iexact HW
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  exact triple_restated (sound_body m c t) rfl .rfl fun _ => .rfl

/-! ## The run -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The memory `main` leaves. -/
def Left1 (c : Dev nD) (b : Ref sig .tc) : Buf (Elt F) ((c.tc : Thread nD τ).loc b) :=
  StableHlo.after (List.flatten [hostOps1]) (Pipeline.withArrays cfg0.spec c (Pipeline.withR (V0 m c) RB c (G m c)) fun w => (dats m 0 c).arrAt w cfg0.N) (Proc.devRef .tc b)

set_option backward.isDefEq.respectTransparency.types false in
theorem run_main : θ_run defs (onTc (τ := τ) (main (F := F))) (s₀ m ρ) (fun r => (∀ c : Dev nD,
    (∀ w, r.2.mem ((cfg0.spec w).arr.view.loc (c.tc : Thread nD τ)) = (dats m 0 c).arrAt w cfg0.N)
      ∧ ∀ b ∈ Pipeline.restRefs sig cfg0.spec, r.2.mem ((c.tc : Thread nD τ).loc b) = Left1 m c b) ∧ r.2.sem = fun _ => 0) :=
  Pipeline.θ_run_frame_dmaR_aroundV (Q' := _) (hQ' := fun _ h => h) cfgs (dats m) (0 : Fin 1) launch0 osem defs₀ Variants.none ownSemFacts HB RB HB_sub RB_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain m Variants.none) (hA := fun _ w => w.elim0)
    (hin := fun c => Entails.of_eq (Phi_first m c t0_0).symm) (hout := fun c => Entails.of_eq (Phi_last m c t0_0))

/-! ## What is left -/

theorem Left1_of (c : Dev nD) (b : Ref sig .tc) (h : ∀ op ∈ (List.flatten [hostOps1] : List (HloOp τ sig (Elt F))), Proc.devRef .tc b ∉ op.writes) :
    Left1 m c b = Pipeline.withR (V0 m c) RB c (G m c) (Proc.devRef .tc b) := by
  unfold Left1
  rw [StableHlo.after_of_forall_not_mem (b := Proc.devRef .tc b) _ _ h, Pipeline.withArrays_of_ne _ c _ _ b (fun w => w.elim0)]

theorem Left1_arg (c : Dev nD) (b : Ref sig .tc) (hb : b ∉ RB) (h : ∀ op ∈ (List.flatten [hostOps1] : List (HloOp τ sig (Elt F))), Proc.devRef .tc b ∉ op.writes)
    (hV : V m c b = m ((c.tc : Thread nD τ).loc b)) : Left1 m c b = m ((c.tc : Thread nD τ).loc b) := by
  rw [Left1_of m c b h, Pipeline.withR_of_not_mem _ _ _ _ b hb]
  exact hV

theorem keeps {b : Ref sig .tc} (h : b ≠ main_v4 ∧ b ≠ main_v5 ∧ b ≠ main_v6 ∧ b ≠ main_v7) :
    ∀ op ∈ (List.flatten [hostOps1] : List (HloOp τ sig (Elt F))), Proc.devRef .tc b ∉ op.writes := by
  refine List.forall_iff_forall_mem.mp ?_
  simp only [hostOps1, List.flatten_cons, List.flatten_nil, List.append_nil, List.cons_append, List.nil_append, List.Forall, StableHlo.reshape_writes, Finset.mem_singleton]
  exact ⟨StableHlo.devRef_ne_of_ne h.1, StableHlo.devRef_ne_of_ne h.2.1, StableHlo.devRef_ne_of_ne h.2.2.1, StableHlo.devRef_ne_of_ne h.2.2.2⟩

theorem run_left : θ_run defs (onTc (τ := τ) (main (F := F))) ⟨m, fun _ => 0, ρ⟩ (fun r =>
    (∀ c : Dev nD, ∀ b ∈ Pipeline.restRefs sig cfg0.spec, r.2.mem ((c.tc : Thread nD τ).loc b) = Left1 m c b) ∧ r.2.sem = fun _ => 0) :=
  (θ_run defs _ _).mono (fun _ h => ⟨fun c => (h.1 c).2, h.2⟩) (run_main m ρ)

abbrev Kept (c : Dev nD) (r : PUnit × MemSt nD τ sig (Elt F)) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)

theorem kept_of (c : Dev nD) (r : PUnit × MemSt nD τ sig (Elt F)) (h : ∀ b ∈ Pipeline.restRefs sig cfg0.spec, r.2.mem ((c.tc : Thread nD τ).loc b) = Left1 m c b) : Kept m c r :=
  ⟨(h main_arg0 (Pipeline.mem_restRefs_of main_arg0 (by decide) (by decide))).trans (Left1_arg m c main_arg0 (by decide) (keeps (by decide)) (V_main_arg0 m c)),
    (h main_arg1 (Pipeline.mem_restRefs_of main_arg1 (by decide) (by decide))).trans (Left1_arg m c main_arg1 (by decide) (keeps (by decide)) (V_main_arg1 m c)),
    (h main_arg2 (Pipeline.mem_restRefs_of main_arg2 (by decide) (by decide))).trans (Left1_arg m c main_arg2 (by decide) (keeps (by decide)) (V_main_arg2 m c)),
    (h main_arg3 (Pipeline.mem_restRefs_of main_arg3 (by decide) (by decide))).trans (Left1_arg m c main_arg3 (by decide) (keeps (by decide)) (V_main_arg3 m c)),
    (h main_arg4 (Pipeline.mem_restRefs_of main_arg4 (by decide) (by decide))).trans (Left1_arg m c main_arg4 (by decide) (keeps (by decide)) (V_main_arg4 m c)),
    (h main_arg5 (Pipeline.mem_restRefs_of main_arg5 (by decide) (by decide))).trans (Left1_arg m c main_arg5 (by decide) (keeps (by decide)) (V_main_arg5 m c))⟩

/-- The frame. -/
theorem frame_t : θ_run defs (onTc (τ := τ) (main (F := F))) ⟨m, fun _ => 0, ρ⟩ (fun r => (∀ c : Dev nD, Kept m c r) ∧ r.2.sem = fun _ => 0) :=
  (θ_run defs _ _).mono (fun r h => ⟨fun c => kept_of m c r (h.1 c), h.2⟩) (run_left m ρ)

end OsPlus
end
-- ==== Proof.IdealRun.lean ====
module

public import proofs.«01_k».proof.Proof.Run
public import proofs.«01_k».proof.Proof.Gen.KernelIdeal
public import Idealize.ShloMosaic.PureOps.Ideal

/-! The same program read at the ideal instance. -/

@[expose] public section

noncomputable section

namespace OsPlus

open Idealize.ShloMosaic Idealize.ShloMosaic.TcCoe Idealize.SL.Sem

theorem sig_eq : Cert.KernelIdeal.sig = Cert.Kernel.sig := by sl_kernel_rfl
theorem run_ideal (m : (ℓ : Loc Cert.Kernel.nD Cert.Kernel.τ Cert.Kernel.sig) → Buf (Elt Ideal) ℓ) (Q : PUnit × MemSt Cert.Kernel.nD Cert.Kernel.τ Cert.Kernel.sig (Elt Ideal) → Prop) (s : MemSt Cert.Kernel.nD Cert.Kernel.τ Cert.Kernel.sig (Elt Ideal)) :
    (θ_run (Cert.Kernel.defs (F := Ideal)) (onTc (τ := Cert.Kernel.τ) (Cert.Kernel.main (F := Ideal))) s Q)
      = (θ_run (Cert.KernelIdeal.defs (F := Ideal)) (onTc (τ := Cert.KernelIdeal.τ) (Cert.KernelIdeal.main (F := Ideal))) s Q) := by sl_kernel_rfl

end OsPlus
end
-- ==== Proof.Value.lean ====
module

public import proofs.«01_k».proof.Proof.Run

/-! The run of the kernel with its results. -/

@[expose] public section

noncomputable section

namespace OsPlus

open Cert.Kernel Cert.Kernel.Gen Idealize.ShloMosaic Idealize.ShloMosaic.TcCoe Idealize.SL.Sem
open Idealize.ShloMosaic.StableHlo

variable {F : FTy → Type} [FloatOps F]

/-- The operands from the arguments. -/
def Data.of (a0 : Vec F S2x384x4096 .bf16) (a1 : Vec F S4096 .f32) (a2 : Vec F S1 .f32) (a3 : Vec F S4096x11008 .i8) (a4 : Vec F S32x11008 .f32)
    (a5 : Vec F S11008 .f32) : Data F :=
  ⟨shapeCast S768x4096 a0 shapeCasts_S2x384x4096_S768x4096, shapeCast S1x4096 a1 shapeCasts_S4096_S1x4096, a2, a3, a4,
    shapeCast S1x11008 a5 shapeCasts_S11008_S1x11008⟩

/-! ## The lines around the call -/

section
variable (X : Valuation τ sig (Elt F))

theorem tail4 : StableHlo.after (List.flatten [hostOps1]) X (Proc.devRef .tc main_v4)
    = shapeCast S2x384x11008 (X (Proc.devRef .tc main_v3_0) : Vec F S768x11008 .bf16) shapeCasts_S768x11008_S2x384x11008 := by
  simp only [hostOps1, List.flatten_cons, List.flatten_nil, List.append_nil]
  after_results <;> rfl
theorem tail5 : StableHlo.after (List.flatten [hostOps1]) X (Proc.devRef .tc main_v5)
    = shapeCast S11008 (X (Proc.devRef .tc main_v3_1) : Vec F S1x11008 .f32) shapeCasts_S1x11008_S11008 := by
  simp only [hostOps1, List.flatten_cons, List.flatten_nil, List.append_nil]
  after_results <;> rfl
theorem tail6 : StableHlo.after (List.flatten [hostOps1]) X (Proc.devRef .tc main_v6)
    = shapeCast S4096 (X (Proc.devRef .tc main_v3_2) : Vec F S1x4096 .f32) shapeCasts_S1x4096_S4096 := by
  simp only [hostOps1, List.flatten_cons, List.flatten_nil, List.append_nil]
  after_results <;> rfl
theorem tail7 : StableHlo.after (List.flatten [hostOps1]) X (Proc.devRef .tc main_v7)
    = shapeCast S2x384x4096 (X (Proc.devRef .tc main_v3_3) : Vec F S768x4096 .i8) shapeCasts_S768x4096_S2x384x4096 := by
  simp only [hostOps1, List.flatten_cons, List.flatten_nil, List.append_nil]
  after_results <;> rfl
end

variable (m : (ℓ : Loc nD τ sig) → Buf (Elt F) ℓ) (ρ : Dev nD → PrngReg)

theorem V_main_v0 (c : Dev nD) : V m c main_v0 = shapeCast S768x4096 (m ((c.tc : Thread nD τ).loc main_arg0) : Vec F S2x384x4096 .bf16) shapeCasts_S2x384x4096_S768x4096 := by
  show StableHlo.after (List.flatten [hostOps0]) _ (Proc.devRef .tc main_v0) = _
  simp only [hostOps0, List.flatten_cons, List.flatten_nil, List.append_nil]
  after_results <;> rfl
theorem V_main_v1 (c : Dev nD) : V m c main_v1 = shapeCast S1x4096 (m ((c.tc : Thread nD τ).loc main_arg1) : Vec F S4096 .f32) shapeCasts_S4096_S1x4096 := by
  show StableHlo.after (List.flatten [hostOps0]) _ (Proc.devRef .tc main_v1) = _
  simp only [hostOps0, List.flatten_cons, List.flatten_nil, List.append_nil]
  after_results <;> rfl
theorem V_main_v2 (c : Dev nD) : V m c main_v2 = shapeCast S1x11008 (m ((c.tc : Thread nD τ).loc main_arg5) : Vec F S11008 .f32) shapeCasts_S11008_S1x11008 := by
  show StableHlo.after (List.flatten [hostOps0]) _ (Proc.devRef .tc main_v2) = _
  simp only [hostOps0, List.flatten_cons, List.flatten_nil, List.append_nil]
  after_results <;> rfl

/-- The operands of the call at device `c`. -/
abbrev given (c : Dev nD) : Data F :=
  Data.of (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem data_given (c : Dev nD) : data m c = given m c := by
  unfold data given Data.of
  rw [V_main_v0, V_main_v1, V_main_v2, V_main_arg2, V_main_arg3, V_main_arg4]

/-! ## The results -/

theorem inner (c : Dev nD) (b : Ref sig .tc) (hb : b ∈ RB) :
    Pipeline.withArrays cfg0.spec c (Pipeline.withR (V0 m c) RB c (G m c)) (fun w => (dats m 0 c).arrAt w cfg0.N) (Proc.devRef .tc b) = G m c b := by
  rw [Pipeline.withArrays_of_ne _ c _ _ b (fun w => w.elim0), Pipeline.withR_of_mem _ _ _ _ b hb]

theorem left4 (c : Dev nD) : Left1 m c main_v4 = shapeCast S2x384x11008 (given m c).yT shapeCasts_S768x11008_S2x384x11008 := by
  unfold Left1
  rw [tail4, inner m c main_v3_0 (by decide), G0, data_given]
theorem left5 (c : Dev nD) : Left1 m c main_v5 = shapeCast S11008 (given m c).bcT shapeCasts_S1x11008_S11008 := by
  unfold Left1
  rw [tail5, inner m c main_v3_1 (by decide), G1, data_given]
theorem left6 (c : Dev nD) : Left1 m c main_v6 = shapeCast S4096 (given m c).zT shapeCasts_S1x4096_S4096 := by
  unfold Left1
  rw [tail6, inner m c main_v3_2 (by decide), G2, data_given]
theorem left7 (c : Dev nD) : Left1 m c main_v7 = shapeCast S2x384x4096 (given m c).qT shapeCasts_S768x4096_S2x384x4096 := by
  unfold Left1
  rw [tail7, inner m c main_v3_3 (by decide), G3, data_given]
theorem left3 (c : Dev nD) : Left1 m c main_v3_4 = (given m c).xs := by
  rw [Left1_of m c main_v3_4 (keeps (by decide)), Pipeline.withR_of_mem _ _ _ _ main_v3_4 (by decide), G4, data_given]

/-- The run of the kernel: its results as functions of its arguments, which it leaves. -/
theorem run_value : θ_run defs (onTc (τ := τ) (main (F := F))) ⟨m, fun _ => 0, ρ⟩ (fun r => ∀ c : Dev nD,
    r.2.mem ((c.tc : Thread nD τ).loc main_v4) = shapeCast S2x384x11008 (given m c).yT shapeCasts_S768x11008_S2x384x11008
    ∧ r.2.mem ((c.tc : Thread nD τ).loc main_v5) = shapeCast S11008 (given m c).bcT shapeCasts_S1x11008_S11008
    ∧ r.2.mem ((c.tc : Thread nD τ).loc main_v6) = shapeCast S4096 (given m c).zT shapeCasts_S1x4096_S4096
    ∧ r.2.mem ((c.tc : Thread nD τ).loc main_v7) = shapeCast S2x384x4096 (given m c).qT shapeCasts_S768x4096_S2x384x4096
    ∧ r.2.mem ((c.tc : Thread nD τ).loc main_v3_4) = (given m c).xs
    ∧ Kept m c r) :=
  (θ_run defs _ _).mono (fun r h c =>
    ⟨(h.1 c main_v4 (Pipeline.mem_restRefs_of main_v4 (by decide) (by decide))).trans (left4 m c),
      (h.1 c main_v5 (Pipeline.mem_restRefs_of main_v5 (by decide) (by decide))).trans (left5 m c),
      (h.1 c main_v6 (Pipeline.mem_restRefs_of main_v6 (by decide) (by decide))).trans (left6 m c),
      (h.1 c main_v7 (Pipeline.mem_restRefs_of main_v7 (by decide) (by decide))).trans (left7 m c),
      (h.1 c main_v3_4 (Pipeline.mem_restRefs_of main_v3_4 (by decide) (by decide))).trans (left3 m c),
      kept_of m c r (h.1 c)⟩) (run_left m ρ)

end OsPlus
end
-- ==== Proof.Ref.lean ====
module

public import proofs.«01_k».proof.Proof.Gen.ReferenceIdeal.Frame
public import Idealize.ShloMosaic.Lib.Pipeline.Value
public import Idealize.ShloMosaic.Lib.Affine

/-! The run of the reference with its results. -/

@[expose] public section

noncomputable section

namespace OsPlus.Ref

open Cert.ReferenceIdeal Cert.ReferenceIdeal.Gen Idealize.ShloMosaic Idealize.ShloMosaic.TcCoe Idealize.SL.Sem
open Idealize.ShloMosaic.StableHlo
open Idealize.ShloMosaic.Pipeline (Dat Cfg Window)

variable {F : FTy → Type} [FloatOps F]

/-! ## The results as functions of the operands -/

section
variable (x : Vec F S768x4096 .bf16) (s : Vec F S1x4096 .f32) (xs : Vec F S1 .f32) (w : Vec F S4096x11008 .i8) (ws : Vec F S32x11008 .f32) (b : Vec F S1x11008 .f32)

def xsw : Elt F .f32 := xs fun a => match a with | 0 => (0 : Fin 1)
def u : FVec F S1x4096 .bf16 := k0_pay8 x s
def wd : FVec F S4096x11008 .bf16 := k0_pay6 w ws
def z : Vec F S1x4096 .f32 := k0_pay4 x
def q : Vec F S768x4096 .i8 := k0_pay5 x s (xsw xs)
def bc : Vec F S1x11008 .f32 := k0_pay1 (wd w ws) (u x s) (constant S1x11008 .f32 0x00000000#32) b
def y : Vec F S768x11008 .bf16 := k0_pay2 (wd w ws) (k0_pay7 x s (xsw xs) w ws) (u x s) (constant S1x11008 .f32 0x00000000#32) b (xsw xs)
end

theorem hz : (![0, 0] : Fin 2 → Nat) = fun _ => 0 := funext fun a => by fin_cases a <;> rfl
theorem hz1 : (![0] : Fin 1 → Nat) = fun _ => 0 := funext fun a => by fin_cases a; rfl

section
variable (c : Dev nD) (arg0 : Memref sig .tc .vmem S768x4096 .bf16) (harg0 : arg0.IsWhole) (arg1 : Memref sig .tc .vmem S1x4096 .f32) (harg1 : arg1.IsWhole)
  (arg2 : Memref sig .tc .smem S1 .f32) (harg2 : arg2.IsWhole) (arg3 : Memref sig .tc .vmem S4096x11008 .i8) (harg3 : arg3.IsWhole)
  (arg4 : Memref sig .tc .vmem S32x11008 .f32) (harg4 : arg4.IsWhole) (arg5 : Memref sig .tc .vmem S1x11008 .f32) (harg5 : arg5.IsWhole)
  (arg6 : Memref sig .tc .vmem S768x11008 .bf16) (harg6 : arg6.IsWhole) (arg7 : Memref sig .tc .vmem S1x11008 .f32) (harg7 : arg7.IsWhole)
  (arg8 : Memref sig .tc .vmem S1x4096 .f32) (harg8 : arg8.IsWhole) (arg9 : Memref sig .tc .vmem S768x4096 .i8) (harg9 : arg9.IsWhole)
  (arg10 : Memref sig .tc .smem S1 .f32) (harg10 : arg10.IsWhole)
  (x0 : Vec F S768x4096 .bf16) (x1 : Vec F S1x4096 .f32) (x2 : Vec F S1 .f32) (x3 : Vec F S4096x11008 .i8) (x4 : Vec F S32x11008 .f32) (x5 : Vec F S1x11008 .f32)

theorem word : View.readAt (Elt F) arg2.view (Rect.unit (s := S1) ![0] S1.size inb_S1_S1_0).toLoadRect (harg2.unread x2) (Shape.Idx.first (numel1_S1.symm ▸ Nat.one_pos)) = xsw x2 := by
  rw [View.readAt_eq_ld, harg2.read_unread]
  exact congrArg x2 (funext fun a => by match a with | ⟨0, _⟩ => rfl)

theorem out8 : out0_A_8 c arg0 harg0 arg1 harg1 arg2 harg2 arg3 harg3 arg4 harg4 arg5 harg5 arg6 harg6 arg7 harg7 arg8 harg8 arg9 harg9 arg10 harg10 x0 x1 x2 x3 x4 x5
    = z x0 := by
  unfold out0_A_8
  rw [View.read_writes_junk_eq_canon]
  unfold kernelRun0_A
  dsimp only
  sl_unfold_words
  rw [View.canon_unit_zero hz]
  simp only [View.readAt_eq_ld, harg0.read_unread, View.ld_unit_zero (S := S768x4096) hz, View.ld_unit_zero (S := S1x4096) hz, View.ld_unit_zero (S := S4096x11008) hz,
    View.ld_unit_zero (S := S32x11008) hz, View.ld_unit_zero (S := S1x11008) hz]
  rfl

theorem out9 : out0_A_9 c arg0 harg0 arg1 harg1 arg2 harg2 arg3 harg3 arg4 harg4 arg5 harg5 arg6 harg6 arg7 harg7 arg8 harg8 arg9 harg9 arg10 harg10 x0 x1 x2 x3 x4 x5
    = q x0 x1 x2 := by
  unfold out0_A_9
  rw [View.read_writes_junk_eq_canon]
  unfold kernelRun0_A
  dsimp only
  sl_unfold_words
  rw [View.canon_unit_zero hz]
  rw [word]
  simp only [View.readAt_eq_ld, harg0.read_unread, harg1.read_unread, View.ld_unit_zero (S := S768x4096) hz, View.ld_unit_zero (S := S1x4096) hz, View.ld_unit_zero (S := S4096x11008) hz,
    View.ld_unit_zero (S := S32x11008) hz, View.ld_unit_zero (S := S1x11008) hz]
  rfl

theorem out7 : out0_A_7 c arg0 harg0 arg1 harg1 arg2 harg2 arg3 harg3 arg4 harg4 arg5 harg5 arg6 harg6 arg7 harg7 arg8 harg8 arg9 harg9 arg10 harg10 x0 x1 x2 x3 x4 x5
    = bc x0 x1 x3 x4 x5 := by
  unfold out0_A_7
  rw [View.read_writes_junk_eq_canon]
  unfold kernelRun0_A
  dsimp only
  sl_unfold_words
  rw [View.canon_unit_zero hz]
  simp only [View.readAt_eq_ld, harg0.read_unread, harg1.read_unread, harg3.read_unread, harg4.read_unread, harg5.read_unread, View.ld_unit_zero (S := S768x4096) hz, View.ld_unit_zero (S := S1x4096) hz, View.ld_unit_zero (S := S4096x11008) hz,
    View.ld_unit_zero (S := S32x11008) hz, View.ld_unit_zero (S := S1x11008) hz]
  rfl

theorem out6 : out0_A_6 c arg0 harg0 arg1 harg1 arg2 harg2 arg3 harg3 arg4 harg4 arg5 harg5 arg6 harg6 arg7 harg7 arg8 harg8 arg9 harg9 arg10 harg10 x0 x1 x2 x3 x4 x5
    = y x0 x1 x2 x3 x4 x5 := by
  unfold out0_A_6
  rw [View.read_writes_junk_eq_canon]
  unfold kernelRun0_A
  dsimp only
  sl_unfold_words
  rw [View.canon_unit_zero hz]
  rw [word]
  simp only [View.readAt_eq_ld, harg0.read_unread, harg1.read_unread, harg3.read_unread, harg4.read_unread, harg5.read_unread, View.ld_unit_zero (S := S768x4096) hz, View.ld_unit_zero (S := S1x4096) hz, View.ld_unit_zero (S := S4096x11008) hz,
    View.ld_unit_zero (S := S32x11008) hz, View.ld_unit_zero (S := S1x11008) hz]
  rfl

theorem out10 : out0_A_10 c arg0 harg0 arg1 harg1 arg2 harg2 arg3 harg3 arg4 harg4 arg5 harg5 arg6 harg6 arg7 harg7 arg8 harg8 arg9 harg9 arg10 harg10 x0 x1 x2 x3 x4 x5
    = x2 := by
  unfold out0_A_10
  rw [View.read_writes_junk_eq_canon]
  unfold kernelRun0_A
  dsimp only
  sl_unfold_words
  rw [View.canon_unit_zero hz1]
  rw [word]
  exact funext fun i => congrArg x2 (funext fun a => by match a with | ⟨0, _⟩ => exact Subsingleton.elim (α := Fin 1) _ _)
end

variable (m : (ℓ : Loc nD τ sig) → Buf (Elt F) ℓ) (ρ : Dev nD → PrngReg)

/-! ## The arrays -/

/-- The one grid point. -/
def t₀ : Fin cfg0.N := ⟨0, by decide⟩

theorem rd0 (f : Vec F S768x4096 .bf16) : ((cfg0.win 0).blk t₀).view.read (Elt F) f = f :=
  Memref.read_access_unit_zero (Elt F) main_v0 (funext fun a => Nat.zero_mul _) (fun a => by fin_cases a <;> decide) f
theorem rd1 (f : Vec F S1x4096 .f32) : ((cfg0.win 1).blk t₀).view.read (Elt F) f = f :=
  Memref.read_access_unit_zero (Elt F) main_v1 (funext fun a => Nat.zero_mul _) (fun a => by fin_cases a <;> decide) f
theorem rd2 (f : Vec F S1 .f32) : ((cfg0.win 2).blk t₀).view.read (Elt F) f = f :=
  Memref.read_access_unit_zero (Elt F) main_arg2 (funext fun a => Nat.zero_mul _) (fun a => by fin_cases a <;> decide) f
theorem rd3 (f : Vec F S4096x11008 .i8) : ((cfg0.win 3).blk t₀).view.read (Elt F) f = f :=
  Memref.read_access_unit_zero (Elt F) main_arg3 (funext fun a => Nat.zero_mul _) (fun a => by fin_cases a <;> decide) f
theorem rd4 (f : Vec F S32x11008 .f32) : ((cfg0.win 4).blk t₀).view.read (Elt F) f = f :=
  Memref.read_access_unit_zero (Elt F) main_arg4 (funext fun a => Nat.zero_mul _) (fun a => by fin_cases a <;> decide) f
theorem rd5 (f : Vec F S1x11008 .f32) : ((cfg0.win 5).blk t₀).view.read (Elt F) f = f :=
  Memref.read_access_unit_zero (Elt F) main_v2 (funext fun a => Nat.zero_mul _) (fun a => by fin_cases a <;> decide) f
theorem rd6 (f : Vec F S768x11008 .bf16) : ((cfg0.win 6).blk t₀).view.read (Elt F) f = f :=
  Memref.read_access_unit_zero (Elt F) main_v3_0 (funext fun a => Nat.zero_mul _) (fun a => by fin_cases a <;> decide) f
theorem rd7 (f : Vec F S1x11008 .f32) : ((cfg0.win 7).blk t₀).view.read (Elt F) f = f :=
  Memref.read_access_unit_zero (Elt F) main_v3_1 (funext fun a => Nat.zero_mul _) (fun a => by fin_cases a <;> decide) f
theorem rd8 (f : Vec F S1x4096 .f32) : ((cfg0.win 8).blk t₀).view.read (Elt F) f = f :=
  Memref.read_access_unit_zero (Elt F) main_v3_2 (funext fun a => Nat.zero_mul _) (fun a => by fin_cases a <;> decide) f
theorem rd9 (f : Vec F S768x4096 .i8) : ((cfg0.win 9).blk t₀).view.read (Elt F) f = f :=
  Memref.read_access_unit_zero (Elt F) main_v3_3 (funext fun a => Nat.zero_mul _) (fun a => by fin_cases a <;> decide) f
theorem rd10 (f : Vec F S1 .f32) : ((cfg0.win 10).blk t₀).view.read (Elt F) f = f :=
  Memref.read_access_unit_zero (Elt F) main_v3_4 (funext fun a => Nat.zero_mul _) (fun a => by fin_cases a <;> decide) f

/-- The array of a window after the run, read through its one block, is what the one point leaves. -/
theorem after_run (c : Dev nD) (w : Fin cfg0.W) (hf : (cfg0.win w).flush t₀ = true) :
    ((cfg0.win w).blk t₀).view.read (Elt F) ((dats (F := F) m 0 c).arrAt w cfg0.N) = (dats (F := F) m 0 c).flushed w t₀ := by
  rw [show cfg0.N = (t₀ : Fin cfg0.N).val + 1 from rfl, (dats (F := F) m 0 c).arrAt_succ w t₀, hf, if_pos rfl]
  exact View.read_write_univ _ _

theorem blk0 (c : Dev nD) : iblk m c 0 t₀ = V m c main_v0 := by unfold iblk; exact rd0 _
theorem blk1 (c : Dev nD) : iblk m c 1 t₀ = V m c main_v1 := by unfold iblk; exact rd1 _
theorem blk2 (c : Dev nD) : iblk m c 2 t₀ = V m c main_arg2 := by unfold iblk; exact rd2 _
theorem blk3 (c : Dev nD) : iblk m c 3 t₀ = V m c main_arg3 := by unfold iblk; exact rd3 _
theorem blk4 (c : Dev nD) : iblk m c 4 t₀ = V m c main_arg4 := by unfold iblk; exact rd4 _
theorem blk5 (c : Dev nD) : iblk m c 5 t₀ = V m c main_v2 := by unfold iblk; exact rd5 _

theorem fin6 (c : Dev nD) : (dats (F := F) m 0 c).arrAt 6 cfg0.N
    = y (V m c main_v0) (V m c main_v1) (V m c main_arg2) (V m c main_arg3) (V m c main_arg4) (V m c main_v2) := by
  refine (rd6 _).symm.trans ((after_run m c 6 (flush0_6 t₀)).trans ?_)
  show (cfg0.win 6).cut _ ((dats m 0 c).after 6 t₀) = _
  rw [after0_6]
  unfold outsAt0
  dsimp only
  rw [out6, blk0, blk1, blk2, blk3, blk4, blk5]
  rfl
theorem fin7 (c : Dev nD) : (dats (F := F) m 0 c).arrAt 7 cfg0.N
    = bc (V m c main_v0) (V m c main_v1) (V m c main_arg3) (V m c main_arg4) (V m c main_v2) := by
  refine (rd7 _).symm.trans ((after_run m c 7 (flush0_7 t₀)).trans ?_)
  show (cfg0.win 7).cut _ ((dats m 0 c).after 7 t₀) = _
  rw [after0_7]
  unfold outsAt0
  dsimp only
  rw [out7, blk0, blk1, blk3, blk4, blk5]
  rfl
theorem fin8 (c : Dev nD) : (dats (F := F) m 0 c).arrAt 8 cfg0.N = z (V m c main_v0) := by
  refine (rd8 _).symm.trans ((after_run m c 8 (flush0_8 t₀)).trans ?_)
  show (cfg0.win 8).cut _ ((dats m 0 c).after 8 t₀) = _
  rw [after0_8]
  unfold outsAt0
  dsimp only
  rw [out8, blk0]
  rfl
theorem fin9 (c : Dev nD) : (dats (F := F) m 0 c).arrAt 9 cfg0.N = q (V m c main_v0) (V m c main_v1) (V m c main_arg2) := by
  refine (rd9 _).symm.trans ((after_run m c 9 (flush0_9 t₀)).trans ?_)
  show (cfg0.win 9).cut _ ((dats m 0 c).after 9 t₀) = _
  rw [after0_9]
  unfold outsAt0
  dsimp only
  rw [out9, blk0, blk1, blk2]
  rfl
theorem fin10 (c : Dev nD) : (dats (F := F) m 0 c).arrAt 10 cfg0.N = V m c main_arg2 := by
  refine (rd10 _).symm.trans ((after_run m c 10 (flush0_10 t₀)).trans ?_)
  show (cfg0.win 10).cut _ ((dats m 0 c).after 10 t₀) = _
  rw [after0_10]
  unfold outsAt0
  dsimp only
  rw [out10, blk2]
  rfl

end OsPlus.Ref
end
-- ==== Proof.RefRun.lean ====
module

public import proofs.«01_k».proof.Proof.Ref

/-! The run of the reference. -/

@[expose] public section

noncomputable section

namespace OsPlus.Ref

open Cert.ReferenceIdeal Cert.ReferenceIdeal.Gen Idealize.ShloMosaic Idealize.ShloMosaic.TcCoe Idealize.SL.Sem
open Idealize.ShloMosaic.StableHlo
open Idealize.ShloMosaic.Pipeline (Dat Cfg Window)

variable {F : FTy → Type} [FloatOps F]

section
variable (X : Valuation τ sig (Elt F))

theorem tail4 : StableHlo.after (List.flatten [hostOps1]) X (Proc.devRef .tc main_v4)
    = shapeCast S2x384x11008 (X (Proc.devRef .tc main_v3_0) : Vec F S768x11008 .bf16) shapeCasts_S768x11008_S2x384x11008 := by
  simp only [hostOps1, List.flatten_cons, List.flatten_nil, List.append_nil]
  after_results <;> rfl
theorem tail5 : StableHlo.after (List.flatten [hostOps1]) X (Proc.devRef .tc main_v5)
    = shapeCast S11008 (X (Proc.devRef .tc main_v3_1) : Vec F S1x11008 .f32) shapeCasts_S1x11008_S11008 := by
  simp only [hostOps1, List.flatten_cons, List.flatten_nil, List.append_nil]
  after_results <;> rfl
theorem tail6 : StableHlo.after (List.flatten [hostOps1]) X (Proc.devRef .tc main_v6)
    = shapeCast S4096 (X (Proc.devRef .tc main_v3_2) : Vec F S1x4096 .f32) shapeCasts_S1x4096_S4096 := by
  simp only [hostOps1, List.flatten_cons, List.flatten_nil, List.append_nil]
  after_results <;> rfl
theorem tail7 : StableHlo.after (List.flatten [hostOps1]) X (Proc.devRef .tc main_v7)
    = shapeCast S2x384x4096 (X (Proc.devRef .tc main_v3_3) : Vec F S768x4096 .i8) shapeCasts_S768x4096_S2x384x4096 := by
  simp only [hostOps1, List.flatten_cons, List.flatten_nil, List.append_nil]
  after_results <;> rfl
end

variable (m : (ℓ : Loc nD τ sig) → Buf (Elt F) ℓ) (ρ : Dev nD → PrngReg)

theorem V_main_v0 (c : Dev nD) : V m c main_v0 = shapeCast S768x4096 (m ((c.tc : Thread nD τ).loc main_arg0) : Vec F S2x384x4096 .bf16) shapeCasts_S2x384x4096_S768x4096 := by
  show StableHlo.after (List.flatten [hostOps0]) _ (Proc.devRef .tc main_v0) = _
  simp only [hostOps0, List.flatten_cons, List.flatten_nil, List.append_nil]
  after_results <;> rfl
theorem V_main_v1 (c : Dev nD) : V m c main_v1 = shapeCast S1x4096 (m ((c.tc : Thread nD τ).loc main_arg1) : Vec F S4096 .f32) shapeCasts_S4096_S1x4096 := by
  show StableHlo.after (List.flatten [hostOps0]) _ (Proc.devRef .tc main_v1) = _
  simp only [hostOps0, List.flatten_cons, List.flatten_nil, List.append_nil]
  after_results <;> rfl
theorem V_main_v2 (c : Dev nD) : V m c main_v2 = shapeCast S1x11008 (m ((c.tc : Thread nD τ).loc main_arg5) : Vec F S11008 .f32) shapeCasts_S11008_S1x11008 := by
  show StableHlo.after (List.flatten [hostOps0]) _ (Proc.devRef .tc main_v2) = _
  simp only [hostOps0, List.flatten_cons, List.flatten_nil, List.append_nil]
  after_results <;> rfl

/-- What the lines after the call read of the array of window `w`. -/
theorem inner (c : Dev nD) (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr _ (by decide) c _ _ w

section
variable (a0 : Vec F S2x384x4096 .bf16) (a1 : Vec F S4096 .f32) (a2 : Vec F S1 .f32) (a3 : Vec F S4096x11008 .i8) (a4 : Vec F S32x11008 .f32) (a5 : Vec F S11008 .f32)

def res4 : Vec F S2x384x11008 .bf16 :=
  shapeCast S2x384x11008 (y (shapeCast S768x4096 a0 shapeCasts_S2x384x4096_S768x4096) (shapeCast S1x4096 a1 shapeCasts_S4096_S1x4096) a2 a3 a4
    (shapeCast S1x11008 a5 shapeCasts_S11008_S1x11008)) shapeCasts_S768x11008_S2x384x11008
def res5 : Vec F S11008 .f32 :=
  shapeCast S11008 (bc (shapeCast S768x4096 a0 shapeCasts_S2x384x4096_S768x4096) (shapeCast S1x4096 a1 shapeCasts_S4096_S1x4096) a3 a4
    (shapeCast S1x11008 a5 shapeCasts_S11008_S1x11008)) shapeCasts_S1x11008_S11008
def res6 : Vec F S4096 .f32 := shapeCast S4096 (z (shapeCast S768x4096 a0 shapeCasts_S2x384x4096_S768x4096)) shapeCasts_S1x4096_S4096
def res7 : Vec F S2x384x4096 .i8 :=
  shapeCast S2x384x4096 (q (shapeCast S768x4096 a0 shapeCasts_S2x384x4096_S768x4096) (shapeCast S1x4096 a1 shapeCasts_S4096_S1x4096) a2) shapeCasts_S768x4096_S2x384x4096
end

abbrev arg0 (c : Dev nD) : Vec F S2x384x4096 .bf16 := m ((c.tc : Thread nD τ).loc main_arg0)
abbrev arg1 (c : Dev nD) : Vec F S4096 .f32 := m ((c.tc : Thread nD τ).loc main_arg1)
abbrev arg2 (c : Dev nD) : Vec F S1 .f32 := m ((c.tc : Thread nD τ).loc main_arg2)
abbrev arg3 (c : Dev nD) : Vec F S4096x11008 .i8 := m ((c.tc : Thread nD τ).loc main_arg3)
abbrev arg4 (c : Dev nD) : Vec F S32x11008 .f32 := m ((c.tc : Thread nD τ).loc main_arg4)
abbrev arg5 (c : Dev nD) : Vec F S11008 .f32 := m ((c.tc : Thread nD τ).loc main_arg5)

abbrev Left (c : Dev nD) (b : Ref sig .tc) : Buf (Elt F) ((c.tc : Thread nD τ).loc b) := Pipeline.afterTail₀ cfgs (dats m) 0 (V0 m) [hostOps1] c b

theorem left4 (c : Dev nD) : Left m c main_v4 = res4 (arg0 m c) (arg1 m c) (arg2 m c) (arg3 m c) (arg4 m c) (arg5 m c) := by
  unfold Left Pipeline.afterTail₀
  rw [tail4]
  refine congrArg (fun f => shapeCast S2x384x11008 f shapeCasts_S768x11008_S2x384x11008) ((inner m c 6).trans ((fin6 m c).trans ?_))
  rw [V_main_v0, V_main_v1, V_main_v2, V_main_arg2, V_main_arg3, V_main_arg4]
theorem left5 (c : Dev nD) : Left m c main_v5 = res5 (arg0 m c) (arg1 m c) (arg3 m c) (arg4 m c) (arg5 m c) := by
  unfold Left Pipeline.afterTail₀
  rw [tail5]
  refine congrArg (fun f => shapeCast S11008 f shapeCasts_S1x11008_S11008) ((inner m c 7).trans ((fin7 m c).trans ?_))
  rw [V_main_v0, V_main_v1, V_main_v2, V_main_arg3, V_main_arg4]
theorem left6 (c : Dev nD) : Left m c main_v6 = res6 (arg0 m c) := by
  unfold Left Pipeline.afterTail₀
  rw [tail6]
  refine congrArg (fun f => shapeCast S4096 f shapeCasts_S1x4096_S4096) ((inner m c 8).trans ((fin8 m c).trans ?_))
  rw [V_main_v0]
theorem left7 (c : Dev nD) : Left m c main_v7 = res7 (arg0 m c) (arg1 m c) (arg2 m c) := by
  unfold Left Pipeline.afterTail₀
  rw [tail7]
  refine congrArg (fun f => shapeCast S2x384x4096 f shapeCasts_S768x4096_S2x384x4096) ((inner m c 9).trans ((fin9 m c).trans ?_))
  rw [V_main_v0, V_main_v1, V_main_arg2]

/-- The run of the reference: its results as functions of its arguments, which it leaves. -/
theorem run_value : θ_run defs (onTc (τ := τ) (main (F := F))) ⟨m, fun _ => 0, ρ⟩ (fun r => ∀ c : Dev nD,
    r.2.mem ((c.tc : Thread nD τ).loc main_v4) = res4 (arg0 m c) (arg1 m c) (arg2 m c) (arg3 m c) (arg4 m c) (arg5 m c)
    ∧ r.2.mem ((c.tc : Thread nD τ).loc main_v5) = res5 (arg0 m c) (arg1 m c) (arg3 m c) (arg4 m c) (arg5 m c)
    ∧ r.2.mem ((c.tc : Thread nD τ).loc main_v6) = res6 (arg0 m c)
    ∧ r.2.mem ((c.tc : Thread nD τ).loc main_v7) = res7 (arg0 m c) (arg1 m c) (arg2 m c)
    ∧ r.2.mem ((c.tc : Thread nD τ).loc main_v3_4) = arg2 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c =>
    ⟨((h.1 c).2 main_v4 (Pipeline.mem_restRefs_of main_v4 (by decide) (by decide))).trans (left4 m c),
      ((h.1 c).2 main_v5 (Pipeline.mem_restRefs_of main_v5 (by decide) (by decide))).trans (left5 m c),
      ((h.1 c).2 main_v6 (Pipeline.mem_restRefs_of main_v6 (by decide) (by decide))).trans (left6 m c),
      ((h.1 c).2 main_v7 (Pipeline.mem_restRefs_of main_v7 (by decide) (by decide))).trans (left7 m c),
      ((h.1 c).1 10).trans ((fin10 m c).trans (V_main_arg2 m c)),
      h.2 c⟩) (θ_run_and (run_main m ρ) (unchanged m ρ))

end OsPlus.Ref
end
-- ==== Proof.Read.lean ====
module

public import Idealize.ShloMosaic.Lib.Pipeline.Value
public import Idealize.ShloMosaic.Lib.ValueLayout
public import Idealize.ShloMosaic.Lib.ValueIdx
public import Idealize.ShloMosaic.Lib.MatmulPlain
public import Idealize.ShloMosaic.Lib.IdealHost
public import Idealize.ShloMosaic.PureOps.Ideal

/-! Reading layout operations at an entry, at sizes that are variables. -/

@[expose] public section

noncomputable section

namespace OsPlus

open Idealize.ShloMosaic Idealize.ShloMosaic.ValueIdx

/-- A column's maximum. -/
theorem colMax_le {R C : ℕ} {φ : FTy} (x : FVec Ideal ⟨2, ![R, C]⟩ φ) (acc : BitVec φ.bits) (h : Shape.Reduces ⟨2, ![R, C]⟩ [0] ⟨1, ![C]⟩)
    (hφ : FKind.Formats φ) (hacc : acc = FKind.maximumf.neutral φ hφ) (hs : (⟨1, ![C]⟩ : Shape).ShapeCasts ⟨2, ![1, C]⟩) (c : Fin C) (B : EReal) :
    (shapeCast ⟨2, ![1, C]⟩ (multiReduction .maximumf [0] ⟨1, ![C]⟩ x acc h hφ hacc) hs (ix2 0 c) : EReal) ≤ B ↔ Ideal.ofBits φ acc ≤ B ∧ ∀ r : Fin R, (x (ix2 r c) : EReal) ≤ B := by
  rw [shapeCast_a_1a_apply, Ideal.multiReduction_maximumf_single]
  have e : ∀ r : Fin R, h.lift (ix1 c) r = ix2 r c := fun r => by
    funext a
    match a with
    | 0 => exact Fin.ext rfl
    | 1 => exact Fin.ext rfl
  refine (Finset.fold_max_le _).trans (and_congr Iff.rfl ⟨fun H r => ?_, fun H r _ => ?_⟩)
  · rw [← e r]; exact H r (Finset.mem_univ _)
  · have := H r; rw [← e r] at this; exact this

/-- A column's minimum. -/
theorem le_colMin {R C : ℕ} {φ : FTy} (x : FVec Ideal ⟨2, ![R, C]⟩ φ) (acc : BitVec φ.bits) (h : Shape.Reduces ⟨2, ![R, C]⟩ [0] ⟨1, ![C]⟩)
    (hφ : FKind.Formats φ) (hacc : acc = FKind.minimumf.neutral φ hφ) (hs : (⟨1, ![C]⟩ : Shape).ShapeCasts ⟨2, ![1, C]⟩) (c : Fin C) (B : EReal) :
    B ≤ (shapeCast ⟨2, ![1, C]⟩ (multiReduction .minimumf [0] ⟨1, ![C]⟩ x acc h hφ hacc) hs (ix2 0 c) : EReal) ↔ B ≤ Ideal.ofBits φ acc ∧ ∀ r : Fin R, B ≤ (x (ix2 r c) : EReal) := by
  rw [shapeCast_a_1a_apply, multiReduction_minimumf_eq_fold]
  have f := h.fold_filter_drop_single (min : EReal → EReal → EReal) (Ideal.ofBits φ acc) x (ix1 c)
  have e : ∀ r : Fin R, h.lift (ix1 c) r = ix2 r c := fun r => by
    funext a
    match a with
    | 0 => exact Fin.ext rfl
    | 1 => exact Fin.ext rfl
  refine (iff_of_eq (congrArg (B ≤ ·) f)).trans ((Finset.le_fold_min _).trans (and_congr Iff.rfl ⟨fun H r => ?_, fun H r _ => ?_⟩))
  · rw [← e r]; exact H r (Finset.mem_univ _)
  · have := H r; rw [← e r] at this; exact this

theorem shapeCast_same {α : Type} {s : Shape} (x : s.Idx → α) (h : s.ShapeCasts s) (i : s.Idx) : shapeCast s x h i = x i :=
  shapeCast_apply x h i i rfl

/-- Rows in groups: `N` rows of length `C` as groups of `b`. -/
theorem group_apply {α : Type} {N G b C : ℕ} (x : (⟨2, ![N, C]⟩ : Shape).Idx → α) (h : (⟨2, ![N, C]⟩ : Shape).ShapeCasts ⟨3, ![G, b, C]⟩)
    (g : Fin G) (r : Fin b) (c : Fin C) (k : Fin N) (hk : k.val = g.val * b + r.val) :
    shapeCast ⟨3, ![G, b, C]⟩ x h (ix3 g r c) = x (ix2 k c) := by
  refine shapeCast_apply x h _ _ ?_
  rw [Shape.rowMajor_val_two, Shape.rowMajor_val_three]
  show k.val * C + c.val = (g.val * b + r.val) * C + c.val
  rw [hk]

theorem ungroup_apply {α : Type} {N G b C : ℕ} (x : (⟨3, ![G, b, C]⟩ : Shape).Idx → α) (h : (⟨3, ![G, b, C]⟩ : Shape).ShapeCasts ⟨2, ![N, C]⟩)
    (g : Fin G) (r : Fin b) (c : Fin C) (k : Fin N) (hk : k.val = g.val * b + r.val) :
    shapeCast ⟨2, ![N, C]⟩ x h (ix2 k c) = x (ix3 g r c) := by
  refine shapeCast_apply x h _ _ ?_
  rw [Shape.rowMajor_val_two, Shape.rowMajor_val_three]
  show (g.val * b + r.val) * C + c.val = k.val * C + c.val
  rw [hk]

/-- One row per group. -/
theorem one_apply {α : Type} {G C : ℕ} (x : (⟨2, ![G, C]⟩ : Shape).Idx → α) (h : (⟨2, ![G, C]⟩ : Shape).ShapeCasts ⟨3, ![G, 1, C]⟩)
    (g : Fin G) (c : Fin C) : shapeCast ⟨3, ![G, 1, C]⟩ x h (ix3 g 0 c) = x (ix2 g c) :=
  group_apply x h g 0 c g (by simp)

theorem bcastMid_apply {α : Type} {G b C : ℕ} (x : (⟨3, ![G, 1, C]⟩ : Shape).Idx → α) (h : (⟨3, ![G, 1, C]⟩ : Shape).Broadcasts ⟨3, ![G, b, C]⟩)
    (g : Fin G) (r : Fin b) (c : Fin C) : broadcastTo ⟨3, ![G, b, C]⟩ x h (ix3 g r c) = x (ix3 g 0 c) := by
  refine broadcastTo_apply x h (ix3 g r c) (ix3 g 0 c) fun ax => ?_
  match ax with
  | ⟨0, _⟩ =>
    show g.val = if G = 1 then 0 else g.val
    have := g.isLt
    split <;> omega
  | ⟨1, _⟩ => rfl
  | ⟨2, _⟩ =>
    show c.val = if C = 1 then 0 else c.val
    have := c.isLt
    split <;> omega

theorem bcastFst_apply {α : Type} {G b C : ℕ} (x : (⟨3, ![1, b, C]⟩ : Shape).Idx → α) (h : (⟨3, ![1, b, C]⟩ : Shape).Broadcasts ⟨3, ![G, b, C]⟩)
    (g : Fin G) (r : Fin b) (c : Fin C) : broadcastTo ⟨3, ![G, b, C]⟩ x h (ix3 g r c) = x (ix3 0 r c) := by
  refine broadcastTo_apply x h (ix3 g r c) (ix3 0 r c) fun ax => ?_
  match ax with
  | ⟨0, _⟩ => rfl
  | ⟨1, _⟩ =>
    show r.val = if b = 1 then 0 else r.val
    have := r.isLt
    split <;> omega
  | ⟨2, _⟩ =>
    show c.val = if C = 1 then 0 else c.val
    have := c.isLt
    split <;> omega

/-- A product over the extended reals that starts from zero. -/
theorem mxuPass_apply {M : ℕ} {φ : FTy} (l : FVec Ideal ⟨2, ![M, 256]⟩ φ) (r : FVec Ideal ⟨2, ![256, 256]⟩ φ) (i : Fin M) (j : Fin 256) :
    (FloatOps.mxuPass (F := Ideal) (DotDims.plain M 256 256) l r : FVec Ideal ⟨2, ![M, 256]⟩ .f32) (ix2 i j) = (∑ k : Fin 256, (l (ix2 i k) : EReal) * (r (ix2 k j) : EReal) : EReal) := by
  have h := Ideal.matmul_plain_apply (M := M) (K := 256) (N := 256) none l r (fun _ => (0 : EReal)) i j
  rw [zero_add] at h
  rw [← h]
  exact (zero_add _).symm

/-! ## Sums -/

theorem sum_groups {M : Type*} [AddCommMonoid M] (f : ℕ → M) (n m : ℕ) :
    ∑ k ∈ Finset.range (m * n), f k = ∑ t ∈ Finset.range n, ∑ k ∈ Finset.range m, f (m * t + k) := by
  induction n with
  | zero => simp
  | succ n ih => rw [Nat.mul_succ, Finset.sum_range_add, ih, Finset.sum_range_succ]

/-! ## Rounding and clipping -/

theorem ofBits_127 : Ideal.ofBits .f32 0x42FE0000#32 = ((127 : ℝ) : EReal) := by
  simp [Ideal.ofBits, Ideal.ieee, -EReal.coe_mul]; norm_num

theorem ofBits_neg_127 : Ideal.ofBits .f32 0xC2FE0000#32 = ((-127 : ℝ) : EReal) := by
  simp [Ideal.ofBits, Ideal.ieee, -EReal.coe_mul, -EReal.coe_neg]; norm_num

/-- A rounded number clipped to the codes. -/
def clip (x : EReal) : EReal := min ((127 : ℝ) : EReal) (max ((-127 : ℝ) : EReal) (Ideal.liftRound Ideal.roundHalfEven x))

theorem clip_int (x : EReal) : ∃ m : ℤ, -127 ≤ m ∧ m ≤ 127 ∧ clip x = ((m : ℝ) : EReal) := by
  unfold clip
  induction x using EReal.rec with
  | bot =>
    refine ⟨-127, by norm_num, by norm_num, ?_⟩
    show min _ (max _ ⊥) = _
    rw [max_eq_left bot_le, min_eq_right (by exact_mod_cast (by norm_num : (-127 : ℝ) ≤ 127))]
    norm_num
  | top =>
    refine ⟨127, by norm_num, by norm_num, ?_⟩
    show min _ (max _ ⊤) = _
    rw [max_eq_right le_top, min_eq_left le_top]
    norm_num
  | coe r =>
    refine ⟨min 127 (max (-127) (Ideal.roundHalfEven r)), by omega, by omega, ?_⟩
    show min _ (max _ (((Ideal.roundHalfEven r : ℤ) : ℝ) : EReal)) = _
    rw [← EReal.coe_strictMono.monotone.map_max, ← EReal.coe_strictMono.monotone.map_min]
    congr 1
    push_cast
    rfl

/-- The code of a clipped number is that number. -/
theorem clip_code (x : EReal) : (((Ideal.fptosi 8 (clip x)).toInt : ℝ) : EReal) = clip x := by
  obtain ⟨m, h1, h2, e⟩ := clip_int x
  rw [e]
  have : Ideal.fptosi 8 ((m : ℝ) : EReal) = BitVec.ofInt 8 m := by
    unfold Ideal.fptosi
    rw [Ideal.toIntClamped_coe, Int.floor_intCast, Int.ceil_intCast, ite_self]
    congr 1
    norm_num
    omega
  rw [this, BitVec.toInt_ofInt, Int.bmod_eq_of_le (by norm_num; omega) (by norm_num; omega)]

/-! ## The stages at variable sizes -/

section Mid
variable {R C : ℕ} (x y : FVec Ideal ⟨2, ![R, C]⟩ .f32) (h : Shape.Reduces ⟨2, ![R, C]⟩ [0] ⟨1, ![C]⟩) (hs : (⟨1, ![C]⟩ : Shape).ShapeCasts ⟨2, ![1, C]⟩)

/-- Half of a column's maximum in `x` and minimum in `y`. -/
def range2 : FVec Ideal ⟨2, ![1, C]⟩ .f32 :=
  mulf (addf (shapeCast ⟨2, ![1, C]⟩ (multiReduction .maximumf [0] ⟨1, ![C]⟩ x 0xFF800000#32 h (.inl rfl) rfl) hs)
    (shapeCast ⟨2, ![1, C]⟩ (multiReduction .minimumf [0] ⟨1, ![C]⟩ y 0x7F800000#32 h (.inl rfl) rfl) hs)) (broadcast ⟨2, ![1, C]⟩ (Scalar.ofBits .f32 0x3F000000#32))

/-- Columns with the same bounds have the same middle. -/
theorem range2_eq {R' C' : ℕ} (x' y' : FVec Ideal ⟨2, ![R', C']⟩ .f32) (h' : Shape.Reduces ⟨2, ![R', C']⟩ [0] ⟨1, ![C']⟩)
    (hs' : (⟨1, ![C']⟩ : Shape).ShapeCasts ⟨2, ![1, C']⟩) (c : Fin C) (c' : Fin C')
    (hhi : ∀ B : EReal, (∀ r : Fin R, (x (ix2 r c) : EReal) ≤ B) ↔ ∀ r : Fin R', (x' (ix2 r c') : EReal) ≤ B)
    (hlo : ∀ B : EReal, (∀ r : Fin R, B ≤ (y (ix2 r c) : EReal)) ↔ ∀ r : Fin R', B ≤ (y' (ix2 r c') : EReal)) :
    range2 x y h hs (ix2 0 c) = range2 x' y' h' hs' (ix2 0 c') := by
  unfold range2
  rw [mulf_apply, mulf_apply, addf_apply, addf_apply]
  refine congrArg (fun e : EReal => e * Ideal.ofBits .f32 0x3F000000#32) (congrArg₂ (fun a b : EReal => a + b) ?_ ?_)
  · exact eq_of_forall_ge_iff fun B => (colMax_le _ _ _ _ _ _ _ B).trans ((and_congr Iff.rfl (hhi B)).trans (colMax_le _ _ _ _ _ _ _ B).symm)
  · exact eq_of_forall_le_iff fun B => (le_colMin _ _ _ _ _ _ _ B).trans ((and_congr Iff.rfl (hlo B)).trans (le_colMin _ _ _ _ _ _ _ B).symm)
end Mid

section Code
variable {R C : ℕ} (x : FVec Ideal ⟨2, ![R, C]⟩ .f32) (z s : FVec Ideal ⟨2, ![1, C]⟩ .f32) (xs : Elt Ideal .f32)
  (hb : (⟨2, ![1, C]⟩ : Shape).Broadcasts ⟨2, ![R, C]⟩) (r : Fin R) (c : Fin C)

/-- Divided twice, rounded, clipped. -/
def code2 : IVec ⟨2, ![R, C]⟩ 8 :=
  fptosi 8 (minimumf (broadcast ⟨2, ![R, C]⟩ (Scalar.sitofp (F := Ideal) .f32 127#32)) (maximumf (broadcast ⟨2, ![R, C]⟩ (Scalar.sitofp .f32 4294967169#32))
    (roundeven (divf (divf (subf x (broadcastTo ⟨2, ![R, C]⟩ z hb)) (broadcastTo ⟨2, ![R, C]⟩ s hb)) (broadcast ⟨2, ![R, C]⟩ xs)))))

theorem code2_apply : code2 x z s xs hb (ix2 r c) = Ideal.fptosi 8 (clip (Ideal.div (Ideal.div ((x (ix2 r c) : EReal) - z (ix2 0 c)) (s (ix2 0 c))) xs)) := by
  have e : code2 x z s xs hb (ix2 r c) = Ideal.fptosi 8 (min (((127#32 : BitVec 32).toInt : ℝ) : EReal) (max (((4294967169#32 : BitVec 32).toInt : ℝ) : EReal)
      (Ideal.liftRound Ideal.roundHalfEven (Ideal.div (Ideal.div ((x (ix2 r c) : EReal) - broadcastTo ⟨2, ![R, C]⟩ z hb (ix2 r c)) (broadcastTo ⟨2, ![R, C]⟩ s hb (ix2 r c))) xs)))) := rfl
  rw [e, broadcastTo_1b_ab_apply, broadcastTo_1b_ab_apply, show (127#32 : BitVec 32).toInt = 127 by decide, show (4294967169#32 : BitVec 32).toInt = -127 by decide]
  unfold clip
  norm_num

/-- Multiplied by a factor, rounded, clipped. -/
def code1 (inv : FVec Ideal ⟨2, ![1, C]⟩ .f32) : FVec Ideal ⟨2, ![R, C]⟩ .f32 :=
  minimumf (broadcast ⟨2, ![R, C]⟩ (Scalar.ofBits .f32 0x42FE0000#32)) (maximumf (broadcast ⟨2, ![R, C]⟩ (Scalar.ofBits .f32 0xC2FE0000#32))
    (roundeven (mulf (subf x (broadcastTo ⟨2, ![R, C]⟩ z hb)) (broadcastTo ⟨2, ![R, C]⟩ inv hb))))

theorem code1_apply (inv : FVec Ideal ⟨2, ![1, C]⟩ .f32) : code1 x z hb inv (ix2 r c) = clip (((x (ix2 r c) : EReal) - z (ix2 0 c)) * inv (ix2 0 c)) := by
  have e : code1 x z hb inv (ix2 r c) = min (Ideal.ofBits .f32 0x42FE0000#32) (max (Ideal.ofBits .f32 0xC2FE0000#32)
      (Ideal.liftRound Ideal.roundHalfEven (((x (ix2 r c) : EReal) - broadcastTo ⟨2, ![R, C]⟩ z hb (ix2 r c)) * broadcastTo ⟨2, ![R, C]⟩ inv hb (ix2 r c)))) := rfl
  rw [e, broadcastTo_1b_ab_apply, broadcastTo_1b_ab_apply, ofBits_127, ofBits_neg_127]
  rfl

/-- What a column is multiplied by. -/
def recip : FVec Ideal ⟨2, ![1, C]⟩ .f32 :=
  divf (broadcast ⟨2, ![1, C]⟩ (Scalar.ofBits .f32 0x3F800000#32)) (mulf s (broadcast ⟨2, ![1, C]⟩ xs))

theorem recip_apply : recip s xs (ix2 0 c) = Ideal.div 1 ((s (ix2 0 c) : EReal) * xs) := by
  have e : recip s xs (ix2 0 c) = Ideal.div (Ideal.ofBits .f32 0x3F800000#32) ((s (ix2 0 c) : EReal) * xs) := rfl
  rw [e, Ideal.ofBits_one_f32]
end Code

/-- Where neither divisor is zero, one multiplication by the reciprocal of the product is two divisions. -/
theorem mul_recip (v s xs : EReal) (hs : s ≠ 0) (hxs : xs ≠ 0) : v * Ideal.div 1 (s * xs) = Ideal.div (Ideal.div v s) xs := by
  unfold Ideal.div
  rw [if_neg (mul_ne_zero hs hxs), if_neg hxs, if_neg hs, one_mul, EReal.mul_inv, mul_assoc]

section Weights
variable {N G b C : ℕ}

/-- Codes times the group's scale, groups of `b` rows with one scale row each. -/
def deqG (w : IVec ⟨2, ![N, C]⟩ 8) (ws : FVec Ideal ⟨2, ![G, C]⟩ .f32) (h1 : (⟨2, ![N, C]⟩ : Shape).ShapeCasts ⟨3, ![G, b, C]⟩)
    (h2 : (⟨2, ![G, C]⟩ : Shape).ShapeCasts ⟨3, ![G, 1, C]⟩) (h3 : (⟨3, ![G, 1, C]⟩ : Shape).Broadcasts ⟨3, ![G, b, C]⟩)
    (h4 : (⟨3, ![G, b, C]⟩ : Shape).ShapeCasts ⟨2, ![N, C]⟩) (hw : FTy.bits .bf16 < FTy.bits .f32) : FVec Ideal ⟨2, ![N, C]⟩ .bf16 :=
  shapeCast ⟨2, ![N, C]⟩ (mulf (shapeCast ⟨3, ![G, b, C]⟩ (sitofp .bf16 w) h1)
    (broadcastTo ⟨3, ![G, b, C]⟩ (shapeCast ⟨3, ![G, 1, C]⟩ (truncf .bf16 ws hw) h2) h3)) h4

theorem deqG_apply (w : IVec ⟨2, ![N, C]⟩ 8) (ws : FVec Ideal ⟨2, ![G, C]⟩ .f32) (h1 : (⟨2, ![N, C]⟩ : Shape).ShapeCasts ⟨3, ![G, b, C]⟩) (h2) (h3) (h4) (hw) (k : Fin N) (c : Fin C) (g : Fin G) (r : Fin b) (hk : k.val = g.val * b + r.val) :
    deqG (b := b) w ws h1 h2 h3 h4 hw (ix2 k c) = (((w (ix2 k c)).toInt : ℝ) : EReal) * (ws (ix2 g c) : EReal) := by
  unfold deqG
  rw [ungroup_apply _ h4 g r c k hk, mulf_apply, group_apply _ h1 g r c k hk, bcastMid_apply, one_apply]
  rfl

/-- Codes times one scale row, the row spread over the `b` rows of a group. -/
def deqR (w : IVec ⟨2, ![N, C]⟩ 8) (v : FVec Ideal ⟨2, ![1, C]⟩ .f32) (h0 : (⟨2, ![1, C]⟩ : Shape).ShapeCasts ⟨2, ![1, C]⟩)
    (hb : (⟨2, ![1, C]⟩ : Shape).Broadcasts ⟨2, ![b, C]⟩) (h1 : (⟨2, ![N, C]⟩ : Shape).ShapeCasts ⟨3, ![G, b, C]⟩)
    (h2 : (⟨2, ![b, C]⟩ : Shape).ShapeCasts ⟨3, ![1, b, C]⟩) (h3 : (⟨3, ![1, b, C]⟩ : Shape).Broadcasts ⟨3, ![G, b, C]⟩)
    (h4 : (⟨3, ![G, b, C]⟩ : Shape).ShapeCasts ⟨2, ![N, C]⟩) (hw : FTy.bits .bf16 < FTy.bits .f32) : FVec Ideal ⟨2, ![N, C]⟩ .bf16 :=
  shapeCast ⟨2, ![N, C]⟩ (mulf (shapeCast ⟨3, ![G, b, C]⟩ (sitofp .bf16 w) h1)
    (broadcastTo ⟨3, ![G, b, C]⟩ (shapeCast ⟨3, ![1, b, C]⟩ (truncf .bf16 (broadcastTo ⟨2, ![b, C]⟩ (shapeCast ⟨2, ![1, C]⟩ v h0) hb) hw) h2) h3)) h4

theorem deqR_apply (w : IVec ⟨2, ![N, C]⟩ 8) (v : FVec Ideal ⟨2, ![1, C]⟩ .f32) (h0) (hb) (h1 : (⟨2, ![N, C]⟩ : Shape).ShapeCasts ⟨3, ![G, b, C]⟩) (h2) (h3) (h4) (hw) (k : Fin N) (c : Fin C) (g : Fin G) (r : Fin b) (hk : k.val = g.val * b + r.val) :
    deqR (G := G) (b := b) w v h0 hb h1 h2 h3 h4 hw (ix2 k c) = (((w (ix2 k c)).toInt : ℝ) : EReal) * (v (ix2 0 c) : EReal) := by
  unfold deqR
  rw [ungroup_apply _ h4 g r c k hk, mulf_apply, group_apply _ h1 g r c k hk, bcastFst_apply, shapeCast_ab_1ab_apply, truncf_apply, broadcastTo_1b_ab_apply, shapeCast_same]
  rfl
end Weights

section Tail
variable {M K N : ℕ}

/-- A product from zero. -/
theorem prod_apply {φ ψ : FTy} (l : FVec Ideal ⟨2, ![M, K]⟩ φ) (r : FVec Ideal ⟨2, ![K, N]⟩ ψ) (i : Fin M) (j : Fin N) :
    (matmul (F := Ideal) (DotDims.plain M K N) none l r (constant ⟨2, ![M, N]⟩ .f32 0x00000000#32) : FVec Ideal ⟨2, ![M, N]⟩ .f32) (ix2 i j)
      = (∑ k : Fin K, (l (ix2 i k) : EReal) * (r (ix2 k j) : EReal) : EReal) := by
  have h := Ideal.matmul_plain_apply (M := M) (K := K) (N := N) none l r (constant (F := Ideal) ⟨2, ![M, N]⟩ .f32 0x00000000#32) i j
  refine Eq.trans h ?_
  rw [constant_apply, Ideal.ofBits_zero_f32, zero_add]

/-- The rows of the result. -/
def rowsOut (acc : FVec Ideal ⟨2, ![M, N]⟩ .f32) (xs : Elt Ideal .f32) (bc : FVec Ideal ⟨2, ![1, N]⟩ .f32)
    (hb : (⟨2, ![1, N]⟩ : Shape).Broadcasts ⟨2, ![M, N]⟩) (hw : FTy.bits .bf16 < FTy.bits .f32) : FVec Ideal ⟨2, ![M, N]⟩ .bf16 :=
  truncf .bf16 (addf (mulf acc (broadcast ⟨2, ![M, N]⟩ xs)) (broadcastTo ⟨2, ![M, N]⟩ bc hb)) hw

theorem rowsOut_apply (acc : FVec Ideal ⟨2, ![M, N]⟩ .f32) (xs : Elt Ideal .f32) (bc : FVec Ideal ⟨2, ![1, N]⟩ .f32) (hb hw) (i : Fin M) (j : Fin N) :
    rowsOut acc xs bc hb hw (ix2 i j) = (acc (ix2 i j) : EReal) * xs + bc (ix2 0 j) := by
  unfold rowsOut
  rw [truncf_apply, addf_apply, mulf_apply, broadcastTo_1b_ab_apply]
  rfl

/-- The quotient in `M` rows. -/
def quot (z s : FVec Ideal ⟨2, ![1, N]⟩ .f32) (h0 : (⟨2, ![1, N]⟩ : Shape).ShapeCasts ⟨2, ![1, N]⟩)
    (hb : (⟨2, ![1, N]⟩ : Shape).Broadcasts ⟨2, ![M, N]⟩) (hw : FTy.bits .bf16 < FTy.bits .f32) : FVec Ideal ⟨2, ![M, N]⟩ .f32 :=
  broadcastTo ⟨2, ![M, N]⟩ (shapeCast ⟨2, ![1, N]⟩ (extf .f32 (truncf .bf16 (divf z s) hw) hw) h0) hb

theorem quot_apply (z s : FVec Ideal ⟨2, ![1, N]⟩ .f32) (h0) (hb : (⟨2, ![1, N]⟩ : Shape).Broadcasts ⟨2, ![M, N]⟩) (hw) (i : Fin M) (j : Fin N) :
    quot z s h0 hb hw (ix2 i j) = Ideal.div (z (ix2 0 j)) (s (ix2 0 j)) := by
  unfold quot
  rw [broadcastTo_1b_ab_apply, shapeCast_same]
  rfl

/-- The first row of a sum added to a row. -/
def firstRow (b : FVec Ideal ⟨2, ![1, N]⟩ .f32) (c0 c1 : FVec Ideal ⟨2, ![M, N]⟩ .f32) (h : (⟨2, ![M, N]⟩ : Shape).Slices ![0, 0] ⟨2, ![1, N]⟩) : FVec Ideal ⟨2, ![1, N]⟩ .f32 :=
  addf b (extractStridedSlice ⟨2, ![1, N]⟩ ![0, 0] (addf c0 c1) h)

theorem firstRow_apply [NeZero M] (b : FVec Ideal ⟨2, ![1, N]⟩ .f32) (c0 c1 : FVec Ideal ⟨2, ![M, N]⟩ .f32) (h) (j : Fin N) :
    firstRow b c0 c1 h (ix2 0 j) = (b (ix2 0 j) : EReal) + ((c0 (ix2 0 j) : EReal) + c1 (ix2 0 j)) := by
  unfold firstRow
  rw [addf_apply, slice2_axis0_apply 0 _ h _ _ (0 : Fin M) rfl]
  rfl
end Tail

end OsPlus
end
-- ==== Proof.Centre.lean ====
module

public import proofs.«01_k».proof.Proof.Values
public import proofs.«01_k».proof.Proof.RefRun
public import proofs.«01_k».proof.Proof.Read

/-! The centres over the extended reals: the lanes' extrema are the columns' extrema. -/

@[expose] public section

noncomputable section

namespace OsPlus

open Cert.Kernel Cert.Kernel.Gen Idealize.ShloMosaic Idealize.ShloMosaic.TcCoe Idealize.ShloMosaic.ValueIdx

theorem at2_eq (A B r c : ℕ) [NeZero A] [NeZero B] : at2 A B r c = ix2 (Fin.ofNat A r) (Fin.ofNat B c) := by
  funext a
  match a with
  | 0 => rfl
  | 1 => rfl

/-- The entry at natural coordinates inside the bounds. -/
theorem at2_fin (A B r c : ℕ) [NeZero A] [NeZero B] (hr : r < A) (hc : c < B) : at2 A B r c = ix2 ⟨r, hr⟩ ⟨c, hc⟩ := by
  rw [at2_eq]
  congr 1
  · exact Fin.ext (Nat.mod_eq_of_lt hr)
  · exact Fin.ext (Nat.mod_eq_of_lt hc)

theorem blk_ix2 {α : Type} {A B : ℕ} [NeZero A] [NeZero B] (f : (⟨2, ![A, B]⟩ : Shape).Idx → α) (r c : ℕ) {R C : ℕ} (a : Fin R) (b : Fin C) :
    blk f r c (ix2 a b) = f (at2 A B (r + a.val) (c + b.val)) := rfl

theorem glue_ix2 {α : Type} (A B R C : ℕ) [NeZero R] [NeZero C] (f : ℕ → ℕ → (⟨2, ![R, C]⟩ : Shape).Idx → α) (a : Fin A) (b : Fin B) :
    glue A B R C f (ix2 a b) = f (a.val / R) (b.val / C) (ix2 (Fin.ofNat R a.val) (Fin.ofNat C b.val)) := by
  unfold glue; rw [at2_eq]; rfl

namespace Data
variable (d : Data Ideal)

theorem lanes_one (k : ℕ) : d.lanes k 1 = d.lanes k 0 := by unfold lanes; rfl

theorem lanes_succ (k j : ℕ) (h : j ≠ 0) : d.lanes k (j + 1) =
      ⟨![maximumf ((d.lanes k j).hi 0) (d.x16 k (4 * j)), maximumf ((d.lanes k j).hi 1) (d.x16 k (4 * j + 1)), maximumf ((d.lanes k j).hi 2) (d.x16 k (4 * j + 2)), maximumf ((d.lanes k j).hi 3) (d.x16 k (4 * j + 3))],
        ![minimumf ((d.lanes k j).lo 0) (d.x16 k (4 * j)), minimumf ((d.lanes k j).lo 1) (d.x16 k (4 * j + 1)), minimumf ((d.lanes k j).lo 2) (d.x16 k (4 * j + 2)), minimumf ((d.lanes k j).lo 3) (d.x16 k (4 * j + 3))]⟩ := by
  rw [lanes, if_neg h]

theorem hi_le (k j : ℕ) (l : Fin 4) (i : S16x256.Idx) (B : EReal) :
    ((d.lanes k (j + 1)).hi l i : EReal) ≤ B ↔ ∀ t < j + 1, (d.x16 k (4 * t + l.val) i : EReal) ≤ B := by
  induction j with
  | zero =>
    rw [lanes_one]
    simp only [Nat.zero_add, Nat.lt_one_iff, forall_eq]
    match l with
    | 0 => exact Iff.rfl
    | 1 => exact Iff.rfl
    | 2 => exact Iff.rfl
    | 3 => exact Iff.rfl
  | succ j ih =>
    rw [lanes_succ d k (j + 1) (by omega)]
    have step : (∀ t < j + 1 + 1, (d.x16 k (4 * t + l.val) i : EReal) ≤ B)
        ↔ ((d.lanes k (j + 1)).hi l i : EReal) ≤ B ∧ (d.x16 k (4 * (j + 1) + l.val) i : EReal) ≤ B := by
      rw [ih]
      exact ⟨fun h => ⟨fun t ht => h t (by omega), h _ (by omega)⟩, fun h t ht => (Nat.lt_succ_iff_lt_or_eq.mp ht).elim (h.1 t) (fun e => e ▸ h.2)⟩
    rw [step]
    match l with
    | 0 => exact max_le_iff
    | 1 => exact max_le_iff
    | 2 => exact max_le_iff
    | 3 => exact max_le_iff

theorem le_lo (k j : ℕ) (l : Fin 4) (i : S16x256.Idx) (B : EReal) :
    B ≤ ((d.lanes k (j + 1)).lo l i : EReal) ↔ ∀ t < j + 1, B ≤ (d.x16 k (4 * t + l.val) i : EReal) := by
  induction j with
  | zero =>
    rw [lanes_one]
    simp only [Nat.zero_add, Nat.lt_one_iff, forall_eq]
    match l with
    | 0 => exact Iff.rfl
    | 1 => exact Iff.rfl
    | 2 => exact Iff.rfl
    | 3 => exact Iff.rfl
  | succ j ih =>
    rw [lanes_succ d k (j + 1) (by omega)]
    have step : (∀ t < j + 1 + 1, B ≤ (d.x16 k (4 * t + l.val) i : EReal))
        ↔ B ≤ ((d.lanes k (j + 1)).lo l i : EReal) ∧ B ≤ (d.x16 k (4 * (j + 1) + l.val) i : EReal) := by
      rw [ih]
      exact ⟨fun h => ⟨fun t ht => h t (by omega), h _ (by omega)⟩, fun h t ht => (Nat.lt_succ_iff_lt_or_eq.mp ht).elim (h.1 t) (fun e => e ▸ h.2)⟩
    rw [step]
    match l with
    | 0 => exact le_min_iff
    | 1 => exact le_min_iff
    | 2 => exact le_min_iff
    | 3 => exact le_min_iff

/-- Every row is one lane's row of one group. -/
theorem rows_split (P : ℕ → Prop) : (∀ r < 768, P r) ↔ ∀ i < 16, ∀ l < 4, ∀ t < 12, P (16 * (4 * t + l) + i) :=
  ⟨fun h i hi l hl t ht => h _ (by omega), fun h r hr => by
    have := h (r % 16) (by omega) (r / 16 % 4) (by omega) (r / 64) (by omega)
    rwa [show 16 * (4 * (r / 64) + r / 16 % 4) + r % 16 = r by omega] at this⟩

theorem x16_ix2 (k i : ℕ) (a : Fin 16) (c : Fin 256) : (d.x16 k i (ix2 a c) : EReal) = d.x (at2 768 4096 (16 * i + a.val) (256 * k + c.val)) := rfl

/-- The lanes' maxima in one array. -/
def hi4 (s : Lanes Ideal) : FVec Ideal S16x256 .f32 :=
  extf .f32 (maximumf (maximumf (s.hi 0) (s.hi 1)) (maximumf (s.hi 2) (s.hi 3))) bitsLt_bf16_f32
def lo4 (s : Lanes Ideal) : FVec Ideal S16x256 .f32 :=
  extf .f32 (minimumf (minimumf (s.lo 0) (s.lo 1)) (minimumf (s.lo 2) (s.lo 3))) bitsLt_bf16_f32

theorem centre_eq (s : Lanes Ideal) : centre s = range2 (hi4 s) (lo4 s) reduces_S16x256_S256 shapeCasts_S256_S1x256 := rfl

theorem ref_z_eq (x : Vec Ideal S768x4096 .bf16) : Ref.z x = range2 (Cert.ReferenceIdeal.Gen.k0_pay3 x) (Cert.ReferenceIdeal.Gen.k0_pay3 x)
    Cert.ReferenceIdeal.Gen.reduces_S768x4096_S4096 Cert.ReferenceIdeal.Gen.shapeCasts_S4096_S1x4096 := rfl

theorem pay3_apply (x : Vec Ideal S768x4096 .bf16) (r : Fin 768) (c : Fin 4096) : (Cert.ReferenceIdeal.Gen.k0_pay3 x (ix2 r c) : EReal) = x (ix2 r c) := by
  unfold Cert.ReferenceIdeal.Gen.k0_pay3
  rw [extf_apply, shapeCast_same]

theorem hi4_le (s : Lanes Ideal) (i : S16x256.Idx) (B : EReal) : (hi4 s i : EReal) ≤ B ↔ ∀ l : Fin 4, (s.hi l i : EReal) ≤ B := by
  have e : (hi4 s i : EReal) = max (max (s.hi 0 i) (s.hi 1 i)) (max (s.hi 2 i) (s.hi 3 i)) := rfl
  rw [e, max_le_iff, max_le_iff, max_le_iff]
  exact ⟨fun h l => by match l with
    | 0 => exact h.1.1
    | 1 => exact h.1.2
    | 2 => exact h.2.1
    | 3 => exact h.2.2, fun h => ⟨⟨h 0, h 1⟩, h 2, h 3⟩⟩

theorem le_lo4 (s : Lanes Ideal) (i : S16x256.Idx) (B : EReal) : B ≤ (lo4 s i : EReal) ↔ ∀ l : Fin 4, B ≤ (s.lo l i : EReal) := by
  have e : (lo4 s i : EReal) = min (min (s.lo 0 i) (s.lo 1 i)) (min (s.lo 2 i) (s.lo 3 i)) := rfl
  rw [e, le_min_iff, le_min_iff, le_min_iff]
  exact ⟨fun h l => by match l with
    | 0 => exact h.1.1
    | 1 => exact h.1.2
    | 2 => exact h.2.1
    | 3 => exact h.2.2, fun h => ⟨⟨h 0, h 1⟩, h 2, h 3⟩⟩

/-- A statement about all rows of a column, by lane and group. -/
theorem col_iff (k : ℕ) (hk : k < 16) (c : Fin 256) (P : EReal → Prop) :
    (∀ r : Fin 16, ∀ l : Fin 4, ∀ t < 12, P (d.x16 k (4 * t + l.val) (ix2 r c)))
      ↔ ∀ r : Fin 768, P (d.x (ix2 r ⟨256 * k + c.val, by have := c.isLt; omega⟩)) := by
  have hc := c.isLt
  refine Iff.trans ?_ (Iff.trans (rows_split fun r => P (d.x (at2 768 4096 r (256 * k + c.val)))).symm ?_)
  · exact ⟨fun h i hi l hl t ht => h ⟨i, hi⟩ ⟨l, hl⟩ t ht, fun h r l t ht => h r.val r.isLt l.val l.isLt t ht⟩
  · refine ⟨fun h r => ?_, fun h r hr => ?_⟩
    · have := h r.val r.isLt
      rwa [at2_fin 768 4096 r.val (256 * k + c.val) r.isLt (by omega)] at this
    · rw [at2_fin 768 4096 r (256 * k + c.val) hr (by omega)]
      exact h ⟨r, hr⟩

/-- The centre of a column out of the lanes is the reference's. -/
theorem z_eq (k : ℕ) (hk : k < 16) (c : Fin 256) :
    (centre (d.lanes k 12) (ix2 0 c) : EReal) = Ref.z d.x (ix2 0 ⟨256 * k + c.val, by have := c.isLt; omega⟩) := by
  rw [centre_eq, ref_z_eq]
  refine range2_eq _ _ _ _ _ _ _ _ _ _ (fun B => ?_) (fun B => ?_)
  · refine Iff.trans ?_ ((col_iff d k hk c (· ≤ B)).trans (forall_congr' fun r => by rw [pay3_apply]))
    refine forall_congr' fun r => (hi4_le _ _ B).trans (forall_congr' fun l => d.hi_le k 11 l _ B)
  · refine Iff.trans ?_ ((col_iff d k hk c (B ≤ ·)).trans (forall_congr' fun r => by rw [pay3_apply]))
    refine forall_congr' fun r => (le_lo4 _ _ B).trans (forall_congr' fun l => d.le_lo k 11 l _ B)

end Data
end OsPlus
end
-- ==== Proof.Codes.lean ====
module

public import proofs.«01_k».proof.Proof.Centre

/-! The codes, the scaled centres and the weights at an entry, in the kernel and in the reference. -/

@[expose] public section

noncomputable section

namespace OsPlus

open Cert.Kernel Cert.Kernel.Gen Idealize.ShloMosaic Idealize.ShloMosaic.TcCoe Idealize.ShloMosaic.ValueIdx

theorem ix2_at2 {A B : ℕ} [NeZero A] [NeZero B] (r : Fin A) (c : Fin B) : ix2 r c = at2 A B r.val c.val := eq_at2 _ _ _ rfl rfl

theorem ext2 {α : Type} {A B : ℕ} (f g : (⟨2, ![A, B]⟩ : Shape).Idx → α) (h : ∀ (r : Fin A) (c : Fin B), f (ix2 r c) = g (ix2 r c)) : f = g :=
  funext fun i => by rw [eq_ix2 i]; exact h _ _

theorem codes_eq (z inv : FVec Ideal S1x256 .f32) (v : FVec Ideal S32x256 .bf16) :
    codes z inv v = code1 (extf .f32 v bitsLt_bf16_f32) z broadcasts_S1x256_S32x256 inv := rfl
theorem factor_eq (s : FVec Ideal S1x256 .f32) (xs : Elt Ideal .f32) : factor s xs = recip s xs := rfl
theorem scaled_eq (z s : FVec Ideal S1x256 .f32) : scaled z s = quot z s shapeCasts_S1x256_S1x256 broadcasts_S1x256_S8x256 bitsLt_bf16_f32 := rfl
theorem deq_eq (c : Vec Ideal S128x256 .i8) (v : Vec Ideal S1x256 .f32) : deq c v = deqR c v shapeCasts_S1x256_S1x256 broadcasts_S1x256_S16x256 shapeCasts_S128x256_S8x16x256
    shapeCasts_S16x256_S1x16x256 broadcasts_S1x16x256_S8x16x256 shapeCasts_S8x16x256_S128x256 bitsLt_bf16_f32 := rfl

theorem ref_q_eq (x : Vec Ideal S768x4096 .bf16) (s : Vec Ideal S1x4096 .f32) (xs : Vec Ideal S1 .f32) :
    Ref.q x s xs = code2 (Cert.ReferenceIdeal.Gen.k0_pay3 x) (Ref.z x) (shapeCast S1x4096 s Cert.ReferenceIdeal.Gen.shapeCasts_S1x4096_S1x4096) (Ref.xsw xs)
      Cert.ReferenceIdeal.Gen.broadcasts_S1x4096_S768x4096 := rfl
theorem ref_wd_eq (w : Vec Ideal S4096x11008 .i8) (ws : Vec Ideal S32x11008 .f32) : Ref.wd w ws = deqG w ws Cert.ReferenceIdeal.Gen.shapeCasts_S4096x11008_S32x128x11008
    Cert.ReferenceIdeal.Gen.shapeCasts_S32x11008_S32x1x11008 Cert.ReferenceIdeal.Gen.broadcasts_S32x1x11008_S32x128x11008
    Cert.ReferenceIdeal.Gen.shapeCasts_S32x128x11008_S4096x11008 Cert.ReferenceIdeal.Gen.bitsLt_bf16_f32 := rfl

theorem glued_lo (a b : FVec Ideal S128x256 .bf16) (i j : Fin 256) (h : i.val < 128) : glued a b (ix2 i j) = a (ix2 ⟨i.val, h⟩ j) := by
  unfold glued
  refine concatenate_pair_apply_left (t := S256x256) (s₁ := S128x256) (s₂ := S128x256) 0 a b _ (ix2 i j) rfl (ix2 ⟨i.val, h⟩ j) fun e => ?_
  match e with
  | 0 => rfl
  | 1 => rfl
theorem glued_hi (a b : FVec Ideal S128x256 .bf16) (i j : Fin 256) (h : ¬ i.val < 128) :
    glued a b (ix2 i j) = b (ix2 ⟨i.val - 128, by have := i.isLt; omega⟩ j) := by
  unfold glued
  refine concatenate_pair_apply_right (t := S256x256) (s₁ := S128x256) (s₂ := S128x256) 0 a b _ (ix2 i j) rfl rfl (ix2 ⟨i.val - 128, by have := i.isLt; omega⟩ j) (fun e he => ?_) ?_
  · match e with
    | 0 => exact absurd rfl he
    | 1 => rfl
  · show i.val - 128 + 128 = i.val
    omega

namespace Data
variable (d : Data Ideal)

/-- The centre of column `c`. -/
def zv (c : ℕ) : EReal := Ref.z d.x (at2 1 4096 0 c)
def sv (c : ℕ) : EReal := d.s (at2 1 4096 0 c)
/-- The code at row `r` and column `c`. -/
def cv (r c : ℕ) : EReal := clip (Ideal.div (Ideal.div ((d.x (at2 768 4096 r c) : EReal) - d.zv c) (d.sv c)) d.xsw)
/-- The weight at row `k` and column `n`. -/
def wv (k n : ℕ) : EReal := (((d.w (at2 4096 11008 k n)).toInt : ℝ) : EReal) * d.ws (at2 32 11008 (k / 128) n)

theorem zb_apply (k : ℕ) (hk : k < 16) (c : Fin 256) : (d.zb k (ix2 0 c) : EReal) = d.zv (256 * k + c.val) := by
  refine (d.z_eq k hk c).trans ?_
  rw [ix2_at2]; rfl

theorem sb_apply (k : ℕ) (c : Fin 256) : (d.sb k (ix2 0 c) : EReal) = d.sv (256 * k + c.val) := by
  unfold sb sv
  rw [blk_ix2]; rfl

theorem cb_apply (hs : ∀ c, d.sv c ≠ 0) (hxs : (d.xsw : EReal) ≠ 0) (k i : ℕ) (hk : k < 16) (a : Fin 32) (c : Fin 256) :
    (d.cb k i (ix2 a c) : EReal) = d.cv (32 * i + a.val) (256 * k + c.val) := by
  unfold cb
  rw [codes_eq, factor_eq, code1_apply, recip_apply, sb_apply, zb_apply _ _ hk, mul_recip _ _ _ (hs _) hxs, extf_apply, blk_ix2]
  rfl

theorem qbT_apply (hs : ∀ c, d.sv c ≠ 0) (hxs : (d.xsw : EReal) ≠ 0) (r : Fin 768) (c : Fin 4096) : (d.qbT (ix2 r c) : EReal) = d.cv r.val c.val := by
  unfold qbT
  rw [glue_ix2, shapeCast_same, truncf_apply, cb_apply d hs hxs _ _ (by have := c.isLt; omega)]
  congr 1
  · exact Nat.div_add_mod _ _
  · exact Nat.div_add_mod _ _

theorem qT_apply (hs : ∀ c, d.sv c ≠ 0) (hxs : (d.xsw : EReal) ≠ 0) (r : Fin 768) (c : Fin 4096) : d.qT (ix2 r c) = Ideal.fptosi 8 (d.cv r.val c.val) := by
  unfold qT
  rw [glue_ix2, shapeCast_same]
  refine congrArg (Ideal.fptosi 8) ((cb_apply d hs hxs _ _ (by have := c.isLt; omega) _ _).trans ?_)
  congr 1
  · exact Nat.div_add_mod _ _
  · exact Nat.div_add_mod _ _

theorem ref_q_apply (r : Fin 768) (c : Fin 4096) : Ref.q d.x d.s d.xs (ix2 r c) = Ideal.fptosi 8 (d.cv r.val c.val) := by
  rw [ref_q_eq, code2_apply, pay3_apply, shapeCast_same, ix2_at2, ix2_at2]
  rfl

theorem zT_eq : d.zT = Ref.z d.x := by
  refine ext2 (A := 1) (B := 4096) _ _ fun r c => ?_
  have hc := c.isLt
  unfold zT
  rw [glue_ix2, shapeCast_same, Subsingleton.elim r 0]
  refine (d.zb_apply _ (by omega) _).trans ?_
  rw [ix2_at2]
  unfold zv
  congr 2
  exact Nat.div_add_mod _ _

theorem qT_eq (hs : ∀ c, d.sv c ≠ 0) (hxs : (d.xsw : EReal) ≠ 0) : d.qT = Ref.q d.x d.s d.xs :=
  ext2 (A := 768) (B := 4096) _ _ fun r c => (d.qT_apply hs hxs r c).trans (d.ref_q_apply r c).symm

/-- The scaled centre of column `c`. -/
def uv (c : ℕ) : EReal := Ideal.div (d.zv c) (d.sv c)

theorem uT_apply (i : Fin 8) (c : Fin 4096) : (d.uT (ix2 i c) : EReal) = d.uv c.val := by
  unfold uT
  rw [glue_ix2, shapeCast_same, scaled_eq, quot_apply, zb_apply _ _ (by have := c.isLt; omega), sb_apply]
  unfold uv
  have e : 256 * (c.val / 256) + (Fin.ofNat 256 c.val).val = c.val := Nat.div_add_mod _ _
  rw [e]

theorem ref_u_apply (c : Fin 4096) : (Ref.u d.x d.s (ix2 0 c) : EReal) = d.uv c.val := by
  have e : (Ref.u d.x d.s (ix2 0 c) : EReal) = Ideal.div (Ref.z d.x (ix2 0 c)) (shapeCast S1x4096 d.s Cert.ReferenceIdeal.Gen.shapeCasts_S1x4096_S1x4096 (ix2 0 c)) := rfl
  rw [e, shapeCast_same, ix2_at2]
  rfl

theorem deq_blk (k g n : ℕ) (hk : k % 128 = 0) (hg : g = k / 128) (i : Fin 128) (j : Fin 256) :
    (deq (F := Ideal) (blk d.w k (256 * n)) (blk d.ws g (256 * n)) (ix2 i j) : EReal) = d.wv (k + i.val) (256 * n + j.val) := by
  have hi := i.isLt
  rw [deq_eq, deqR_apply _ _ _ _ _ _ _ _ _ i j ⟨i.val / 16, by omega⟩ ⟨i.val % 16, by omega⟩ (by show i.val = i.val / 16 * 16 + i.val % 16; omega), blk_ix2, blk_ix2]
  unfold wv
  rw [hg, show (k + i.val) / 128 = k / 128 by omega]
  rfl

theorem tile_apply (n k : ℕ) (i j : Fin 256) : (d.tile n k (ix2 i j) : EReal) = d.wv (256 * k + i.val) (256 * n + j.val) := by
  have hi := i.isLt
  unfold tile
  by_cases h : i.val < 128
  · rw [glued_lo _ _ i j h, deq_blk d _ _ _ (by omega) (by omega)]
    congr 1
    show 128 * (2 * k) + i.val = _
    omega
  · rw [glued_hi _ _ i j h, deq_blk d _ _ _ (by omega) (by omega)]
    congr 1
    show 128 * (2 * k + 1) + (i.val - 128) = _
    omega

theorem ref_wd_apply (k : Fin 4096) (n : Fin 11008) : (Ref.wd d.w d.ws (ix2 k n) : EReal) = d.wv k.val n.val := by
  have hk := k.isLt
  rw [ref_wd_eq, deqG_apply _ _ _ _ _ _ _ k n ⟨k.val / 128, by omega⟩ ⟨k.val % 128, by omega⟩ (by show k.val = k.val / 128 * 128 + k.val % 128; omega), ix2_at2, ix2_at2]
  rfl

end Data
end OsPlus
end
-- ==== Proof.Equal.lean ====
module

public import proofs.«01_k».proof.Proof.Codes
public import proofs.«01_k».proof.Proof.Value

/-! The products, summed tile by tile, are the reference's products. -/

@[expose] public section

noncomputable section

namespace OsPlus

open Cert.Kernel Cert.Kernel.Gen Idealize.ShloMosaic Idealize.ShloMosaic.TcCoe Idealize.ShloMosaic.ValueIdx

/-- An accumulator at an entry; an unwritten one counts as zero. -/
def accAt {p : Fin 4} (o : Option (FVec Ideal ⟨2, ![sz p, 256]⟩ .f32)) (i : (⟨2, ![sz p, 256]⟩ : Shape).Idx) : EReal :=
  match o with
  | none => 0
  | some f => f i

theorem accAt_dep {p : Fin 4} (o x : Option (FVec Ideal ⟨2, ![sz p, 256]⟩ .f32)) (i : (⟨2, ![sz p, 256]⟩ : Shape).Idx) :
    accAt (dep o x) i = accAt o i + accAt x i := by
  cases x <;> cases o <;> simp [dep, accAt, addf_apply]

theorem pay7_eq (x : Vec Ideal S768x4096 .bf16) (s : Vec Ideal S1x4096 .f32) (xs : Vec Ideal S1 .f32) (w : Vec Ideal S4096x11008 .i8) (ws : Vec Ideal S32x11008 .f32) :
    Cert.ReferenceIdeal.Gen.k0_pay7 x s (Ref.xsw xs) w ws
      = matmul (F := Ideal) (DotDims.plain 768 4096 11008) none (sitofp .bf16 (Ref.q x s xs)) (Ref.wd w ws) (constant ⟨2, ![768, 11008]⟩ .f32 0x00000000#32) := rfl

theorem ref_bc_eq (x : Vec Ideal S768x4096 .bf16) (s : Vec Ideal S1x4096 .f32) (w : Vec Ideal S4096x11008 .i8) (ws : Vec Ideal S32x11008 .f32) (b : Vec Ideal S1x11008 .f32) :
    Ref.bc x s w ws b = addf (shapeCast S1x11008 b Cert.ReferenceIdeal.Gen.shapeCasts_S1x11008_S1x11008)
      (matmul (F := Ideal) (DotDims.plain 1 4096 11008) none (Ref.u x s) (Ref.wd w ws) (constant ⟨2, ![1, 11008]⟩ .f32 0x00000000#32)) := rfl

theorem ref_y_eq (x : Vec Ideal S768x4096 .bf16) (s : Vec Ideal S1x4096 .f32) (xs : Vec Ideal S1 .f32) (w : Vec Ideal S4096x11008 .i8) (ws : Vec Ideal S32x11008 .f32) (b : Vec Ideal S1x11008 .f32) :
    Ref.y x s xs w ws b = rowsOut (Cert.ReferenceIdeal.Gen.k0_pay7 x s (Ref.xsw xs) w ws) (Ref.xsw xs) (Ref.bc x s w ws b)
      Cert.ReferenceIdeal.Gen.broadcasts_S1x11008_S768x11008 Cert.ReferenceIdeal.Gen.bitsLt_bf16_f32 := rfl

theorem corrected_eq (b : FVec Ideal S1x256 .f32) (c0 c1 : FVec Ideal S8x256 .f32) : corrected b c0 c1 = firstRow b c0 c1 slices_S8x256_o0_0_S1x256 := rfl
theorem outRows_eq (acc : FVec Ideal S128x256 .f32) (xs : Elt Ideal .f32) (bc : FVec Ideal S1x256 .f32) :
    outRows acc xs bc = rowsOut acc xs bc broadcasts_S1x256_S128x256 bitsLt_bf16_f32 := rfl

namespace Data
variable (d : Data Ideal)

/-- The product at row `r` and column `n`. -/
def pv (r n : ℕ) : EReal := ∑ k ∈ Finset.range 4096, d.cv r k * d.wv k n
/-- The correction at column `n`. -/
def gv (n : ℕ) : EReal := ∑ k ∈ Finset.range 4096, d.uv k * d.wv k n
def bv (n : ℕ) : EReal := d.b (at2 1 11008 0 n)

theorem accAt_acc (n j : ℕ) (q : Fin 2) (p : Fin 4) (i : (⟨2, ![sz p, 256]⟩ : Shape).Idx) :
    accAt (d.acc n j q p) i = ∑ t ∈ Finset.range j, accAt (d.prod n t q p) i := by
  induction j with
  | zero => rfl
  | succ j ih => rw [acc_succ, accAt_dep, ih, Finset.sum_range_succ]

theorem fin_apply (n : ℕ) (q : Fin 2) (p : Fin 4) (i : (⟨2, ![sz p, 256]⟩ : Shape).Idx) :
    (d.fin n q p i : EReal) = ∑ t ∈ Finset.range 16, accAt (d.prod n t q p) i := by
  rw [← accAt_acc, acc_fin]; rfl

theorem qa_apply (hs : ∀ c, d.sv c ≠ 0) (hxs : (d.xsw : EReal) ≠ 0) (k m p : ℕ) (hk : k < 16) (hm : m < 2) (hp : p < 3) (i : Fin 128) (j : Fin 256) :
    (d.qa k m p (ix2 i j) : EReal) = d.cv (384 * m + 128 * p + i.val) (256 * k + j.val) := by
  have hi := i.isLt
  have hj := j.isLt
  unfold qa
  rw [blk_ix2, at2_fin 768 4096 (384 * m + 128 * p + i.val) (256 * k + j.val) (by omega) (by omega), qbT_apply d hs hxs]

theorem ub_apply (k : ℕ) (hk : k < 16) (i : Fin 8) (j : Fin 256) : (d.ub k (ix2 i j) : EReal) = d.uv (256 * k + j.val) := by
  have hi := i.isLt
  have hj := j.isLt
  unfold ub
  rw [blk_ix2, at2_fin 8 4096 (0 + i.val) (256 * k + j.val) (by omega) (by omega), uT_apply]

theorem pass_apply (hs : ∀ c, d.sv c ≠ 0) (hxs : (d.xsw : EReal) ≠ 0) (n k m p : ℕ) (hk : k < 16) (hm : m < 2) (hp : p < 3) (i : Fin 128) (j : Fin 256) :
    ((FloatOps.mxuPass (F := Ideal) (DotDims.plain 128 256 256) (d.qa k m p) (d.tile n k) : FVec Ideal ⟨2, ![128, 256]⟩ .f32) (ix2 i j) : EReal)
      = ∑ e ∈ Finset.range 256, d.cv (384 * m + 128 * p + i.val) (256 * k + e) * d.wv (256 * k + e) (256 * n + j.val) := by
  rw [Finset.sum_range]
  refine (mxuPass_apply _ _ i j).trans (Finset.sum_congr rfl fun e _ => ?_)
  rw [qa_apply d hs hxs k m p hk hm hp, tile_apply]

theorem passU_apply (n k : ℕ) (hk : k < 16) (i : Fin 8) (j : Fin 256) :
    ((FloatOps.mxuPass (F := Ideal) (DotDims.plain 8 256 256) (d.ub k) (d.tile n k) : FVec Ideal ⟨2, ![8, 256]⟩ .f32) (ix2 i j) : EReal)
      = ∑ e ∈ Finset.range 256, d.uv (256 * k + e) * d.wv (256 * k + e) (256 * n + j.val) := by
  rw [Finset.sum_range]
  refine (mxuPass_apply _ _ i j).trans (Finset.sum_congr rfl fun e _ => ?_)
  rw [ub_apply d k hk, tile_apply]

theorem finRow_apply (hs : ∀ c, d.sv c ≠ 0) (hxs : (d.xsw : EReal) ≠ 0) (n : ℕ) (m : Fin 2) (p : ℕ) (hp : p < 3) (i : Fin 128) (j : Fin 256) :
    (d.finRow n m p (ix2 i j) : EReal) = d.pv (384 * m.val + 128 * p + i.val) (256 * n + j.val) := by
  unfold pv
  refine Eq.trans ?_ (sum_groups _ 16 256).symm
  match p, hp with
  | 0, _ => exact (d.fin_apply n m 0 (ix2 i j)).trans (Finset.sum_congr rfl fun k hk => pass_apply d hs hxs n k m.val 0 (Finset.mem_range.mp hk) m.isLt (by omega) i j)
  | 1, _ => exact (d.fin_apply n m 1 (ix2 i j)).trans (Finset.sum_congr rfl fun k hk => pass_apply d hs hxs n k m.val 1 (Finset.mem_range.mp hk) m.isLt (by omega) i j)
  | 2, _ => exact (d.fin_apply n m 2 (ix2 i j)).trans (Finset.sum_congr rfl fun k hk => pass_apply d hs hxs n k m.val 2 (Finset.mem_range.mp hk) m.isLt (by omega) i j)

/-- The correction's tiles go to the units in turn. -/
theorem prodU (n k : ℕ) (i : (⟨2, ![sz 3, 256]⟩ : Shape).Idx) : accAt (d.prod n k 0 3) i + accAt (d.prod n k 1 3) i
    = (FloatOps.mxuPass (F := Ideal) (DotDims.plain 8 256 256) (d.ub k) (d.tile n k) : FVec Ideal ⟨2, ![8, 256]⟩ .f32) i := by
  have yes : ∀ q : Fin 2, q.val = k % 2 → d.prod n k q 3 = some (FloatOps.mxuPass (F := Ideal) (DotDims.plain 8 256 256) (d.ub k) (d.tile n k)) := fun _ h => if_pos h
  have no : ∀ q : Fin 2, ¬ q.val = k % 2 → d.prod n k q 3 = none := fun _ h => if_neg h
  rcases Nat.mod_two_eq_zero_or_one k with h | h
  · rw [yes 0 h.symm, no 1 (by rw [h]; decide)]
    exact add_zero _
  · rw [yes 1 h.symm, no 0 (by rw [h]; decide)]
    exact zero_add _

theorem bcb_apply (n : ℕ) (j : Fin 256) : (d.bcb n (ix2 0 j) : EReal) = d.bv (256 * n + j.val) + d.gv (256 * n + j.val) := by
  refine (firstRow_apply (M := 8) (N := 256) (blk d.b 0 (256 * n)) (d.fin n 0 3) (d.fin n 1 3) slices_S8x256_o0_0_S1x256 j).trans ?_
  rw [blk_ix2]
  refine congrArg₂ (fun a b : EReal => a + b) rfl ?_
  unfold gv
  refine Eq.trans ?_ (sum_groups _ 16 256).symm
  refine (congrArg₂ (fun a b : EReal => a + b) (d.fin_apply n 0 3 (ix2 (0 : Fin 8) j)) (d.fin_apply n 1 3 (ix2 (0 : Fin 8) j))).trans ?_
  rw [← Finset.sum_add_distrib]
  exact Finset.sum_congr rfl fun k hk => (d.prodU n k (ix2 (0 : Fin 8) j)).trans (d.passU_apply n k (Finset.mem_range.mp hk) 0 j)

theorem ref_bc_apply (n : Fin 11008) : (Ref.bc d.x d.s d.w d.ws d.b (ix2 0 n) : EReal) = d.bv n.val + d.gv n.val := by
  rw [ref_bc_eq, addf_apply, shapeCast_same, prod_apply]
  unfold gv
  rw [Finset.sum_range, ix2_at2]
  refine congrArg₂ (fun a b : EReal => a + b) rfl (Finset.sum_congr rfl fun k _ => ?_)
  rw [ref_u_apply, ref_wd_apply]

theorem bcT_eq : d.bcT = Ref.bc d.x d.s d.w d.ws d.b := by
  refine ext2 (A := 1) (B := 11008) _ _ fun r n => ?_
  rw [Subsingleton.elim r 0, ref_bc_apply]
  unfold bcT
  rw [glue_ix2, shapeCast_same]
  refine (d.bcb_apply _ _).trans ?_
  rw [show 256 * (n.val / 256) + (Fin.ofNat 256 n.val).val = n.val from Nat.div_add_mod _ _]

theorem ref_y_apply (r : Fin 768) (n : Fin 11008) :
    (Ref.y d.x d.s d.xs d.w d.ws d.b (ix2 r n) : EReal) = d.pv r.val n.val * d.xsw + (d.bv n.val + d.gv n.val) := by
  rw [ref_y_eq, rowsOut_apply, ref_bc_apply, pay7_eq, prod_apply]
  unfold pv
  rw [Finset.sum_range]
  refine congrArg₂ (fun a b : EReal => a + b) (congrArg₂ (fun a b : EReal => a * b) (Finset.sum_congr rfl fun k _ => ?_) rfl) rfl
  rw [ref_wd_apply, sitofp_apply, ref_q_apply]
  refine congrArg (fun a : EReal => a * d.wv k.val n.val) ?_
  exact clip_code _

theorem yT_eq (hs : ∀ c, d.sv c ≠ 0) (hxs : (d.xsw : EReal) ≠ 0) : d.yT = Ref.y d.x d.s d.xs d.w d.ws d.b := by
  refine ext2 (A := 768) (B := 11008) _ _ fun r n => ?_
  have hr := r.isLt
  rw [ref_y_apply]
  unfold yT
  rw [glue_ix2]
  unfold yb
  rw [shapeCast_same, outRows_eq, rowsOut_apply, finRow_apply d hs hxs _ _ _ (by omega), bcb_apply]
  rw [show 256 * (n.val / 256) + (Fin.ofNat 256 n.val).val = n.val from Nat.div_add_mod _ _]
  have e : 384 * (Fin.ofNat 2 (r.val / 128 / 3)).val + 128 * (r.val / 128 % 3) + (Fin.ofNat 128 r.val).val = r.val := by
    show 384 * (r.val / 128 / 3 % 2) + 128 * (r.val / 128 % 3) + r.val % 128 = r.val
    omega
  rw [e]

end Data

/-! ## The results as functions of the arguments -/

section
variable (a0 : Vec Ideal S2x384x4096 .bf16) (a1 : Vec Ideal S4096 .f32) (a2 : Vec Ideal S1 .f32) (a3 : Vec Ideal S4096x11008 .i8) (a4 : Vec Ideal S32x11008 .f32)
  (a5 : Vec Ideal S11008 .f32)

theorem sv_ne (hs : ∀ i, (a1 i : EReal) ≠ 0) (c : ℕ) : (Data.of a0 a1 a2 a3 a4 a5).sv c ≠ 0 := by
  unfold Data.sv Data.of
  dsimp only
  rw [at2_eq, Subsingleton.elim (Fin.ofNat 1 0) 0, shapeCast_a_1a_apply]
  exact hs _

theorem xsw_ne (hxs : ∀ i, (a2 i : EReal) ≠ 0) : ((Data.of a0 a1 a2 a3 a4 a5).xsw : EReal) ≠ 0 := hxs _

variable (hs : ∀ i, (a1 i : EReal) ≠ 0) (hxs : ∀ i, (a2 i : EReal) ≠ 0)
include hs hxs

theorem res4_eq : Ref.res4 a0 a1 a2 a3 a4 a5 = shapeCast S2x384x11008 (Data.of a0 a1 a2 a3 a4 a5).yT shapeCasts_S768x11008_S2x384x11008 := by
  rw [Data.yT_eq _ (sv_ne a0 a1 a2 a3 a4 a5 hs) (xsw_ne a0 a1 a2 a3 a4 a5 hxs)]
  rfl
theorem res7_eq : Ref.res7 a0 a1 a2 = shapeCast S2x384x4096 (Data.of a0 a1 a2 a3 a4 a5).qT shapeCasts_S768x4096_S2x384x4096 := by
  rw [Data.qT_eq _ (sv_ne a0 a1 a2 a3 a4 a5 hs) (xsw_ne a0 a1 a2 a3 a4 a5 hxs)]
  rfl
omit hs hxs
theorem res5_eq : Ref.res5 a0 a1 a3 a4 a5 = shapeCast S11008 (Data.of a0 a1 a2 a3 a4 a5).bcT shapeCasts_S1x11008_S11008 := by
  rw [Data.bcT_eq]
  rfl
theorem res6_eq : Ref.res6 a0 = shapeCast S4096 (Data.of a0 a1 a2 a3 a4 a5).zT shapeCasts_S1x4096_S4096 := by
  rw [Data.zT_eq]
  rfl
end

end OsPlus
end
-- ==== Proof.lean ====
module

public import proofs.«01_k».proof.Defs
public import proofs.«01_k».proof.Proof.IdealRun
public import proofs.«01_k».proof.Proof.Value
public import proofs.«01_k».proof.Proof.Equal
public import proofs.«01_k».proof.Proof.Gen.Kernel
public import proofs.«01_k».proof.Proof.Gen.KernelIdeal
public import proofs.«01_k».proof.Proof.Gen.ReferenceIdeal.Frame

/-! The claims. -/

@[expose] public section

noncomputable section

namespace Cert.Proof

open Idealize.ShloMosaic Idealize.SL.Sem

theorem frame_kernel : Cert.quiescent_Kernel (hKernel := Cert.Kernel.Gen.facts) :=
  fun m g _ => OsPlus.frame_t (F := Bits) m g

theorem frame_ideal : Cert.quiescent_KernelIdeal (hKernelIdeal := Cert.KernelIdeal.Gen.facts) := fun m g _ => by
  have h := OsPlus.frame_t (F := Ideal) m g
  rw [OsPlus.run_ideal m] at h
  exact h

theorem pre_facts : Cert.Pre_nonzero.Facts where
  bcast_S_S4096 := by decide
  bcast_S_S1 := by decide

/-- What the precondition says of one element. -/
theorem ne_of_cmp {x : EReal} (h : (BitVec.ofBool (decide (x ≠ Ideal.ofBits .f32 0x00000000#32)) : BitVec 1) = 1#1) : x ≠ 0 := by
  rw [Ideal.ofBits_zero_f32] at h
  intro e
  rw [e] at h
  simp at h

theorem algebraic : Cert.algebraic_KernelIdeal_ReferenceIdeal_pre_nonzero (hKernelIdeal := Cert.KernelIdeal.Gen.facts) (hReferenceIdeal := Cert.ReferenceIdeal.Gen.facts)
    (hPre_nonzero := pre_facts) := by
  intro m g m' g' hpre hargs
  have hs : ∀ (c : Dev Cert.Kernel.nD) (i : Cert.Kernel.S4096.Idx), @Ne EReal (m ((c.tc : Thread Cert.Kernel.nD Cert.Kernel.τ).loc Cert.Kernel.main_arg1) i) 0 :=
    fun c i => ne_of_cmp (congrFun (hpre c).1 i)
  have hxs : ∀ (c : Dev Cert.Kernel.nD) (i : Cert.Kernel.S1.Idx), @Ne EReal (m ((c.tc : Thread Cert.Kernel.nD Cert.Kernel.τ).loc Cert.Kernel.main_arg2) i) 0 :=
    fun c i => ne_of_cmp (congrFun (hpre c).2 i)
  have hK := OsPlus.run_value (F := Ideal) m g
  rw [OsPlus.run_ideal m] at hK
  refine ⟨_, _, _, _, _, hK, ?_⟩
  refine (θ_run Cert.ReferenceIdeal.defs _ _).mono (fun r h c => ?_) (OsPlus.Ref.run_value (F := Ideal) m' g')
  obtain ⟨h4, h5, h6, h7, h3, hk⟩ := h c
  obtain ⟨e0, e1, e2, e3, e4, e5⟩ := hargs c
  unfold OsPlus.Ref.arg0 OsPlus.Ref.arg1 OsPlus.Ref.arg2 OsPlus.Ref.arg3 OsPlus.Ref.arg4 OsPlus.Ref.arg5 at h4
  unfold OsPlus.Ref.arg0 OsPlus.Ref.arg1 OsPlus.Ref.arg3 OsPlus.Ref.arg4 OsPlus.Ref.arg5 at h5
  unfold OsPlus.Ref.arg0 at h6
  unfold OsPlus.Ref.arg0 OsPlus.Ref.arg1 OsPlus.Ref.arg2 at h7
  unfold OsPlus.Ref.arg2 at h3
  rw [e0, e1, e2, e3, e4, e5] at h4
  rw [e0, e1, e3, e4, e5] at h5
  rw [e0] at h6
  rw [e0, e1, e2] at h7
  rw [e2] at h3
  exact ⟨h4.trans (OsPlus.res4_eq _ _ _ _ _ _ (hs c) (hxs c)), h5.trans (OsPlus.res5_eq _ _ _ _ _ _), h6.trans (OsPlus.res6_eq _ _ _ _ _ _),
    h7.trans (OsPlus.res7_eq _ _ _ _ _ _ (hs c) (hxs c)), h3, hk⟩

theorem claim : Cert.Claim :=
  ⟨Cert.Kernel.Gen.facts, Cert.KernelIdeal.Gen.facts, Cert.ReferenceIdeal.Gen.facts, pre_facts, frame_kernel, frame_ideal, fun m g _ => frame_ideal m g trivial,
    fun m g _ => Cert.ReferenceIdeal.Gen.frame m g, fun m g _ => Cert.ReferenceIdeal.Gen.frame m g, trivial, algebraic⟩

end Cert.Proof

end
